-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8x128 : Shape := ⟨3, ![256, 8, 128]⟩
abbrev S1 : Shape := ⟨1, ![1]⟩
abbrev S2048x128 : Shape := ⟨2, ![2048, 128]⟩
abbrev S_ : Shape := ⟨0, ![]⟩
abbrev S50 : Shape := ⟨1, ![50]⟩
abbrev S51 : Shape := ⟨1, ![51]⟩
abbrev S49 : Shape := ⟨1, ![49]⟩
abbrev S14 : Shape := ⟨1, ![14]⟩
abbrev S64 : Shape := ⟨1, ![64]⟩
abbrev S16x4096 : Shape := ⟨2, ![16, 4096]⟩
abbrev S2048x144 : Shape := ⟨2, ![2048, 144]⟩
abbrev S2048x4096 : Shape := ⟨2, ![2048, 4096]⟩
abbrev S64x128 : Shape := ⟨2, ![64, 128]⟩
abbrev S64x144 : Shape := ⟨2, ![64, 144]⟩
abbrev S32 : Shape := ⟨1, ![32]⟩
abbrev S16 : Shape := ⟨1, ![16]⟩
abbrev S1x16 : Shape := ⟨2, ![1, 16]⟩
abbrev S2048x64x64 : Shape := ⟨3, ![2048, 64, 64]⟩
abbrev S2048x128x128 : Shape := ⟨3, ![2048, 128, 128]⟩
abbrev S32x128 : Shape := ⟨2, ![32, 128]⟩
abbrev S32x64x64 : Shape := ⟨3, ![32, 64, 64]⟩
abbrev S32x128x128 : Shape := ⟨3, ![32, 128, 128]⟩
abbrev S1x128 : Shape := ⟨2, ![1, 128]⟩
abbrev S1x64x64 : Shape := ⟨3, ![1, 64, 64]⟩
abbrev S64x64 : Shape := ⟨2, ![64, 64]⟩
abbrev S128x64 : Shape := ⟨2, ![128, 64]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S256x8x128x128 : Shape := ⟨4, ![256, 8, 128, 128]⟩

abbrev nBuf : Table → Nat
  | .hbm => 38
  | .local .tc .vmem => 6
  | .local .scVector .vmem => 5
  | _ => 0

abbrev bufTy : (tb : Table) → Fin (nBuf tb) → BufTy
  | .hbm, ⟨0, _⟩ => ⟨S256x8x128, .f32⟩
  | .hbm, ⟨1, _⟩ => ⟨S1, .f32⟩
  | .hbm, ⟨2, _⟩ => ⟨S2048x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S50, .f32⟩
  | .hbm, ⟨11, _⟩ => ⟨S_, .f32⟩
  | .hbm, ⟨12, _⟩ => ⟨S50, .f32⟩
  | .hbm, ⟨13, _⟩ => ⟨S50, .f32⟩
  | .hbm, ⟨14, _⟩ => ⟨S1, .f32⟩
  | .hbm, ⟨15, _⟩ => ⟨S_, .f32⟩
  | .hbm, ⟨16, _⟩ => ⟨S50, .f32⟩
  | .hbm, ⟨17, _⟩ => ⟨S50, .f32⟩
  | .hbm, ⟨18, _⟩ => ⟨S50, .f32⟩
  | .hbm, ⟨19, _⟩ => ⟨S50, .f32⟩
  | .hbm, ⟨20, _⟩ => ⟨S1, .f32⟩
  | .hbm, ⟨21, _⟩ => ⟨S50, .f32⟩
  | .hbm, ⟨22, _⟩ => ⟨S50, .f32⟩
  | .hbm, ⟨23, _⟩ => ⟨S50, .f32⟩
  | .hbm, ⟨24, _⟩ => ⟨S1, .f32⟩
  | .hbm, ⟨25, _⟩ => ⟨S51, .f32⟩
  | .hbm, ⟨26, _⟩ => ⟨S49, .f32⟩
  | .hbm, ⟨27, _⟩ => ⟨S_, .f32⟩
  | .hbm, ⟨28, _⟩ => ⟨S14, .f32⟩
  | .hbm, ⟨29, _⟩ => ⟨S64, .f32⟩
  | .hbm, ⟨30, _⟩ => ⟨S_, .f32⟩
  | .hbm, ⟨31, _⟩ => ⟨S16x4096, .f32⟩
  | .hbm, ⟨32, _⟩ => ⟨S2048x144, .i32⟩
  | .hbm, ⟨33, _⟩ => ⟨S2048x4096, .f32⟩
  | .hbm, ⟨34, _⟩ => ⟨S2048x128, .i32⟩
  | .hbm, ⟨35, _⟩ => ⟨S2048x64x64, .f32⟩
  | .hbm, ⟨36, _⟩ => ⟨S2048x128x128, .f32⟩
  | .hbm, ⟨37, _⟩ => ⟨S256x8x128x128, .f32⟩
  | .local .tc .vmem, ⟨0, _⟩ => ⟨S32x128, .i32⟩
  | .local .tc .vmem, ⟨1, _⟩ => ⟨S32x128, .i32⟩
  | .local .tc .vmem, ⟨2, _⟩ => ⟨S32x64x64, .f32⟩
  | .local .tc .vmem, ⟨3, _⟩ => ⟨S32x64x64, .f32⟩
  | .local .tc .vmem, ⟨4, _⟩ => ⟨S32x128x128, .f32⟩
  | .local .tc .vmem, ⟨5, _⟩ => ⟨S32x128x128, .f32⟩
  | .local .scVector .vmem, ⟨0, _⟩ => ⟨S64x128, .f32⟩
  | .local .scVector .vmem, ⟨1, _⟩ => ⟨S64x144, .i32⟩
  | .local .scVector .vmem, ⟨2, _⟩ => ⟨S16x4096, .f32⟩
  | .local .scVector .vmem, ⟨3, _⟩ => ⟨S64, .f32⟩
  | .local .scVector .vmem, ⟨4, _⟩ => ⟨S32, .f32⟩
  | _, _ => ⟨S256x8x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_v4 : Ref sig .tc := ⟨.hbm, 29, rfl⟩
abbrev main_cst_3 : Ref sig .tc := ⟨.hbm, 30, rfl⟩
abbrev main_v5 : Ref sig .tc := ⟨.hbm, 31, rfl⟩
abbrev main_v6_0 : Ref sig .tc := ⟨.hbm, 32, rfl⟩
abbrev main_v6_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v0_scv : Ref sig .scVector := ⟨.hbm, 2, rfl⟩
abbrev main_v4_scv : Ref sig .scVector := ⟨.hbm, 29, rfl⟩
abbrev main_v5_scv : Ref sig .scVector := ⟨.hbm, 31, rfl⟩
abbrev main_v6_0_scv : Ref sig .scVector := ⟨.hbm, 32, rfl⟩
abbrev main_v6_1_scv : Ref sig .scVector := ⟨.hbm, 33, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_2_r1 : BitVec 32 := 0#32
  ![v2.toNat, 0]
@[reducible] def k0_t1_loop : Scf.Loop 32 :=
  let c0_i32_0 : BitVec 32 := 0#32
  let c4_i32 : BitVec 32 := 4#32
  let v6 : BitVec 32 := Scalar.addi c0_i32_0 c4_i32
  let c1_i32 : BitVec 32 := 1#32
  ⟨c0_i32_0, v6, c1_i32⟩
@[reducible] def k0_t2_loop : Scf.Loop 32 :=
  let c0_i32_3 : BitVec 32 := 0#32
  let c16_i32 : BitVec 32 := 16#32
  let v7 : BitVec 32 := Scalar.addi c0_i32_3 c16_i32
  let c1_i32_4 : BitVec 32 := 1#32
  ⟨c0_i32_3, v7, c1_i32_4⟩
def k0_off2 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v13 : Index := Scalar.indexCast v12
  let c0 : Index := 0#32
  ![v13.toNat, 0]
def k0_off3 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v15 : Index := Scalar.indexCast v12
  let c16 : Index := 16#32
  ![v15.toNat, 16]
def k0_off4 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v17 : Index := Scalar.indexCast v12
  let c32 : Index := 32#32
  ![v17.toNat, 32]
def k0_off5 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v19 : Index := Scalar.indexCast v12
  let c48 : Index := 48#32
  ![v19.toNat, 48]
def k0_off6 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v21 : Index := Scalar.indexCast v12
  let c64 : Index := 64#32
  ![v21.toNat, 64]
def k0_off7 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v23 : Index := Scalar.indexCast v12
  let c80 : Index := 80#32
  ![v23.toNat, 80]
def k0_off8 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v25 : Index := Scalar.indexCast v12
  let c96 : Index := 96#32
  ![v25.toNat, 96]
def k0_off9 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v27 : Index := Scalar.indexCast v12
  let c112 : Index := 112#32
  ![v27.toNat, 112]

def k0_chk1 (v46 : IVec S16 32) : Prop :=
  (∀ a x, ((![v46] : Fin 1 → IVec S16 32) a x).toNat < S32.size a)
theorem k0_idx1_inb : ∀ (v46 : IVec S16 32) (k0_hw1 : k0_chk1 v46), ∀ a x, ((![v46] : Fin 1 → IVec S16 32) a x).toNat < S32.size a := fun v46 k0_hw1 => k0_hw1

def k0_chk2 (v50 : IVec S16 32) : Prop :=
  (∀ a x, ((![v50] : Fin 1 → IVec S16 32) a x).toNat < S32.size a)
theorem k0_idx2_inb : ∀ (v50 : IVec S16 32) (k0_hw2 : k0_chk2 v50), ∀ a x, ((![v50] : Fin 1 → IVec S16 32) a x).toNat < S32.size a := fun v50 k0_hw2 => k0_hw2

def k0_chk3 (v56 : IVec S16 32) : Prop :=
  (∀ a x, ((![v56] : Fin 1 → IVec S16 32) a x).toNat < S32.size a)
theorem k0_idx3_inb : ∀ (v56 : IVec S16 32) (k0_hw3 : k0_chk3 v56), ∀ a x, ((![v56] : Fin 1 → IVec S16 32) a x).toNat < S32.size a := fun v56 k0_hw3 => k0_hw3

def k0_chk4 (v60 : IVec S16 32) : Prop :=
  (∀ a x, ((![v60] : Fin 1 → IVec S16 32) a x).toNat < S32.size a)
theorem k0_idx4_inb : ∀ (v60 : IVec S16 32) (k0_hw4 : k0_chk4 v60), ∀ a x, ((![v60] : Fin 1 → IVec S16 32) a x).toNat < S32.size a := fun v60 k0_hw4 => k0_hw4

def k0_chk5 (v66 : IVec S16 32) : Prop :=
  (∀ a x, ((![v66] : Fin 1 → IVec S16 32) a x).toNat < S32.size a)
theorem k0_idx5_inb : ∀ (v66 : IVec S16 32) (k0_hw5 : k0_chk5 v66), ∀ a x, ((![v66] : Fin 1 → IVec S16 32) a x).toNat < S32.size a := fun v66 k0_hw5 => k0_hw5

def k0_chk6 (v70 : IVec S16 32) : Prop :=
  (∀ a x, ((![v70] : Fin 1 → IVec S16 32) a x).toNat < S32.size a)
theorem k0_idx6_inb : ∀ (v70 : IVec S16 32) (k0_hw6 : k0_chk6 v70), ∀ a x, ((![v70] : Fin 1 → IVec S16 32) a x).toNat < S32.size a := fun v70 k0_hw6 => k0_hw6

def k0_chk7 (v76 : IVec S16 32) : Prop :=
  (∀ a x, ((![v76] : Fin 1 → IVec S16 32) a x).toNat < S32.size a)
theorem k0_idx7_inb : ∀ (v76 : IVec S16 32) (k0_hw7 : k0_chk7 v76), ∀ a x, ((![v76] : Fin 1 → IVec S16 32) a x).toNat < S32.size a := fun v76 k0_hw7 => k0_hw7

def k0_chk8 (v80 : IVec S16 32) : Prop :=
  (∀ a x, ((![v80] : Fin 1 → IVec S16 32) a x).toNat < S32.size a)
theorem k0_idx8_inb : ∀ (v80 : IVec S16 32) (k0_hw8 : k0_chk8 v80), ∀ a x, ((![v80] : Fin 1 → IVec S16 32) a x).toNat < S32.size a := fun v80 k0_hw8 => k0_hw8

def k0_chk9 (v100 : IVec S16 32) : Prop :=
  (∀ a x, ((![v100] : Fin 1 → IVec S16 32) a x).toNat < S64.size a)
theorem k0_idx9_inb : ∀ (v100 : IVec S16 32) (k0_hw9 : k0_chk9 v100), ∀ a x, ((![v100] : Fin 1 → IVec S16 32) a x).toNat < S64.size a := fun v100 k0_hw9 => k0_hw9

def k0_chk10 (v103 : IVec S16 32) : Prop :=
  (∀ a x, ((![v103] : Fin 1 → IVec S16 32) a x).toNat < S64.size a)
theorem k0_idx10_inb : ∀ (v103 : IVec S16 32) (k0_hw10 : k0_chk10 v103), ∀ a x, ((![v103] : Fin 1 → IVec S16 32) a x).toNat < S64.size a := fun v103 k0_hw10 => k0_hw10
def k0_off10 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v111 : Index := Scalar.indexCast v12
  let c0_34 : Index := 0#32
  ![v111.toNat, 0]

def k0_chk11 (v127 : IVec S16 32) : Prop :=
  (∀ a x, ((![v127] : Fin 1 → IVec S16 32) a x).toNat < S64.size a)
theorem k0_idx11_inb : ∀ (v127 : IVec S16 32) (k0_hw11 : k0_chk11 v127), ∀ a x, ((![v127] : Fin 1 → IVec S16 32) a x).toNat < S64.size a := fun v127 k0_hw11 => k0_hw11

def k0_chk12 (v130 : IVec S16 32) : Prop :=
  (∀ a x, ((![v130] : Fin 1 → IVec S16 32) a x).toNat < S64.size a)
theorem k0_idx12_inb : ∀ (v130 : IVec S16 32) (k0_hw12 : k0_chk12 v130), ∀ a x, ((![v130] : Fin 1 → IVec S16 32) a x).toNat < S64.size a := fun v130 k0_hw12 => k0_hw12
def k0_off11 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v138 : Index := Scalar.indexCast v12
  let c16_42 : Index := 16#32
  ![v138.toNat, 16]

def k0_chk13 (v154 : IVec S16 32) : Prop :=
  (∀ a x, ((![v154] : Fin 1 → IVec S16 32) a x).toNat < S64.size a)
theorem k0_idx13_inb : ∀ (v154 : IVec S16 32) (k0_hw13 : k0_chk13 v154), ∀ a x, ((![v154] : Fin 1 → IVec S16 32) a x).toNat < S64.size a := fun v154 k0_hw13 => k0_hw13

def k0_chk14 (v157 : IVec S16 32) : Prop :=
  (∀ a x, ((![v157] : Fin 1 → IVec S16 32) a x).toNat < S64.size a)
theorem k0_idx14_inb : ∀ (v157 : IVec S16 32) (k0_hw14 : k0_chk14 v157), ∀ a x, ((![v157] : Fin 1 → IVec S16 32) a x).toNat < S64.size a := fun v157 k0_hw14 => k0_hw14
def k0_off12 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v165 : Index := Scalar.indexCast v12
  let c32_50 : Index := 32#32
  ![v165.toNat, 32]

def k0_chk15 (v181 : IVec S16 32) : Prop :=
  (∀ a x, ((![v181] : Fin 1 → IVec S16 32) a x).toNat < S64.size a)
theorem k0_idx15_inb : ∀ (v181 : IVec S16 32) (k0_hw15 : k0_chk15 v181), ∀ a x, ((![v181] : Fin 1 → IVec S16 32) a x).toNat < S64.size a := fun v181 k0_hw15 => k0_hw15

def k0_chk16 (v184 : IVec S16 32) : Prop :=
  (∀ a x, ((![v184] : Fin 1 → IVec S16 32) a x).toNat < S64.size a)
theorem k0_idx16_inb : ∀ (v184 : IVec S16 32) (k0_hw16 : k0_chk16 v184), ∀ a x, ((![v184] : Fin 1 → IVec S16 32) a x).toNat < S64.size a := fun v184 k0_hw16 => k0_hw16
def k0_off13 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v192 : Index := Scalar.indexCast v12
  let c48_58 : Index := 48#32
  ![v192.toNat, 48]

def k0_chk17 (v208 : IVec S16 32) : Prop :=
  (∀ a x, ((![v208] : Fin 1 → IVec S16 32) a x).toNat < S64.size a)
theorem k0_idx17_inb : ∀ (v208 : IVec S16 32) (k0_hw17 : k0_chk17 v208), ∀ a x, ((![v208] : Fin 1 → IVec S16 32) a x).toNat < S64.size a := fun v208 k0_hw17 => k0_hw17

def k0_chk18 (v211 : IVec S16 32) : Prop :=
  (∀ a x, ((![v211] : Fin 1 → IVec S16 32) a x).toNat < S64.size a)
theorem k0_idx18_inb : ∀ (v211 : IVec S16 32) (k0_hw18 : k0_chk18 v211), ∀ a x, ((![v211] : Fin 1 → IVec S16 32) a x).toNat < S64.size a := fun v211 k0_hw18 => k0_hw18
def k0_off14 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v219 : Index := Scalar.indexCast v12
  let c64_66 : Index := 64#32
  ![v219.toNat, 64]

def k0_chk19 (v235 : IVec S16 32) : Prop :=
  (∀ a x, ((![v235] : Fin 1 → IVec S16 32) a x).toNat < S64.size a)
theorem k0_idx19_inb : ∀ (v235 : IVec S16 32) (k0_hw19 : k0_chk19 v235), ∀ a x, ((![v235] : Fin 1 → IVec S16 32) a x).toNat < S64.size a := fun v235 k0_hw19 => k0_hw19

def k0_chk20 (v238 : IVec S16 32) : Prop :=
  (∀ a x, ((![v238] : Fin 1 → IVec S16 32) a x).toNat < S64.size a)
theorem k0_idx20_inb : ∀ (v238 : IVec S16 32) (k0_hw20 : k0_chk20 v238), ∀ a x, ((![v238] : Fin 1 → IVec S16 32) a x).toNat < S64.size a := fun v238 k0_hw20 => k0_hw20
def k0_off15 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v246 : Index := Scalar.indexCast v12
  let c80_74 : Index := 80#32
  ![v246.toNat, 80]

def k0_chk21 (v262 : IVec S16 32) : Prop :=
  (∀ a x, ((![v262] : Fin 1 → IVec S16 32) a x).toNat < S64.size a)
theorem k0_idx21_inb : ∀ (v262 : IVec S16 32) (k0_hw21 : k0_chk21 v262), ∀ a x, ((![v262] : Fin 1 → IVec S16 32) a x).toNat < S64.size a := fun v262 k0_hw21 => k0_hw21

def k0_chk22 (v265 : IVec S16 32) : Prop :=
  (∀ a x, ((![v265] : Fin 1 → IVec S16 32) a x).toNat < S64.size a)
theorem k0_idx22_inb : ∀ (v265 : IVec S16 32) (k0_hw22 : k0_chk22 v265), ∀ a x, ((![v265] : Fin 1 → IVec S16 32) a x).toNat < S64.size a := fun v265 k0_hw22 => k0_hw22
def k0_off16 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v273 : Index := Scalar.indexCast v12
  let c96_82 : Index := 96#32
  ![v273.toNat, 96]

def k0_chk23 (v289 : IVec S16 32) : Prop :=
  (∀ a x, ((![v289] : Fin 1 → IVec S16 32) a x).toNat < S64.size a)
theorem k0_idx23_inb : ∀ (v289 : IVec S16 32) (k0_hw23 : k0_chk23 v289), ∀ a x, ((![v289] : Fin 1 → IVec S16 32) a x).toNat < S64.size a := fun v289 k0_hw23 => k0_hw23

def k0_chk24 (v292 : IVec S16 32) : Prop :=
  (∀ a x, ((![v292] : Fin 1 → IVec S16 32) a x).toNat < S64.size a)
theorem k0_idx24_inb : ∀ (v292 : IVec S16 32) (k0_hw24 : k0_chk24 v292), ∀ a x, ((![v292] : Fin 1 → IVec S16 32) a x).toNat < S64.size a := fun v292 k0_hw24 => k0_hw24
def k0_off17 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v300 : Index := Scalar.indexCast v12
  let c112_90 : Index := 112#32
  ![v300.toNat, 112]
def k0_off18 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v303 : Index := Scalar.indexCast v12
  let c0_91 : Index := 0#32
  ![v303.toNat, 0]
def k0_off19 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v305 : Index := Scalar.indexCast v12
  let c1 : Index := 1#32
  ![v305.toNat, 1]

def k0_chk25 (v302 : IVec S16 32) (v313 : IVec S16 32) : Prop :=
  (∀ a x, ((![v302, v313] : Fin 2 → IVec S16 32) a x).toNat < S16x4096.size a)
theorem k0_idx25_inb : ∀ (v302 : IVec S16 32) (v313 : IVec S16 32) (k0_hw25 : k0_chk25 v302 v313), ∀ a x, ((![v302, v313] : Fin 2 → IVec S16 32) a x).toNat < S16x4096.size a := fun v302 v313 k0_hw25 => k0_hw25
def k0_off20 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v316 : Index := Scalar.indexCast v12
  let c16_94 : Index := 16#32
  ![v316.toNat, 16]
def k0_off21 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v318 : Index := Scalar.indexCast v12
  let c17 : Index := 17#32
  ![v318.toNat, 17]

def k0_chk26 (v302 : IVec S16 32) (v326 : IVec S16 32) : Prop :=
  (∀ a x, ((![v302, v326] : Fin 2 → IVec S16 32) a x).toNat < S16x4096.size a)
theorem k0_idx26_inb : ∀ (v302 : IVec S16 32) (v326 : IVec S16 32) (k0_hw26 : k0_chk26 v302 v326), ∀ a x, ((![v302, v326] : Fin 2 → IVec S16 32) a x).toNat < S16x4096.size a := fun v302 v326 k0_hw26 => k0_hw26
def k0_off22 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v329 : Index := Scalar.indexCast v12
  let c32_101 : Index := 32#32
  ![v329.toNat, 32]
def k0_off23 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v331 : Index := Scalar.indexCast v12
  let c33 : Index := 33#32
  ![v331.toNat, 33]

def k0_chk27 (v302 : IVec S16 32) (v339 : IVec S16 32) : Prop :=
  (∀ a x, ((![v302, v339] : Fin 2 → IVec S16 32) a x).toNat < S16x4096.size a)
theorem k0_idx27_inb : ∀ (v302 : IVec S16 32) (v339 : IVec S16 32) (k0_hw27 : k0_chk27 v302 v339), ∀ a x, ((![v302, v339] : Fin 2 → IVec S16 32) a x).toNat < S16x4096.size a := fun v302 v339 k0_hw27 => k0_hw27
def k0_off24 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v342 : Index := Scalar.indexCast v12
  let c48_108 : Index := 48#32
  ![v342.toNat, 48]
def k0_off25 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v344 : Index := Scalar.indexCast v12
  let c49 : Index := 49#32
  ![v344.toNat, 49]

def k0_chk28 (v302 : IVec S16 32) (v352 : IVec S16 32) : Prop :=
  (∀ a x, ((![v302, v352] : Fin 2 → IVec S16 32) a x).toNat < S16x4096.size a)
theorem k0_idx28_inb : ∀ (v302 : IVec S16 32) (v352 : IVec S16 32) (k0_hw28 : k0_chk28 v302 v352), ∀ a x, ((![v302, v352] : Fin 2 → IVec S16 32) a x).toNat < S16x4096.size a := fun v302 v352 k0_hw28 => k0_hw28
def k0_off26 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v355 : Index := Scalar.indexCast v12
  let c64_115 : Index := 64#32
  ![v355.toNat, 64]
def k0_off27 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v357 : Index := Scalar.indexCast v12
  let c65 : Index := 65#32
  ![v357.toNat, 65]

def k0_chk29 (v302 : IVec S16 32) (v365 : IVec S16 32) : Prop :=
  (∀ a x, ((![v302, v365] : Fin 2 → IVec S16 32) a x).toNat < S16x4096.size a)
theorem k0_idx29_inb : ∀ (v302 : IVec S16 32) (v365 : IVec S16 32) (k0_hw29 : k0_chk29 v302 v365), ∀ a x, ((![v302, v365] : Fin 2 → IVec S16 32) a x).toNat < S16x4096.size a := fun v302 v365 k0_hw29 => k0_hw29
def k0_off28 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v368 : Index := Scalar.indexCast v12
  let c80_122 : Index := 80#32
  ![v368.toNat, 80]
def k0_off29 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v370 : Index := Scalar.indexCast v12
  let c81 : Index := 81#32
  ![v370.toNat, 81]

def k0_chk30 (v302 : IVec S16 32) (v378 : IVec S16 32) : Prop :=
  (∀ a x, ((![v302, v378] : Fin 2 → IVec S16 32) a x).toNat < S16x4096.size a)
theorem k0_idx30_inb : ∀ (v302 : IVec S16 32) (v378 : IVec S16 32) (k0_hw30 : k0_chk30 v302 v378), ∀ a x, ((![v302, v378] : Fin 2 → IVec S16 32) a x).toNat < S16x4096.size a := fun v302 v378 k0_hw30 => k0_hw30
def k0_off30 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v381 : Index := Scalar.indexCast v12
  let c96_129 : Index := 96#32
  ![v381.toNat, 96]
def k0_off31 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v383 : Index := Scalar.indexCast v12
  let c97 : Index := 97#32
  ![v383.toNat, 97]

def k0_chk31 (v302 : IVec S16 32) (v391 : IVec S16 32) : Prop :=
  (∀ a x, ((![v302, v391] : Fin 2 → IVec S16 32) a x).toNat < S16x4096.size a)
theorem k0_idx31_inb : ∀ (v302 : IVec S16 32) (v391 : IVec S16 32) (k0_hw31 : k0_chk31 v302 v391), ∀ a x, ((![v302, v391] : Fin 2 → IVec S16 32) a x).toNat < S16x4096.size a := fun v302 v391 k0_hw31 => k0_hw31
def k0_off32 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v394 : Index := Scalar.indexCast v12
  let c112_136 : Index := 112#32
  ![v394.toNat, 112]
def k0_off33 (k0_t1 : Fin k0_t1_loop.trips) (k0_t2 : Fin k0_t2_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_3 : BitVec 32 := 0#32
  let c1_i32_4 : BitVec 32 := 1#32
  let arg13 : BitVec 32 := Scf.iv c0_i32_3 c1_i32_4 k0_t2
  let v12 : BitVec 32 := Scalar.addi v11 arg13
  let v396 : Index := Scalar.indexCast v12
  let c113 : Index := 113#32
  ![v396.toNat, 113]

def k0_chk32 (v302 : IVec S16 32) (v404 : IVec S16 32) : Prop :=
  (∀ a x, ((![v302, v404] : Fin 2 → IVec S16 32) a x).toNat < S16x4096.size a)
theorem k0_idx32_inb : ∀ (v302 : IVec S16 32) (v404 : IVec S16 32) (k0_hw32 : k0_chk32 v302 v404), ∀ a x, ((![v302, v404] : Fin 2 → IVec S16 32) a x).toNat < S16x4096.size a := fun v302 v404 k0_hw32 => k0_hw32
def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_0 : BitVec 32 := 0#32
  let c1_i32 : BitVec 32 := 1#32
  let arg12 : BitVec 32 := Scf.iv c0_i32_0 c1_i32 k0_t1
  let c16_i32_6 : BitVec 32 := 16#32
  let v8 : BitVec 32 := Scalar.muli arg12 c16_i32_6
  let v9 : BitVec 32 := Scalar.addi v2 v8
  let c0_i32_12_r3 : BitVec 32 := 0#32
  ![v9.toNat, 0]
@[reducible] def k0_t3_loop : Scf.Loop 32 :=
  let c0_i32_8 : BitVec 32 := 0#32
  let c16_i32_9 : BitVec 32 := 16#32
  let v10 : BitVec 32 := Scalar.addi c0_i32_8 c16_i32_9
  let c1_i32_10 : BitVec 32 := 1#32
  ⟨c0_i32_8, v10, c1_i32_10⟩
def k0_off35 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v15 : Index := Scalar.indexCast v12
  let c0 : Index := 0#32
  ![v15.toNat, 0]
def k0_off36 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v17 : Index := Scalar.indexCast v12
  let c1 : Index := 1#32
  ![v17.toNat, 1]

def k0_chk33 (v13 : IVec S16 32) (v25 : IVec S16 32) : Prop :=
  (∀ a x, ((![v13, v25] : Fin 2 → IVec S16 32) a x).toNat < S16x4096.size a)
theorem k0_idx33_inb : ∀ (v13 : IVec S16 32) (v25 : IVec S16 32) (k0_hw33 : k0_chk33 v13 v25), ∀ a x, ((![v13, v25] : Fin 2 → IVec S16 32) a x).toNat < S16x4096.size a := fun v13 v25 k0_hw33 => k0_hw33
def k0_off37 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v26 : Index := Scalar.indexCast v12
  let c16 : Index := 16#32
  ![v26.toNat, 16]
def k0_off38 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v28 : Index := Scalar.indexCast v12
  let c17 : Index := 17#32
  ![v28.toNat, 17]

def k0_chk34 (v13 : IVec S16 32) (v36 : IVec S16 32) : Prop :=
  (∀ a x, ((![v13, v36] : Fin 2 → IVec S16 32) a x).toNat < S16x4096.size a)
theorem k0_idx34_inb : ∀ (v13 : IVec S16 32) (v36 : IVec S16 32) (k0_hw34 : k0_chk34 v13 v36), ∀ a x, ((![v13, v36] : Fin 2 → IVec S16 32) a x).toNat < S16x4096.size a := fun v13 v36 k0_hw34 => k0_hw34
def k0_off39 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v37 : Index := Scalar.indexCast v12
  let c32 : Index := 32#32
  ![v37.toNat, 32]
def k0_off40 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v39 : Index := Scalar.indexCast v12
  let c33 : Index := 33#32
  ![v39.toNat, 33]

def k0_chk35 (v13 : IVec S16 32) (v47 : IVec S16 32) : Prop :=
  (∀ a x, ((![v13, v47] : Fin 2 → IVec S16 32) a x).toNat < S16x4096.size a)
theorem k0_idx35_inb : ∀ (v13 : IVec S16 32) (v47 : IVec S16 32) (k0_hw35 : k0_chk35 v13 v47), ∀ a x, ((![v13, v47] : Fin 2 → IVec S16 32) a x).toNat < S16x4096.size a := fun v13 v47 k0_hw35 => k0_hw35
def k0_off41 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v48 : Index := Scalar.indexCast v12
  let c48 : Index := 48#32
  ![v48.toNat, 48]
def k0_off42 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v50 : Index := Scalar.indexCast v12
  let c49 : Index := 49#32
  ![v50.toNat, 49]

def k0_chk36 (v13 : IVec S16 32) (v58 : IVec S16 32) : Prop :=
  (∀ a x, ((![v13, v58] : Fin 2 → IVec S16 32) a x).toNat < S16x4096.size a)
theorem k0_idx36_inb : ∀ (v13 : IVec S16 32) (v58 : IVec S16 32) (k0_hw36 : k0_chk36 v13 v58), ∀ a x, ((![v13, v58] : Fin 2 → IVec S16 32) a x).toNat < S16x4096.size a := fun v13 v58 k0_hw36 => k0_hw36
def k0_off43 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v59 : Index := Scalar.indexCast v12
  let c64 : Index := 64#32
  ![v59.toNat, 64]
def k0_off44 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v61 : Index := Scalar.indexCast v12
  let c65 : Index := 65#32
  ![v61.toNat, 65]

def k0_chk37 (v13 : IVec S16 32) (v69 : IVec S16 32) : Prop :=
  (∀ a x, ((![v13, v69] : Fin 2 → IVec S16 32) a x).toNat < S16x4096.size a)
theorem k0_idx37_inb : ∀ (v13 : IVec S16 32) (v69 : IVec S16 32) (k0_hw37 : k0_chk37 v13 v69), ∀ a x, ((![v13, v69] : Fin 2 → IVec S16 32) a x).toNat < S16x4096.size a := fun v13 v69 k0_hw37 => k0_hw37
def k0_off45 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v70 : Index := Scalar.indexCast v12
  let c80 : Index := 80#32
  ![v70.toNat, 80]
def k0_off46 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v72 : Index := Scalar.indexCast v12
  let c81 : Index := 81#32
  ![v72.toNat, 81]

def k0_chk38 (v13 : IVec S16 32) (v80 : IVec S16 32) : Prop :=
  (∀ a x, ((![v13, v80] : Fin 2 → IVec S16 32) a x).toNat < S16x4096.size a)
theorem k0_idx38_inb : ∀ (v13 : IVec S16 32) (v80 : IVec S16 32) (k0_hw38 : k0_chk38 v13 v80), ∀ a x, ((![v13, v80] : Fin 2 → IVec S16 32) a x).toNat < S16x4096.size a := fun v13 v80 k0_hw38 => k0_hw38
def k0_off47 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v81 : Index := Scalar.indexCast v12
  let c96 : Index := 96#32
  ![v81.toNat, 96]
def k0_off48 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v83 : Index := Scalar.indexCast v12
  let c97 : Index := 97#32
  ![v83.toNat, 97]

def k0_chk39 (v13 : IVec S16 32) (v91 : IVec S16 32) : Prop :=
  (∀ a x, ((![v13, v91] : Fin 2 → IVec S16 32) a x).toNat < S16x4096.size a)
theorem k0_idx39_inb : ∀ (v13 : IVec S16 32) (v91 : IVec S16 32) (k0_hw39 : k0_chk39 v13 v91), ∀ a x, ((![v13, v91] : Fin 2 → IVec S16 32) a x).toNat < S16x4096.size a := fun v13 v91 k0_hw39 => k0_hw39
def k0_off49 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v92 : Index := Scalar.indexCast v12
  let c112 : Index := 112#32
  ![v92.toNat, 112]
def k0_off50 (k0_t1 : Fin k0_t1_loop.trips) (k0_t3 : Fin k0_t3_loop.trips) : Fin 2 → Nat :=
  let c0_i32_0 : BitVec 32 := 0#32
  let c1_i32 : BitVec 32 := 1#32
  let arg12 : BitVec 32 := Scf.iv c0_i32_0 c1_i32 k0_t1
  let c16_i32_12 : BitVec 32 := 16#32
  let v11 : BitVec 32 := Scalar.muli arg12 c16_i32_12
  let c0_i32_8 : BitVec 32 := 0#32
  let c1_i32_10 : BitVec 32 := 1#32
  let arg13 : BitVec 32 := Scf.iv c0_i32_8 c1_i32_10 k0_t3
  let v12 : BitVec 32 := Scalar.addi v11 arg13
  let v94 : Index := Scalar.indexCast v12
  let c113 : Index := 113#32
  ![v94.toNat, 113]

def k0_chk40 (v13 : IVec S16 32) (v102 : IVec S16 32) : Prop :=
  (∀ a x, ((![v13, v102] : Fin 2 → IVec S16 32) a x).toNat < S16x4096.size a)
theorem k0_idx40_inb : ∀ (v13 : IVec S16 32) (v102 : IVec S16 32) (k0_hw40 : k0_chk40 v13 v102), ∀ a x, ((![v13, v102] : Fin 2 → IVec S16 32) a x).toNat < S16x4096.size a := fun v13 v102 k0_hw40 => k0_hw40
def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_2_r4 : BitVec 32 := 0#32
  ![v2.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x8x128 : Shape := ⟨3, ![256, 8, 128]⟩
abbrev S_ : Shape := ⟨0, ![]⟩
abbrev S256x8 : Shape := ⟨2, ![256, 8]⟩
abbrev S256x8x1 : Shape := ⟨3, ![256, 8, 1]⟩
abbrev S50 : Shape := ⟨1, ![50]⟩
abbrev S1 : Shape := ⟨1, ![1]⟩
abbrev S51 : Shape := ⟨1, ![51]⟩
abbrev S49 : Shape := ⟨1, ![49]⟩
abbrev S256x8x128x1 : Shape := ⟨4, ![256, 8, 128, 1]⟩
abbrev S1x1x1x49 : Shape := ⟨4, ![1, 1, 1, 49]⟩
abbrev S256x8x128x49 : Shape := ⟨4, ![256, 8, 128, 49]⟩
abbrev S256x8x127 : Shape := ⟨3, ![256, 8, 127]⟩
abbrev S2048x127 : Shape := ⟨2, ![2048, 127]⟩
abbrev S2048 : Shape := ⟨1, ![2048]⟩
abbrev S2048x1 : Shape := ⟨2, ![2048, 1]⟩
abbrev S2048x2500 : Shape := ⟨2, ![2048, 2500]⟩
abbrev S2048x127x1 : Shape := ⟨3, ![2048, 127, 1]⟩
abbrev S2048x127x2 : Shape := ⟨3, ![2048, 127, 2]⟩
abbrev S256x8x50x50 : Shape := ⟨4, ![256, 8, 50, 50]⟩
abbrev S256x8x50 : Shape := ⟨3, ![256, 8, 50]⟩
abbrev S256x8x50x1 : Shape := ⟨4, ![256, 8, 50, 1]⟩
abbrev S2048x128 : Shape := ⟨2, ![2048, 128]⟩
abbrev S2048x128x1 : Shape := ⟨3, ![2048, 128, 1]⟩
abbrev S2048x1x128 : Shape := ⟨3, ![2048, 1, 128]⟩
abbrev S2048x128x128 : Shape := ⟨3, ![2048, 128, 128]⟩
abbrev S2048x16384 : Shape := ⟨2, ![2048, 16384]⟩
abbrev S2048x16384x1 : Shape := ⟨3, ![2048, 16384, 1]⟩
abbrev S1x1x1 : Shape := ⟨3, ![1, 1, 1]⟩
abbrev S256x8x128x128 : Shape := ⟨4, ![256, 8, 128, 128]⟩

abbrev nBuf : Space → Nat
  | .hbm => 134
  | .vmem => 0
  | .smem => 0
  | _ => 0

abbrev hbmTy0_0 (i : Nat) : BufTy := match i % 128 with
  | 0 => ⟨S256x8x128, .f32⟩
  | 1 => ⟨S_, .f32⟩
  | 2 => ⟨S256x8, .f32⟩
  | 3 => ⟨S256x8x1, .f32⟩
  | 4 => ⟨S_, .f32⟩
  | 5 => ⟨S256x8, .f32⟩
  | 6 => ⟨S256x8x1, .f32⟩
  | 7 => ⟨S256x8x128, .f32⟩
  | 8 => ⟨S256x8x128, .f32⟩
  | 9 => ⟨S256x8x1, .f32⟩
  | 10 => ⟨S_, .f32⟩
  | 11 => ⟨S256x8x1, .f32⟩
  | 12 => ⟨S256x8x1, .f32⟩
  | 13 => ⟨S256x8x128, .f32⟩
  | 14 => ⟨S256x8x128, .f32⟩
  | 15 => ⟨S_, .f32⟩
  | 16 => ⟨S256x8x128, .f32⟩
  | 17 => ⟨S256x8x128, .f32⟩
  | 18 => ⟨S_, .f32⟩
  | 19 => ⟨S256x8x128, .f32⟩
  | 20 => ⟨S256x8x128, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S50, .f32⟩
  | 29 => ⟨S_, .f32⟩
  | 30 => ⟨S50, .f32⟩
  | 31 => ⟨S50, .f32⟩
  | 32 => ⟨S1, .f32⟩
  | 33 => ⟨S_, .f32⟩
  | 34 => ⟨S50, .f32⟩
  | 35 => ⟨S50, .f32⟩
  | 36 => ⟨S50, .f32⟩
  | 37 => ⟨S50, .f32⟩
  | 38 => ⟨S1, .f32⟩
  | 39 => ⟨S50, .f32⟩
  | 40 => ⟨S50, .f32⟩
  | 41 => ⟨S50, .f32⟩
  | 42 => ⟨S1, .f32⟩
  | 43 => ⟨S51, .f32⟩
  | 44 => ⟨S49, .f32⟩
  | 45 => ⟨S256x8x128x1, .f32⟩
  | 46 => ⟨S1x1x1x49, .f32⟩
  | 47 => ⟨S256x8x128x49, .f32⟩
  | 48 => ⟨S256x8x128x49, .f32⟩
  | 49 => ⟨S256x8x128x49, .i1⟩
  | 50 => ⟨S256x8x128x49, .i32⟩
  | 51 => ⟨S_, .i32⟩
  | 52 => ⟨S256x8x128, .i32⟩
  | 53 => ⟨S256x8x127, .i32⟩
  | 54 => ⟨S2048x127, .i32⟩
  | 55 => ⟨S256x8x127, .i32⟩
  | 56 => ⟨S2048x127, .i32⟩
  | 57 => ⟨S_, .i32⟩
  | 58 => ⟨S2048x127, .i32⟩
  | 59 => ⟨S2048x127, .i32⟩
  | 60 => ⟨S2048x127, .i32⟩
  | 61 => ⟨S2048, .i32⟩
  | 62 => ⟨S2048x1, .i32⟩
  | 63 => ⟨S_, .f32⟩
  | 64 => ⟨S2048x2500, .f32⟩
  | 65 => ⟨S_, .i32⟩
  | 66 => ⟨S2048x1, .i32⟩
  | 67 => ⟨S2048x1, .i1⟩
  | 68 => ⟨S_, .i32⟩
  | 69 => ⟨S2048x1, .i32⟩
  | 70 => ⟨S2048x1, .i32⟩
  | 71 => ⟨S2048x1, .i32⟩
  | 72 => ⟨S_, .i32⟩
  | 73 => ⟨S2048x127, .i32⟩
  | 74 => ⟨S2048x127, .i1⟩
  | 75 => ⟨S_, .i32⟩
  | 76 => ⟨S2048x127, .i32⟩
  | 77 => ⟨S2048x127, .i32⟩
  | 78 => ⟨S2048x127, .i32⟩
  | 79 => ⟨S2048x127, .i32⟩
  | 80 => ⟨S2048x127x1, .i32⟩
  | 81 => ⟨S2048x127x1, .i32⟩
  | 82 => ⟨S2048x127x2, .i32⟩
  | 83 => ⟨S_, .f32⟩
  | 84 => ⟨S2048x127, .f32⟩
  | 85 => ⟨S2048x2500, .f32⟩
  | 86 => ⟨S256x8x50x50, .f32⟩
  | 87 => ⟨S_, .f32⟩
  | 88 => ⟨S256x8x50, .f32⟩
  | 89 => ⟨S256x8x50x1, .f32⟩
  | 90 => ⟨S_, .f32⟩
  | 91 => ⟨S256x8x50x1, .f32⟩
  | 92 => ⟨S256x8x50x1, .i1⟩
  | 93 => ⟨S256x8x50x1, .f32⟩
  | 94 => ⟨S_, .f32⟩
  | 95 => ⟨S256x8x50x1, .f32⟩
  | 96 => ⟨S256x8x50x1, .f32⟩
  | 97 => ⟨S256x8x50x1, .f32⟩
  | 98 => ⟨S256x8x50x50, .f32⟩
  | 99 => ⟨S256x8x50x50, .f32⟩
  | 100 => ⟨S2048x128, .i32⟩
  | 101 => ⟨S2048x128x1, .i32⟩
  | 102 => ⟨S_, .i32⟩
  | 103 => ⟨S2048x128x1, .i32⟩
  | 104 => ⟨S2048x128x1, .i32⟩
  | 105 => ⟨S2048x1x128, .i32⟩
  | 106 => ⟨S2048x128x128, .i32⟩
  | 107 => ⟨S2048x128x128, .i32⟩
  | 108 => ⟨S2048x128x128, .i32⟩
  | 109 => ⟨S2048x2500, .f32⟩
  | 110 => ⟨S2048x16384, .i32⟩
  | 111 => ⟨S_, .i32⟩
  | 112 => ⟨S2048x16384, .i32⟩
  | 113 => ⟨S2048x16384, .i1⟩
  | 114 => ⟨S_, .i32⟩
  | 115 => ⟨S2048x16384, .i32⟩
  | 116 => ⟨S2048x16384, .i32⟩
  | 117 => ⟨S2048x16384, .i32⟩
  | 118 => ⟨S2048x16384x1, .i32⟩
  | 119 => ⟨S1, .i32⟩
  | 120 => ⟨S_, .i32⟩
  | 121 => ⟨S2048x16384x1, .i32⟩
  | 122 => ⟨S2048x16384x1, .i1⟩
  | 123 => ⟨S1x1x1, .i32⟩
  | 124 => ⟨S2048x16384x1, .i32⟩
  | 125 => ⟨S2048x16384x1, .i1⟩
  | 126 => ⟨S2048x16384x1, .i1⟩
  | 127 => ⟨S_, .i1⟩
  | _ => ⟨S256x8x128, .f32⟩

abbrev hbmTy0_1 (i : Nat) : BufTy := match i % 128 with
  | 0 => ⟨S2048x16384, .i1⟩
  | 1 => ⟨S2048x16384, .f32⟩
  | 2 => ⟨S_, .f32⟩
  | 3 => ⟨S2048x16384, .f32⟩
  | 4 => ⟨S2048x16384, .f32⟩
  | 5 => ⟨S256x8x128x128, .f32⟩
  | _ => ⟨S256x8x128, .f32⟩

abbrev hbmTy (i : Nat) : BufTy := match i / 128 with
  | 0 => hbmTy0_0 i
  | 1 => hbmTy0_1 i
  | _ => ⟨S256x8x128, .f32⟩

abbrev bufTy : (tb : Table) → Fin (tcTables nBuf tb) → BufTy
  | .hbm, ⟨i, _⟩ => hbmTy i
  | _, _ => ⟨S256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_cst : Ref sig .tc := ⟨.hbm, 26, rfl⟩
abbrev main_call0_v3 : Ref sig .tc := ⟨.hbm, 27, rfl⟩
abbrev main_call0_v4 : Ref sig .tc := ⟨.hbm, 28, rfl⟩
abbrev main_call0_cst_0 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_c_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_10 : Ref sig .tc := ⟨.hbm, 72, rfl⟩
abbrev main_v39 : Ref sig .tc := ⟨.hbm, 73, rfl⟩
abbrev main_v40 : Ref sig .tc := ⟨.hbm, 74, rfl⟩
abbrev main_c_11 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_12 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_13 : Ref sig .tc := ⟨.hbm, 87, rfl⟩
abbrev main_v51 : Ref sig .tc := ⟨.hbm, 88, rfl⟩
abbrev main_v52 : Ref sig .tc := ⟨.hbm, 89, rfl⟩
abbrev main_cst_14 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_15 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_16 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_call2_c : Ref sig .tc := ⟨.hbm, 111, rfl⟩
abbrev main_call2_v0 : Ref sig .tc := ⟨.hbm, 112, rfl⟩
abbrev main_call2_v1 : Ref sig .tc := ⟨.hbm, 113, rfl⟩
abbrev main_call2_c_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_c_1 : Ref sig .tc := ⟨.hbm, 119, rfl⟩
abbrev main_call2_c_2 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_3 : Ref sig .tc := ⟨.hbm, 127, rfl⟩
abbrev main_call2_v12 : Ref sig .tc := ⟨.hbm, 128, rfl⟩
abbrev main_call2_v13 : Ref sig .tc := ⟨.hbm, 129, rfl⟩
abbrev main_call2_cst : Ref sig .tc := ⟨.hbm, 130, rfl⟩
abbrev main_call2_v14 : Ref sig .tc := ⟨.hbm, 131, rfl⟩
abbrev main_v71 : Ref sig .tc := ⟨.hbm, 132, rfl⟩
abbrev main_v72 : Ref sig .tc := ⟨.hbm, 133, rfl⟩

abbrev nD : Nat := 1
abbrev τ : Topo := Topo.v7x

variable {F : FTy → Type} [FloatOps F]
-- ==== Proof.Base.lean ====
/-
  The kernel's program as the launch theorem sees it, the resource algebra of the proof, and the five scratch buffers of
  a vector subcore with their contents written as functions of natural-number coordinates.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined region's rounds and the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

abbrev EH : Emb UH (MT nD τ sig (HIx 1) (Elt F) ℕ UU ℕ) := embL

/-- The pipelined region's rounds: the second factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## Contents as functions of coordinates -/

/-- A vector given by a function of its coordinate. -/
abbrev mk1 {α : Type} {n : ℕ} (f : ℕ → α) : (⟨1, ![n]⟩ : Shape).Idx → α := fun y => f (y 0).val
/-- A matrix given by a function of its two coordinates. -/
abbrev mk2 {α : Type} {a b : ℕ} (f : ℕ → ℕ → α) : (⟨2, ![a, b]⟩ : Shape).Idx → α := fun y => f (y 0).val (y 1).val
/-- Sixteen consecutive elements of row `r` from column `c`, as a loaded one-row block. -/
abbrev rowV {α : Type} (f : ℕ → ℕ → α) (r c : ℕ) : (⟨2, ![1, 16]⟩ : Shape).Idx → α := fun y => f r (c + (y 1).val)

/-- A matrix's contents written back as a function of naturals. -/
def un2 {α : Type} {a b : ℕ} [NeZero a] [NeZero b] (g : (⟨2, ![a, b]⟩ : Shape).Idx → α) : ℕ → ℕ → α :=
  fun i j => g (fun | 0 => Fin.ofNat a i | 1 => Fin.ofNat b j)

theorem mk2_un2 {α : Type} {a b : ℕ} [NeZero a] [NeZero b] (g : (⟨2, ![a, b]⟩ : Shape).Idx → α) : mk2 (un2 g) = g := by
  funext y
  have h0 : (y 0).val < a := (y 0).isLt
  have h1 : (y 1).val < b := (y 1).isLt
  refine congrArg g (funext fun k => ?_)
  match k with
  | 0 => exact Fin.ext (Nat.mod_eq_of_lt h0)
  | 1 => exact Fin.ext (Nat.mod_eq_of_lt h1)

def un1 {α : Type} {a : ℕ} [NeZero a] (g : (⟨1, ![a]⟩ : Shape).Idx → α) : ℕ → α :=
  fun i => g (fun | 0 => Fin.ofNat a i)

theorem mk1_un1 {α : Type} {a : ℕ} [NeZero a] (g : (⟨1, ![a]⟩ : Shape).Idx → α) : mk1 (un1 g) = g := by
  funext y
  have h0 : (y 0).val < a := (y 0).isLt
  refine congrArg g (funext fun k => ?_)
  match k with
  | 0 => exact Fin.ext (Nat.mod_eq_of_lt h0)

/-- Sixteen elements of row `r` from column `c` replaced by `v`. -/
def setRow {α : Type} (f : ℕ → ℕ → α) (r c : ℕ) (v : ℕ → α) : ℕ → ℕ → α :=
  fun a b => if a = r ∧ c ≤ b ∧ b < c + 16 then v (b - c) else f a b

/-- Sixteen elements from `c` replaced by `v`. -/
def setVec {α : Type} (f : ℕ → α) (c : ℕ) (v : ℕ → α) : ℕ → α :=
  fun b => if c ≤ b ∧ b < c + 16 then v (b - c) else f b

/-! ## The tile's scratch -/

abbrev aX : Memref sig .scVector .vmem S64x128 .f32 := Memref.whole cc0_scratch0
abbrev aB : Memref sig .scVector .vmem S64x144 .i32 := Memref.whole cc0_scratch1
abbrev aP : Memref sig .scVector .vmem S16x4096 .f32 := Memref.whole cc0_scratch2
abbrev aE : Memref sig .scVector .vmem S64 .f32 := Memref.whole cc0_scratch3
abbrev aM : Memref sig .scVector .vmem S32 .f32 := Memref.whole cc0_scratch4

/-- The thread of tile `i` of a device. -/
abbrev thrV (d : Dev nD) (i : grid0.Coords) : Thread nD τ := V d ((i 0).castLE hcore0) ((i 1).castLE hsub0)

variable [FloatOps F]

/-- The five scratch buffers of a tile: its rows of the input, the bins, the counts, the bin boundaries, and the pair of
    vectors the reduction over lanes goes through. -/
def St (d : Dev nD) (i : grid0.Coords) (fx : ℕ → ℕ → F .f32) (fb : ℕ → ℕ → BitVec 32) (fp : ℕ → ℕ → F .f32) (fe fm : ℕ → F .f32) : sProp 𝕄 :=
  iprop((aX.view.loc (thrV d i) ↦{fullShare} (mk2 fx : Buf (Elt F) (aX.view.loc (thrV d i)))) ∗
    (aB.view.loc (thrV d i) ↦{fullShare} (mk2 fb : Buf (Elt F) (aB.view.loc (thrV d i)))) ∗
    (aP.view.loc (thrV d i) ↦{fullShare} (mk2 fp : Buf (Elt F) (aP.view.loc (thrV d i)))) ∗
    (aE.view.loc (thrV d i) ↦{fullShare} (mk1 fe : Buf (Elt F) (aE.view.loc (thrV d i)))) ∗
    (aM.view.loc (thrV d i) ↦{fullShare} (mk1 fm : Buf (Elt F) (aM.view.loc (thrV d i)))))

end Cert.Proof.SC
-- ==== Proof.Steps.lean ====
/-
  One step of a tile's straight-line code: a row load, a vector load or store, a gather, a scatter, a checked index
  vector. Each rule rewrites the scratch state and hands the program the loaded vector as a function of its lane.
-/
module

public import proofs.«01_k».proof.Proof.Base
public import Idealize.ShloMosaic.Lib.Pipeline.Value

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable {d : Dev nD} {i : grid0.Coords} {fx : ℕ → ℕ → F .f32} {fb : ℕ → ℕ → BitVec 32} {fp : ℕ → ℕ → F .f32} {fe fm : ℕ → F .f32}
  {α : Type}

/-- A load of sixteen elements of a row of the input scratch. -/
theorem st_ldX {Q : α → sProp 𝕄} {off : Fin 2 → ℕ} {r c : ℕ} (ho : off = ![r, c]) {inb : ∀ a, off a + S1x16.size a ≤ S64x128.size a} {hl}
    {k : Vec F S1x16 .f32 → Prog (TpuEff nD τ sig (Elt F) Λ₀ (thrV d i).2) α}
    (H : St d i fx fb fp fe fm ⊢ wp frame (wpE (defs₀ (F := F)) 𝒱₀ (thrV d i) none) Set.univ (k (rowV fx r c)) Q) :
    St d i fx fb fp fe fm ⊢ wp frame (wpE (defs₀ (F := F)) 𝒱₀ (thrV d i) none) Set.univ
      (Prog.lift (.load aX (Rect.unit (s := S64x128) off S1x16.size inb).toLoadRect hl) >>= k) Q := by
  subst ho
  have hv : aX.view.readAt (Elt F) (Rect.unit (s := S64x128) ![r, c] S1x16.size inb).toLoadRect (mk2 fx) = rowV fx r c := by
    funext y
    have hy : (y 0).val = 0 := by have := (y 0).isLt; simp at this; omega
    show fx (r + 1 * (y 0).val) (c + 1 * (y 1).val) = _
    rw [hy]; simp
  simp only [Prog.lift, Prog.bind_op, Prog.bind_ret]
  rw [← hv] at H
  iintro HS
  unfold St at *
  icases HS with ⟨H1, Hr⟩
  iapply (wp_load (defs := defs₀ (F := F)) 𝒱₀ (thrV d i) none Set.univ (m := aX) (S := Finset.univ) (Finset.subset_univ _)) $$ H1
  iintro H1
  iapply H
  isplitl [H1]; iexact H1; iexact Hr

/-- A load of sixteen elements of a row of the bins scratch. -/
theorem st_ldB {Q : α → sProp 𝕄} {off : Fin 2 → ℕ} {r c : ℕ} (ho : off = ![r, c]) {inb : ∀ a, off a + S1x16.size a ≤ S64x144.size a} {hl}
    {k : Vec F S1x16 .i32 → Prog (TpuEff nD τ sig (Elt F) Λ₀ (thrV d i).2) α}
    (H : St d i fx fb fp fe fm ⊢ wp frame (wpE (defs₀ (F := F)) 𝒱₀ (thrV d i) none) Set.univ (k (rowV fb r c)) Q) :
    St d i fx fb fp fe fm ⊢ wp frame (wpE (defs₀ (F := F)) 𝒱₀ (thrV d i) none) Set.univ
      (Prog.lift (.load aB (Rect.unit (s := S64x144) off S1x16.size inb).toLoadRect hl) >>= k) Q := by
  subst ho
  have hv : aB.view.readAt (Elt F) (Rect.unit (s := S64x144) ![r, c] S1x16.size inb).toLoadRect (mk2 fb) = rowV fb r c := by
    funext y
    have hy : (y 0).val = 0 := by have := (y 0).isLt; simp at this; omega
    show fb (r + 1 * (y 0).val) (c + 1 * (y 1).val) = _
    rw [hy]; simp
  simp only [Prog.lift, Prog.bind_op, Prog.bind_ret]
  rw [← hv] at H
  iintro HS
  unfold St at *
  icases HS with ⟨H1, H2, Hr⟩
  iapply (wp_load (defs := defs₀ (F := F)) 𝒱₀ (thrV d i) none Set.univ (m := aB) (S := Finset.univ) (Finset.subset_univ _)) $$ H2
  iintro H2
  iapply H
  isplitl [H1]; iexact H1
  isplitl [H2]; iexact H2
  iexact Hr

/-- A load of half of the pair of vectors. -/
theorem st_ldM {Q : α → sProp 𝕄} {c : ℕ} {inb : ∀ a, (![c] : Fin 1 → ℕ) a + S16.size a ≤ S32.size a} {hl}
    {k : Vec F S16 .f32 → Prog (TpuEff nD τ sig (Elt F) Λ₀ (thrV d i).2) α}
    (H : ∀ v, St d i fx fb fp fe fm ⊢ wp frame (wpE (defs₀ (F := F)) 𝒱₀ (thrV d i) none) Set.univ (k v) Q) :
    St d i fx fb fp fe fm ⊢ wp frame (wpE (defs₀ (F := F)) 𝒱₀ (thrV d i) none) Set.univ
      (Prog.lift (.load aM (Rect.unit (s := S32) ![c] S16.size inb).toLoadRect hl) >>= k) Q := by
  simp only [Prog.lift, Prog.bind_op, Prog.bind_ret]
  iintro HS
  unfold St at *
  icases HS with ⟨H1, H2, H3, H4, H5⟩
  iapply (wp_load (defs := defs₀ (F := F)) 𝒱₀ (thrV d i) none Set.univ (m := aM) (S := Finset.univ) (Finset.subset_univ _)) $$ H5
  iintro H5
  iapply (H _)
  isplitl [H1]; iexact H1
  isplitl [H2]; iexact H2
  isplitl [H3]; iexact H3
  isplitl [H4]; iexact H4
  iexact H5

/-- A load of sixteen elements of a row of the bins scratch whose contents do not matter. -/
theorem st_ldB' {Q : α → sProp 𝕄} {off : Fin 2 → ℕ} {inb : ∀ a, off a + S1x16.size a ≤ S64x144.size a} {hl}
    {k : Vec F S1x16 .i32 → Prog (TpuEff nD τ sig (Elt F) Λ₀ (thrV d i).2) α}
    (H : ∀ v, St d i fx fb fp fe fm ⊢ wp frame (wpE (defs₀ (F := F)) 𝒱₀ (thrV d i) none) Set.univ (k v) Q) :
    St d i fx fb fp fe fm ⊢ wp frame (wpE (defs₀ (F := F)) 𝒱₀ (thrV d i) none) Set.univ
      (Prog.lift (.load aB (Rect.unit (s := S64x144) off S1x16.size inb).toLoadRect hl) >>= k) Q := by
  refine st_ldB (r := off 0) (c := off 1) ?_ (H _)
  funext a
  match a with
  | 0 => rfl
  | 1 => rfl

/-- A store of half of the pair of vectors. -/
theorem st_stM {Q : α → sProp 𝕄} {c : ℕ} {inb : ∀ a, (![c] : Fin 1 → ℕ) a + S16.size a ≤ S32.size a} {w : Vec F S16 .f32} {v : ℕ → F .f32} (hw : w = mk1 v) {hx hm}
    {k : PUnit → Prog (TpuEff nD τ sig (Elt F) Λ₀ (thrV d i).2) α}
    (H : St d i fx fb fp fe (setVec fm c v) ⊢ wp frame (wpE (defs₀ (F := F)) 𝒱₀ (thrV d i) none) Set.univ (k ⟨⟩) Q) :
    St d i fx fb fp fe fm ⊢ wp frame (wpE (defs₀ (F := F)) 𝒱₀ (thrV d i) none) Set.univ
      (Prog.lift (.store aM (Rect.unit (s := S32) ![c] S16.size inb) w Finset.univ hx hm) >>= k) Q := by
  subst hw
  have hv : (aM.access (Rect.unit (s := S32) ![c] S16.size inb)).write (Elt F) (mk1 fm) (mk1 v) Finset.univ = mk1 (setVec fm c v) := by
    refine (View.write_whole_slice_unit (Val := Elt F) cc0_scratch4 ![c] S16.size inb (mk1 fm) (mk1 v)).trans ?_
    funext y
    unfold updateSlice
    by_cases hy : c ≤ (y 0).val ∧ (y 0).val < c + 16
    · have hy' : ∀ a : Fin 1, (![c] : Fin 1 → ℕ) a ≤ (y a).val ∧ (y a).val < (![c] : Fin 1 → ℕ) a + S16.size a := by
        intro a; match a with | 0 => exact hy
      refine (dif_pos hy').trans ?_
      show v ((y 0).val - c) = setVec fm c v (y 0).val
      unfold setVec; rw [if_pos hy]
    · refine (dif_neg (fun h => hy (h 0))).trans ?_
      show fm (y 0).val = setVec fm c v (y 0).val
      unfold setVec; rw [if_neg hy]
  simp only [Prog.lift, Prog.bind_op, Prog.bind_ret]
  iintro HS
  unfold St at *
  rw [← hv] at H
  icases HS with ⟨H1, H2, H3, H4, H5⟩
  iapply (wp_store (defs := defs₀ (F := F)) 𝒱₀ (thrV d i) none Set.univ (m := aM) (r := Rect.unit (s := S32) ![c] S16.size inb) (S := Finset.univ) (Finset.subset_univ _)) $$ H5
  iintro H5
  iapply H
  isplitl [H1]; iexact H1
  isplitl [H2]; iexact H2
  isplitl [H3]; iexact H3
  isplitl [H4]; iexact H4
  iexact H5

/-- A store of sixteen elements of a row of the bins scratch. -/
theorem st_stB {Q : α → sProp 𝕄} {off : Fin 2 → ℕ} {r c : ℕ} (ho : off = ![r, c]) {inb : ∀ a, off a + S1x16.size a ≤ S64x144.size a} {w : Vec F S1x16 .i32}
    {v : ℕ → BitVec 32} (hw : w = fun y => v (y 1).val) {hx hm}
    {k : PUnit → Prog (TpuEff nD τ sig (Elt F) Λ₀ (thrV d i).2) α}
    (H : St d i fx (setRow fb r c v) fp fe fm ⊢ wp frame (wpE (defs₀ (F := F)) 𝒱₀ (thrV d i) none) Set.univ (k ⟨⟩) Q) :
    St d i fx fb fp fe fm ⊢ wp frame (wpE (defs₀ (F := F)) 𝒱₀ (thrV d i) none) Set.univ
      (Prog.lift (.store aB (Rect.unit (s := S64x144) off S1x16.size inb) w Finset.univ hx hm) >>= k) Q := by
  subst hw; subst ho
  have hv : (aB.access (Rect.unit (s := S64x144) ![r, c] S1x16.size inb)).write (Elt F) (mk2 fb) (fun y => v (y 1).val) Finset.univ
      = mk2 (setRow fb r c v) := by
    refine (View.write_whole_slice_unit (Val := Elt F) cc0_scratch1 ![r, c] S1x16.size inb (mk2 fb) (fun y => v (y 1).val)).trans ?_
    funext y
    unfold updateSlice
    by_cases hy : (y 0).val = r ∧ c ≤ (y 1).val ∧ (y 1).val < c + 16
    · have hy' : ∀ a : Fin 2, (![r, c] : Fin 2 → ℕ) a ≤ (y a).val ∧ (y a).val < (![r, c] : Fin 2 → ℕ) a + S1x16.size a := by
        intro a
        match a with
        | 0 => exact ⟨hy.1.ge, by show (y 0).val < r + 1; omega⟩
        | 1 => exact hy.2
      refine (dif_pos hy').trans ?_
      show v ((y 1).val - c) = setRow fb r c v (y 0).val (y 1).val
      unfold setRow; rw [if_pos hy]
    · refine (dif_neg (fun h => hy ⟨by have h0 := h 0; have h1 : r ≤ (y 0).val := h0.1; have h2 : (y 0).val < r + 1 := h0.2; omega, h 1⟩)).trans ?_
      show fb (y 0).val (y 1).val = setRow fb r c v (y 0).val (y 1).val
      unfold setRow; rw [if_neg hy]
  simp only [Prog.lift, Prog.bind_op, Prog.bind_ret]
  iintro HS
  unfold St at *
  rw [← hv] at H
  icases HS with ⟨H1, H2, H3⟩
  iapply (wp_store (defs := defs₀ (F := F)) 𝒱₀ (thrV d i) none Set.univ (m := aB) (r := Rect.unit (s := S64x144) ![r, c] S1x16.size inb) (S := Finset.univ) (Finset.subset_univ _)) $$ H2
  iintro H2
  iapply H
  isplitl [H1]; iexact H1
  isplitl [H2]; iexact H2
  iexact H3

/-- A checked index vector: the check holds, the program continues. -/
theorem st_assume {Q : α → sProp 𝕄} {P : Prop} {dP : Decidable P} (h : P) {R : sProp 𝕄}
    {k : PLift P → Prog (TpuEff nD τ sig (Elt F) Λ₀ (thrV d i).2) α}
    (H : R ⊢ wp frame (wpE (defs₀ (F := F)) 𝒱₀ (thrV d i) none) Set.univ (k ⟨h⟩) Q) :
    R ⊢ wp frame (wpE (defs₀ (F := F)) 𝒱₀ (thrV d i) none) Set.univ (Prog.lift (.assume P dP) >>= k) Q := by
  simp only [Prog.lift, Prog.bind_op, Prog.bind_ret]
  rw [wp_assume_of _ _ _ _ h]
  exact H

/-- A gather out of the pair of vectors. -/
theorem st_gM {Q : α → sProp 𝕄} {ix : IVec S16 32} {n : ℕ → BitVec 32} (hix : ix = mk1 n) {h : ∀ a x, ((![ix] : Fin 1 → IVec S16 32) a x).toNat < S32.size a} {hl}
    {k : Vec F S16 .f32 → Prog (TpuEff nD τ sig (Elt F) Λ₀ (thrV d i).2) α}
    (H : St d i fx fb fp fe fm ⊢ wp frame (wpE (defs₀ (F := F)) 𝒱₀ (thrV d i) none) Set.univ (k (mk1 fun l => fm (n l).toNat)) Q) :
    St d i fx fb fp fe fm ⊢ wp frame (wpE (defs₀ (F := F)) 𝒱₀ (thrV d i) none) Set.univ
      (SparseCore.vectorLoadIdx aM ![ix] h hl >>= k) Q := by
  subst hix
  iintro HS
  unfold St at *
  icases HS with ⟨H1, H2, H3, H4, H5⟩
  iapply (SparseCore.wp_vectorLoadIdx (defs := defs₀ (F := F)) 𝒱₀ (thrV d i) none Set.univ (base := aM) (S := Finset.univ) (q := fullShare)
    (Finset.subset_univ _)) $$ H5
  iintro H5
  rw [show loadIdx ((aM.access (.whole S32)).read (Elt F) (mk1 fm)) ![mk1 n] h = mk1 fun l => fm (n l).toNat from by
    rw [show (aM.access (.whole S32)).read (Elt F) (mk1 fm) = mk1 fm from Memref.read_access_whole ..]; rfl]
  iapply H
  isplitl [H1]; iexact H1
  isplitl [H2]; iexact H2
  isplitl [H3]; iexact H3
  isplitl [H4]; iexact H4
  iexact H5

/-- A gather out of the bin boundaries. -/
theorem st_gE {Q : α → sProp 𝕄} {ix : IVec S16 32} {n : ℕ → BitVec 32} (hix : ix = mk1 n) {h : ∀ a x, ((![ix] : Fin 1 → IVec S16 32) a x).toNat < S64.size a} {hl}
    {k : Vec F S16 .f32 → Prog (TpuEff nD τ sig (Elt F) Λ₀ (thrV d i).2) α}
    (H : St d i fx fb fp fe fm ⊢ wp frame (wpE (defs₀ (F := F)) 𝒱₀ (thrV d i) none) Set.univ (k (mk1 fun l => fe (n l).toNat)) Q) :
    St d i fx fb fp fe fm ⊢ wp frame (wpE (defs₀ (F := F)) 𝒱₀ (thrV d i) none) Set.univ
      (SparseCore.vectorLoadIdx aE ![ix] h hl >>= k) Q := by
  subst hix
  iintro HS
  unfold St at *
  icases HS with ⟨H1, H2, H3, H4, H5⟩
  iapply (SparseCore.wp_vectorLoadIdx (defs := defs₀ (F := F)) 𝒱₀ (thrV d i) none Set.univ (base := aE) (S := Finset.univ) (q := fullShare)
    (Finset.subset_univ _)) $$ H4
  iintro H4
  rw [show loadIdx ((aE.access (.whole S64)).read (Elt F) (mk1 fe)) ![mk1 n] h = mk1 fun l => fe (n l).toNat from by
    rw [show (aE.access (.whole S64)).read (Elt F) (mk1 fe) = mk1 fe from Memref.read_access_whole ..]; rfl]
  iapply H
  isplitl [H1]; iexact H1
  isplitl [H2]; iexact H2
  isplitl [H3]; iexact H3
  isplitl [H4]; iexact H4
  iexact H5

/-- A scatter into the counts. -/
theorem st_sc {Q : α → sProp 𝕄} {idxs : Fin 2 → IVec S16 32} {v : Vec F S16 .f32} {mask : IVec S16 1} {add : Bool} {h : ∀ a x, (idxs a x).toNat < S16x4096.size a} {hs}
    {fp' : ℕ → ℕ → F .f32} (hst : storeIdx (s := S16x4096) (e := .f32) (mk2 fp) idxs v mask add h = mk2 fp')
    {k : PUnit → Prog (TpuEff nD τ sig (Elt F) Λ₀ (thrV d i).2) α}
    (H : St d i fx fb fp' fe fm ⊢ wp frame (wpE (defs₀ (F := F)) 𝒱₀ (thrV d i) none) Set.univ (k ⟨⟩) Q) :
    St d i fx fb fp fe fm ⊢ wp frame (wpE (defs₀ (F := F)) 𝒱₀ (thrV d i) none) Set.univ
      (SparseCore.vectorStoreIdx aP idxs v mask add h hs >>= k) Q := by
  have hset : (aP.access (.whole S16x4096)).set = Finset.univ := Memref.set_access_whole cc0_scratch2
  have hv : (aP.access (.whole S16x4096)).write (Elt F) (mk2 fp) (storeIdx ((aP.access (.whole S16x4096)).read (Elt F) (mk2 fp)) idxs v mask add h) Finset.univ
      = mk2 fp' := by
    rw [show (aP.access (.whole S16x4096)).read (Elt F) (mk2 fp) = mk2 fp from Memref.read_access_whole ..]
    exact (Memref.write_access_whole_univ (Elt F) cc0_scratch2 _ _).trans hst
  have hw := SparseCore.wp_vectorStoreIdx (defs := defs₀ (F := F)) 𝒱₀ (thrV d i) none Set.univ (base := aP) (idxs := idxs) (v := v) (mask := mask)
    (add := add) (h := h) (hs := hs) (k := k) (f := mk2 fp) (Q := Q)
  rw [hv, hset] at hw
  iintro HS
  unfold St at *
  icases HS with ⟨H1, H2, H3, H4, H5⟩
  iapply hw $$ H3
  iintro H3
  iapply H
  isplitl [H1]; iexact H1
  isplitl [H2]; iexact H2
  isplitl [H3]; iexact H3
  isplitl [H4]; iexact H4
  iexact H5

end Cert.Proof.SC
-- ==== Proof.Scatter.lean ====
/-
  The masked scatter of sixteen lanes into a matrix, closed: with the running duplicate count as the added value and the
  last-occurrence mask, every element named by a live lane receives its number of live lanes once; with a constant and
  no addition, every named element becomes the constant. Lanes that are not live contribute nothing.
-/
module

public import proofs.«01_k».proof.Proof.Base
public import Idealize.ShloMosaic.Lib.Pipeline.Value

@[expose] public section

noncomputable section

namespace Cert.Proof.SC

open Cert.KernelIdeal Cert.KernelIdeal.Gen
open Idealize.ShloMosaic

section Fold

variable {ι κ β : Type} [DecidableEq κ]

/-- A fold that, at each live lane, rewrites the element the lane names. -/
def upd (act : ι → Prop) [DecidablePred act] (tgt : ι → κ) (g : β → ι → β) (f : κ → β) (L : List ι) : κ → β :=
  L.foldl (fun f k => if act k then fun j => if j = tgt k then g (f (tgt k)) k else f j else f) f

variable (act : ι → Prop) [DecidablePred act] (tgt : ι → κ) (g : β → ι → β)

/-- An element no live lane names keeps its value. -/
theorem upd_none (L : List ι) (f : κ → β) (j : κ) (h : ∀ k ∈ L, act k → tgt k ≠ j) : upd act tgt g f L j = f j := by
  induction L generalizing f with
  | nil => rfl
  | cons k L ih =>
    unfold upd
    rw [List.foldl_cons]
    refine (ih _ fun k' hk' => h k' (List.mem_cons_of_mem _ hk')).trans ?_
    by_cases ha : act k
    · rw [if_pos ha, if_neg (fun e => h k List.mem_cons_self ha e.symm)]
    · rw [if_neg ha]

/-- An element exactly one live lane names is rewritten by it. -/
theorem upd_one (L : List ι) (hL : L.Nodup) (f : κ → β) (j : κ) (k0 : ι) (hk0 : k0 ∈ L) (ha0 : act k0) (ht0 : tgt k0 = j)
    (h : ∀ k ∈ L, act k → tgt k = j → k = k0) : upd act tgt g f L j = g (f j) k0 := by
  induction L generalizing f with
  | nil => exact absurd hk0 List.not_mem_nil
  | cons k L ih =>
    unfold upd
    rw [List.foldl_cons]
    obtain ⟨hkL, hL'⟩ := List.nodup_cons.mp hL
    by_cases hk : k = k0
    · subst hk
      refine (upd_none act tgt g L _ j fun k' hk' ha' ht' => ?_).trans ?_
      · exact hkL (h k' (List.mem_cons_of_mem _ hk') ha' ht' ▸ hk')
      · rw [if_pos ha0, if_pos ht0.symm, ht0]
    · have hm : k0 ∈ L := (List.mem_cons.mp hk0).resolve_left (fun e => hk e.symm)
      refine (ih hL' _ hm fun k' hk' => h k' (List.mem_cons_of_mem _ hk')).trans ?_
      congr 1
      by_cases ha : act k
      · rw [if_pos ha, if_neg (fun e => hk (h k List.mem_cons_self ha e.symm))]
      · rw [if_neg ha]

/-- Lanes that all write one constant. -/
theorem upd_const (z : β) (L : List ι) (f : κ → β) (j : κ) :
    upd act tgt (fun _ _ => z) f L j = open Classical in if ∃ k ∈ L, act k ∧ tgt k = j then z else f j := by
  classical
  induction L generalizing f with
  | nil => simp [upd]
  | cons k L ih =>
    unfold upd
    rw [List.foldl_cons]
    refine (ih _).trans ?_
    by_cases h1 : ∃ k ∈ L, act k ∧ tgt k = j
    · rw [if_pos h1, if_pos (by obtain ⟨k', h, h'⟩ := h1; exact ⟨k', List.mem_cons_of_mem _ h, h'⟩)]
    · rw [if_neg h1]
      by_cases ha : act k
      · rw [if_pos ha]
        by_cases ht : j = tgt k
        · rw [if_pos ht, if_pos ⟨k, List.mem_cons_self, ha, ht.symm⟩]
        · rw [if_neg ht, if_neg]
          rintro ⟨k', h, h'⟩
          rcases List.mem_cons.mp h with rfl | h
          · exact ht h'.2.symm
          · exact h1 ⟨k', h, h'⟩
      · rw [if_neg ha, if_neg]
        rintro ⟨k', h, h'⟩
        rcases List.mem_cons.mp h with rfl | h
        · exact ha h'.1
        · exact h1 ⟨k', h, h'⟩

theorem upd_const' (z : β) (L : List ι) (f : κ → β) (j : κ) {P : Prop} [Decidable P] (hP : (∃ k ∈ L, act k ∧ tgt k = j) ↔ P) :
    upd act tgt (fun _ _ => z) f L j = if P then z else f j := by
  rw [upd_const]
  by_cases h : P
  · rw [if_pos h, if_pos (hP.mpr h)]
  · rw [if_neg h, if_neg (fun h' => h (hP.mp h'))]

end Fold

variable {F : FTy → Type} [FloatOps F]

/-- `c` occurrences added to an element as one number, or nothing when there are none. -/
def addC (c : ℕ) (x : F .f32) : F .f32 := if c = 0 then x else FloatOps.idxAddf x (FloatOps.sitofp .f32 (BitVec.ofNat 32 c))

/-- How many of the first `lim` lanes name column `b`. -/
def cntL (n : ℕ → BitVec 32) (lim b : ℕ) : ℕ := ((Finset.range lim).filter fun l => (n l).toNat = b).card

/-- The mask of the first `lim` lanes. -/
abbrev maskL (lim : ℕ) : ℕ → BitVec 1 := fun l => if l < lim then 1#1 else 0#1

/-- Lane `k` of a sixteen-lane vector. -/
def lane (k : Fin 16) : S16.Idx := Shape.ofLane (d := ![16]) k
theorem lane_val (k : Fin 16) : (lane k 0).val = k.val := rfl

/-- One lane of a scatter. -/
def scStep {s : Shape} {e : EltTy} {d : Fin 1 → Nat} (idxs : Fin s.rank → IVec ⟨1, d⟩ 32) (v : Vec F ⟨1, d⟩ e) (mask : IVec ⟨1, d⟩ 1)
    (add : Bool) (h : ∀ a x, (idxs a x).toNat < s.size a) (g : Vec F s e) (k : Fin (d 0)) : Vec F s e :=
  let x := Shape.ofLane k
  if mask x = 1 then
    let i := idxAt idxs h x
    let y := if add then Elt.idxAdd e (g i) (v x) else v x
    fun j => if (∀ a, (j a).val = (i a).val) then y else g j
  else g

theorem storeIdx_foldl {s : Shape} {e : EltTy} {d : Fin 1 → Nat} (f : Vec F s e) (idxs : Fin s.rank → IVec ⟨1, d⟩ 32) (v : Vec F ⟨1, d⟩ e)
    (mask : IVec ⟨1, d⟩ 1) (add : Bool) (h : ∀ a x, (idxs a x).toNat < s.size a) :
    storeIdx f idxs v mask add h = (List.finRange (d 0)).foldl (scStep idxs v mask add h) f := by
  unfold storeIdx scStep
  congr! with g k
  dsimp only
  split
  · funext j; congr!
  · rfl

theorem storeIdx_eq_upd (fp : ℕ → ℕ → F .f32) (R n : ℕ → BitVec 32) (v : Vec F S16 .f32) (mask : IVec S16 1) (add : Bool)
    (h : ∀ a x, ((![mk1 R, mk1 n] : Fin 2 → IVec S16 32) a x).toNat < S16x4096.size a) (y : S16x4096.Idx) :
    storeIdx (s := S16x4096) (e := .f32) (mk2 fp) ![mk1 R, mk1 n] v mask add h y
      = upd (fun k : Fin 16 => mask (lane k) = 1) (fun k => ((R k.val).toNat, (n k.val).toNat))
          (fun x k => if add then FloatOps.idxAddf x (v (lane k)) else v (lane k))
          (fun p => fp p.1 p.2) (List.finRange 16) ((y 0).val, (y 1).val) := by
  suffices H : ∀ (L : List (Fin 16)) (f : S16x4096.Idx → F .f32) (f' : ℕ × ℕ → F .f32), (∀ y, f y = f' ((y 0).val, (y 1).val)) →
      ∀ y, (L.foldl (scStep (s := S16x4096) (e := .f32) (d := ![16]) ![mk1 R, mk1 n] v mask add h) f) y
        = upd (fun k : Fin 16 => mask (lane k) = 1) (fun k => ((R k.val).toNat, (n k.val).toNat))
          (fun x k => if add then FloatOps.idxAddf x (v (lane k)) else v (lane k)) f' L ((y 0).val, (y 1).val) from
      (congrFun (storeIdx_foldl _ _ _ _ _ _) y).trans (H (List.finRange 16) (mk2 fp) (fun p => fp p.1 p.2) (fun _ => rfl) y)
  unfold upd
  intro L
  induction L with
  | nil => intro f f' hf y; exact hf y
  | cons k L ih =>
    intro f f' hf y
    refine (congrFun (List.foldl_cons ..) y).trans ((ih _ _ (fun y => ?_) y).trans (congrFun (List.foldl_cons ..) _).symm)
    unfold scStep
    by_cases hm : mask (lane k) = 1
    · rw [if_pos hm]
      refine (congrFun (if_pos hm) y).trans ?_
      have e : (∀ a : Fin 2, (y a).val = ((idxAt (s := S16x4096) ![mk1 R, mk1 n] h (lane k)) a).val)
          ↔ ((y 0).val, (y 1).val) = ((R k.val).toNat, (n k.val).toNat) := by
        constructor
        · intro H; exact Prod.ext (H 0) (H 1)
        · intro H a
          match a with
          | 0 => exact congrArg Prod.fst H
          | 1 => exact congrArg Prod.snd H
      by_cases hy : ((y 0).val, (y 1).val) = ((R k.val).toNat, (n k.val).toNat)
      · rw [if_pos hy]
        refine (if_pos (e.mpr hy)).trans ?_
        rw [hf]
        rfl
      · rw [if_neg hy]
        exact (if_neg (fun H => hy (e.mp H))).trans (hf y)
    · rw [if_neg hm]
      exact (congrFun (if_neg hm) y).trans (hf y)

/-- The counting scatter. -/
theorem scatter_count (fp : ℕ → ℕ → F .f32) (r : BitVec 32) (n : ℕ → BitVec 32) (lim : ℕ) (hlim : lim ≤ 16)
    (h : ∀ a x, ((![mk1 fun _ => r, mk1 n] : Fin 2 → IVec S16 32) a x).toNat < S16x4096.size a) :
    storeIdx (s := S16x4096) (e := .f32) (mk2 fp) ![mk1 fun _ => r, mk1 n]
        (sitofp .f32 (scanCount (s := S16) (mk1 (maskL lim)) (mk1 n)).2) (scanCount (s := S16) (mk1 (maskL lim)) (mk1 n)).1 true h
      = mk2 (fun a b => if a = r.toNat then addC (cntL n lim b) (fp a b) else fp a b) := by
  funext y
  rw [storeIdx_eq_upd]
  have hpos : ∀ i : S16.Idx, (S16.rowMajor i).val = (i 0).val := fun i => Shape.rowMajor_val_one i
  have hml : ∀ k : ℕ, maskL lim k = 1 ↔ k < lim := by intro k; unfold maskL; split <;> simp_all
  -- a lane is the last live one naming its column
  have hact : ∀ k : Fin 16, (scanCount (s := S16) (mk1 (maskL lim)) (mk1 n)).1 (lane k) = 1
      ↔ k.val < lim ∧ ∀ l, k.val < l → l < lim → n l ≠ n k.val := by
    intro k
    unfold scanCount
    dsimp only
    constructor
    · intro H
      by_cases hc : mk1 (maskL lim) (lane k) = 1 ∧ ∀ j : S16.Idx, (S16.rowMajor (lane k)).val < (S16.rowMajor j).val →
          ¬(mk1 (maskL lim) j = 1 ∧ mk1 n j = mk1 n (lane k))
      · refine ⟨(hml _).mp hc.1, fun l hl hl' e => ?_⟩
        refine hc.2 (lane ⟨l, by omega⟩) ?_ ⟨(hml _).mpr hl', e⟩
        rw [hpos, hpos]; exact hl
      · rw [if_neg hc] at H; exact absurd H (by decide)
    · rintro ⟨h1, h2⟩
      rw [if_pos]
      refine ⟨(hml _).mpr h1, fun j hj hj' => ?_⟩
      rw [hpos, hpos] at hj
      exact h2 (j 0).val hj ((hml _).mp hj'.1) hj'.2
  have hcnt : ∀ k : Fin 16, k.val < lim → (∀ l, k.val < l → l < lim → n l ≠ n k.val) →
      (scanCount (s := S16) (mk1 (maskL lim)) (mk1 n)).2 (lane k) = BitVec.ofNat 32 (cntL n lim (n k.val).toNat) := by
    intro k hk hlast
    unfold scanCount
    dsimp only
    refine (if_pos ((hml k.val).mpr hk)).trans ?_
    congr 1
    unfold cntL
    refine Finset.card_bij (fun (j : S16.Idx) _ => (j 0).val) ?_ ?_ ?_
    · intro j hj
      obtain ⟨-, h1, h2, h3⟩ := Finset.mem_filter.mp hj
      refine Finset.mem_filter.mpr ⟨Finset.mem_range.mpr ((hml _).mp h2), ?_⟩
      exact congrArg BitVec.toNat h3
    · intro j _ j' _ e
      funext a
      match a with
      | 0 => exact Fin.ext e
    · intro l hl
      obtain ⟨h1, h2⟩ := Finset.mem_filter.mp hl
      have h1 := Finset.mem_range.mp h1
      have e : n l = n k.val := BitVec.eq_of_toNat_eq h2
      refine ⟨lane (⟨l, by omega⟩ : Fin 16), Finset.mem_filter.mpr ⟨Finset.mem_univ _, ?_, (hml l).mpr h1, e⟩, rfl⟩
      rw [hpos, hpos]
      show l ≤ k.val
      by_contra hc
      exact hlast l (by omega) h1 e
  show _ = if (y 0).val = r.toNat then addC (cntL n lim (y 1).val) (fp (y 0).val (y 1).val) else fp (y 0).val (y 1).val
  by_cases hr : (y 0).val = r.toNat
  · rw [if_pos hr]
    unfold addC
    by_cases hc : cntL n lim (y 1).val = 0
    · rw [if_pos hc]
      refine upd_none _ _ _ _ _ _ fun k _ ha e => ?_
      have ha := (hact k).mp ha
      have : k.val ∈ (Finset.range lim).filter fun l => (n l).toNat = (y 1).val :=
        Finset.mem_filter.mpr ⟨Finset.mem_range.mpr ha.1, congrArg Prod.snd e⟩
      exact absurd hc (Finset.card_ne_zero_of_mem this)
    · rw [if_neg hc]
      have hne : ((Finset.range lim).filter fun l => (n l).toNat = (y 1).val).Nonempty := Finset.card_pos.mp (Nat.pos_of_ne_zero hc)
      obtain ⟨h1, h2⟩ := Finset.mem_filter.mp (Finset.max'_mem _ hne)
      have h1 := Finset.mem_range.mp h1
      have hmax : ∀ l, l < lim → (n l).toNat = (y 1).val → l ≤ Finset.max' _ hne := fun l hl e =>
        Finset.le_max' _ _ (Finset.mem_filter.mpr ⟨Finset.mem_range.mpr hl, e⟩)
      generalize Finset.max' _ hne = k0 at h1 h2 hmax
      have hlast : ∀ l, k0 < l → l < lim → n l ≠ n k0 := fun l hl hl' e => by
        have := hmax l hl' (by rw [e]; exact h2); omega
      have H := upd_one (fun k : Fin 16 => (scanCount (s := S16) (mk1 (maskL lim)) (mk1 n)).1 (lane k) = 1)
        (fun k => (((fun _ => r) k.val : BitVec 32).toNat, (n k.val).toNat))
        (fun x k => if true then FloatOps.idxAddf x ((sitofp .f32 (scanCount (s := S16) (mk1 (maskL lim)) (mk1 n)).2 : FVec F S16 .f32) (lane k)) else
          (sitofp .f32 (scanCount (s := S16) (mk1 (maskL lim)) (mk1 n)).2 : FVec F S16 .f32) (lane k))
        (List.finRange 16) (List.nodup_finRange 16) (fun p => fp p.1 p.2) ((y 0).val, (y 1).val) ⟨k0, by omega⟩ (List.mem_finRange _)
        ((hact _).mpr ⟨h1, hlast⟩) (Prod.ext hr.symm h2) (fun k _ ha e => by
          have ha := (hact k).mp ha
          have e2 : (n k.val).toNat = (y 1).val := congrArg Prod.snd e
          have h3 := hmax k.val ha.1 e2
          apply Fin.ext
          show k.val = k0
          by_contra hne
          exact ha.2 k0 (by omega) h1 (BitVec.eq_of_toNat_eq (h2.trans e2.symm)))
      refine H.trans ?_
      rw [if_pos rfl]
      show FloatOps.idxAddf _ (FloatOps.sitofp .f32 ((scanCount (s := S16) (mk1 (maskL lim)) (mk1 n)).2 (lane ⟨k0, _⟩))) = _
      rw [hcnt ⟨k0, by omega⟩ h1 hlast]
      rw [show (n (⟨k0, by omega⟩ : Fin 16).val).toNat = (y 1).val from h2]
  · rw [if_neg hr]
    refine upd_none _ _ _ _ _ _ fun k _ ha e => hr (congrArg Prod.fst e).symm

/-- The constant scatter. -/
theorem scatter_const (fp : ℕ → ℕ → F .f32) (r : BitVec 32) (n : ℕ → BitVec 32) (z : F .f32) (lim : ℕ) (hlim : lim ≤ 16)
    (h : ∀ a x, ((![mk1 fun _ => r, mk1 n] : Fin 2 → IVec S16 32) a x).toNat < S16x4096.size a) :
    storeIdx (s := S16x4096) (e := .f32) (mk2 fp) ![mk1 fun _ => r, mk1 n] (mk1 fun _ => z) (mk1 (maskL lim)) false h
      = mk2 (fun a b => if a = r.toNat ∧ cntL n lim b ≠ 0 then z else fp a b) := by
  funext y
  rw [storeIdx_eq_upd]
  have hml : ∀ k : ℕ, maskL lim k = 1 ↔ k < lim := by intro k; unfold maskL; split <;> simp_all
  refine upd_const' _ _ z _ _ _ (P := (y 0).val = r.toNat ∧ cntL n lim (y 1).val ≠ 0) ?_
  constructor
  · rintro ⟨k, -, ha, e⟩
    refine ⟨(congrArg Prod.fst e).symm, ?_⟩
    exact Finset.card_ne_zero_of_mem (a := k.val) (Finset.mem_filter.mpr ⟨Finset.mem_range.mpr ((hml k.val).mp ha), congrArg Prod.snd e⟩)
  · rintro ⟨h1, h2⟩
    obtain ⟨l, hl⟩ := Finset.card_pos.mp (Nat.pos_of_ne_zero h2)
    obtain ⟨hl, e⟩ := Finset.mem_filter.mp hl
    have hl := Finset.mem_range.mp hl
    exact ⟨⟨l, by omega⟩, List.mem_finRange _, (hml l).mpr hl, Prod.ext h1.symm e⟩

end Cert.Proof.SC
-- ==== Proof.Vals.lean ====
/-
  What a tile computes, as functions of natural-number coordinates over any float values: the minimum and maximum of a
  row as the lanes fold them, the scaled row, the bin of an element, the counts of a row, and the vectors the
  straight-line code holds on the way.
-/
module

public import proofs.«01_k».proof.Proof.Steps
public import proofs.«01_k».proof.Proof.Scatter

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Values -/

/-- Lane `l`'s minimum over the eight chunks of a row. -/
def mnL (row : ℕ → F .f32) (l : ℕ) : F .f32 :=
  FloatOps.minimumf (FloatOps.minimumf (FloatOps.minimumf (FloatOps.minimumf (FloatOps.minimumf (FloatOps.minimumf (FloatOps.minimumf
    (row (0 + l)) (row (16 + l))) (row (32 + l))) (row (48 + l))) (row (64 + l))) (row (80 + l))) (row (96 + l))) (row (112 + l))
/-- Lane `l`'s maximum over the eight chunks of a row. -/
def mxL (row : ℕ → F .f32) (l : ℕ) : F .f32 :=
  FloatOps.maximumf (FloatOps.maximumf (FloatOps.maximumf (FloatOps.maximumf (FloatOps.maximumf (FloatOps.maximumf (FloatOps.maximumf
    (row (0 + l)) (row (16 + l))) (row (32 + l))) (row (48 + l))) (row (64 + l))) (row (80 + l))) (row (96 + l))) (row (112 + l))

/-- One round of the reduction over lanes: each lane with the lane at distance `k`. -/
def bmin (k : ℕ) (m : ℕ → F .f32) (l : ℕ) : F .f32 := FloatOps.minimumf (m l) (m (l ^^^ k))
def bmax (k : ℕ) (m : ℕ → F .f32) (l : ℕ) : F .f32 := FloatOps.maximumf (m l) (m (l ^^^ k))

/-- The row's minimum and maximum, as lane `l` holds them. -/
def rmin (row : ℕ → F .f32) : ℕ → F .f32 := bmin 1 (bmin 2 (bmin 4 (bmin 8 (mnL row))))
def rmax (row : ℕ → F .f32) : ℕ → F .f32 := bmax 1 (bmax 2 (bmax 4 (bmax 8 (mxL row))))

/-- The divisor of the scaling. -/
def den (row : ℕ → F .f32) (l : ℕ) : F .f32 :=
  FloatOps.addf (FloatOps.subf (rmax row l) (rmin row l)) (Scalar.ofBits .f32 0x358637BD#32)

/-- The scaled element of column `c + l`. -/
def xs (row : ℕ → F .f32) (c l : ℕ) : F .f32 :=
  FloatOps.addf (FloatOps.mulf (FloatOps.divf (FloatOps.subf (row (c + l)) (rmin row l)) (den row l)) (Scalar.ofBits .f32 0x40000000#32))
    (Scalar.ofBits .f32 0xBF800000#32)

/-- The bin an element falls in by truncation, between 0 and 49. -/
def e0 (row : ℕ → F .f32) (c l : ℕ) : BitVec 32 :=
  IntOp.minsi 49#32 (IntOp.maxsi 0#32 (FloatOps.fptosi 32 (FloatOps.mulf (FloatOps.subf (xs row c l) (Scalar.ofBits .f32 0xBF800000#32))
    (Scalar.ofBits .f32 0x41C80000#32))))

/-- The bin corrected against the boundaries on either side. -/
def binc (fe row : ℕ → F .f32) (c l : ℕ) : BitVec 32 :=
  IntOp.subi (IntOp.addi (e0 row c l) ((FloatOps.cmpf .olt (fe (IntOp.addi (e0 row c l) 1#32).toNat) (xs row c l)).setWidth 32))
    ((FloatOps.cmpf .oge (fe (e0 row c l).toNat) (xs row c l)).setWidth 32)

/-- The bin of column `c`. -/
def binW (fe row : ℕ → F .f32) (c : ℕ) : BitVec 32 := binc fe row (16 * (c / 16)) (c % 16)

/-- The scratch of bins with row `r` filled. -/
def fillB (fe : ℕ → F .f32) (row : ℕ → F .f32) (r : ℕ) (fb : ℕ → ℕ → BitVec 32) : ℕ → ℕ → BitVec 32 :=
  fun a b => if a = r ∧ b < 128 then binW fe row b else fb a b

/-- The column of the counts a pair of consecutive bins names. -/
def pidx (b : ℕ → BitVec 32) (t : ℕ) : BitVec 32 :=
  IntOp.minsi 4095#32 (IntOp.maxsi 0#32 (IntOp.addi (IntOp.muli (b t) 64#32) (b (t + 1))))

theorem minmax_toNat (k : BitVec 32) (hk : k.toNat < 2 ^ 31) (w : BitVec 32) : (IntOp.minsi k (IntOp.maxsi 0#32 w)).toNat ≤ k.toNat := by
  have hk' : k.toInt = k.toNat := BitVec.toInt_eq_toNat_of_lt (by omega)
  have hm : ∃ m : BitVec 32, IntOp.maxsi 0#32 w = m ∧ 0 ≤ m.toInt := by
    refine ⟨_, rfl, ?_⟩
    unfold IntOp.maxsi
    by_cases h : w.slt 0#32
    · rw [if_pos h]; decide
    · rw [if_neg h]
      simp only [BitVec.slt, decide_eq_true_eq] at h
      exact not_lt.mp h
  obtain ⟨m, e, h0⟩ := hm
  rw [e]
  unfold IntOp.minsi
  by_cases h : k.slt m
  · rw [if_pos h]
  · rw [if_neg h]
    simp only [BitVec.slt, decide_eq_true_eq, hk'] at h
    have hw : m.toInt = if 2 * m.toNat < 2 ^ 32 then (m.toNat : ℤ) else (m.toNat : ℤ) - (2 ^ 32 : ℕ) := BitVec.toInt_eq_toNat_cond m
    have := m.isLt
    split at hw <;> omega

theorem e0_le (row : ℕ → F .f32) (c l : ℕ) : (e0 row c l).toNat ≤ 49 := minmax_toNat 49#32 (by decide) _
theorem pidx_le (b : ℕ → BitVec 32) (t : ℕ) : (pidx b t).toNat ≤ 4095 := minmax_toNat 4095#32 (by decide) _

theorem e0_succ (row : ℕ → F .f32) (c l : ℕ) : (IntOp.addi (e0 row c l) 1#32).toNat = (e0 row c l).toNat + 1 := by
  have := e0_le row c l
  unfold IntOp.addi
  rw [BitVec.toNat_add]
  show ((e0 row c l).toNat + 1) % 2 ^ 32 = _
  omega

/-- The counts of chunk `j` (lanes below `lim`) added to a row. -/
def addChunk (b : ℕ → BitVec 32) (c lim : ℕ) (g : ℕ → F .f32) : ℕ → F .f32 := fun col => addC (cntL (fun l => pidx b (c + l)) lim col) (g col)

/-- A row of counts, from `z`. -/
def pRow (b : ℕ → BitVec 32) (g : ℕ → F .f32) : ℕ → F .f32 :=
  addChunk b 112 15 (addChunk b 96 16 (addChunk b 80 16 (addChunk b 64 16 (addChunk b 48 16 (addChunk b 32 16 (addChunk b 16 16 (addChunk b 0 16 g)))))))

/-- A pair of sixteen-lane vectors side by side. -/
def pairV (v w : ℕ → F .f32) : ℕ → F .f32 := fun b => if b < 16 then v b else w (b - 16)

/-! ## Casts between a row block and a vector -/

theorem cast_rowV {α : Type} (f : ℕ → ℕ → α) (r c : ℕ) (h : S1x16.ShapeCasts S16) : shapeCast S16 (rowV f r c) h = mk1 (fun l => f r (c + l)) := by
  funext y
  exact shapeCast_dropUnit_apply (n := 1) ![16] (rowV f r c) h y

theorem cast_vecR {α : Type} (v : ℕ → α) (h : S16.ShapeCasts S1x16) : shapeCast S1x16 (mk1 v) h = fun y => v (y 1).val := by
  funext y
  exact shapeCast_addUnit_apply (n := 1) ![16] (mk1 v) h y

theorem mk1_congr {α : Type} {n : ℕ} {f g : ℕ → α} (h : ∀ l < n, f l = g l) : (mk1 f : (⟨1, ![n]⟩ : Shape).Idx → α) = mk1 g := by
  funext y; exact h _ (y 0).isLt

theorem mk2_congr {α : Type} {a b : ℕ} {f g : ℕ → ℕ → α} (h : ∀ i < a, ∀ j < b, f i j = g i j) :
    (mk2 f : (⟨2, ![a, b]⟩ : Shape).Idx → α) = mk2 g := by
  funext y; exact h _ (y 0).isLt _ (y 1).isLt

theorem iota_mk1 (h) : iota .scVector S16 32 [0] h = mk1 (fun l => BitVec.ofNat 32 l) := by
  funext y; exact iota_single_apply ..

variable {d : Dev nD} {i : grid0.Coords} {fx : ℕ → ℕ → F .f32} {fb : ℕ → ℕ → BitVec 32} {fp : ℕ → ℕ → F .f32} {fe fm : ℕ → F .f32}

theorem St_congrM {fm' : ℕ → F .f32} (h : ∀ l < 32, fm l = fm' l) : St d i fx fb fp fe fm = St d i fx fb fp fe fm' := by
  unfold St; rw [show (mk1 fm : (⟨1, ![32]⟩ : Shape).Idx → F .f32) = mk1 fm' from mk1_congr h]

theorem St_congrB {fb' : ℕ → ℕ → BitVec 32} (h : ∀ a < 64, ∀ b < 144, fb a b = fb' a b) : St d i fx fb fp fe fm = St d i fx fb' fp fe fm := by
  unfold St; rw [show (mk2 fb : (⟨2, ![64, 144]⟩ : Shape).Idx → BitVec 32) = mk2 fb' from mk2_congr h]

theorem St_congrP {fp' : ℕ → ℕ → F .f32} (h : ∀ a < 16, ∀ b < 4096, fp a b = fp' a b) : St d i fx fb fp fe fm = St d i fx fb fp' fe fm := by
  unfold St; rw [show (mk2 fp : (⟨2, ![16, 4096]⟩ : Shape).Idx → F .f32) = mk2 fp' from mk2_congr h]

theorem St_pair (v w : ℕ → F .f32) : St d i fx fb fp fe (setVec (setVec fm 0 v) 16 w) = St d i fx fb fp fe (pairV v w) := by
  refine St_congrM fun l hl => ?_
  unfold setVec pairV
  by_cases h : l < 16
  · rw [if_neg (by omega), if_pos (by omega), if_pos h]; rfl
  · rw [if_pos (by omega), if_neg h]

/-- The lane exchanged with lane `l`, as a word: its two uses, in the first half and in the second. -/
theorem xor_lane : ∀ l < 16, ∀ k ∈ [8, 4, 2, 1], (IntOp.xori (BitVec.ofNat 32 l) (BitVec.ofNat 32 k)).toNat = l ^^^ k ∧ l ^^^ k < 16
    ∧ (IntOp.addi (IntOp.xori (BitVec.ofNat 32 l) (BitVec.ofNat 32 k)) 16#32).toNat = (l ^^^ k) + 16 := by decide

theorem xor_lo {l k : ℕ} (hl : l < 16) (hk : k ∈ [8, 4, 2, 1]) (v w : ℕ → F .f32) :
    pairV v w (IntOp.xori (BitVec.ofNat 32 l) (BitVec.ofNat 32 k)).toNat = v (l ^^^ k) := by
  obtain ⟨h1, h2, -⟩ := xor_lane l hl k hk
  rw [h1]; unfold pairV; rw [if_pos h2]

theorem xor_hi {l k : ℕ} (hl : l < 16) (hk : k ∈ [8, 4, 2, 1]) (v w : ℕ → F .f32) :
    pairV v w (IntOp.addi (IntOp.xori (BitVec.ofNat 32 l) (BitVec.ofNat 32 k)) 16#32).toNat = w (l ^^^ k) := by
  obtain ⟨h1, h2, h3⟩ := xor_lane l hl k hk
  rw [h3]; unfold pairV; rw [if_neg (by omega)]; rfl

/-! ## Sequencing -/

theorem st_bind {α β : Type} {R : sProp 𝕄} {Q : β → sProp 𝕄} {p : Prog (TpuEff nD τ sig (Elt F) Λ₀ (thrV d i).2) α}
    {k : α → Prog (TpuEff nD τ sig (Elt F) Λ₀ (thrV d i).2) β}
    (H : R ⊢ wp frame (wpE (defs₀ (F := F)) 𝒱₀ (thrV d i) none) Set.univ p
      fun x => wp frame (wpE (defs₀ (F := F)) 𝒱₀ (thrV d i) none) Set.univ (k x) Q) :
    R ⊢ wp frame (wpE (defs₀ (F := F)) 𝒱₀ (thrV d i) none) Set.univ (p >>= k) Q := by
  rw [wp_bind]; exact H

theorem st_pure {α : Type} {R : sProp 𝕄} {Q : α → sProp 𝕄} {x : α} (H : R ⊢ Q x) :
    R ⊢ wp frame (wpE (defs₀ (F := F)) 𝒱₀ (thrV d i) none) Set.univ (pure x) Q := by
  rw [wp_pure]; exact H.trans fupd_intro

end Cert.Proof.SC
-- ==== Proof.FillA.lean ====
/-
  The straight-line code of one row of the fill: the row's minimum and maximum over lanes.
-/
module

public import proofs.«01_k».proof.Proof.Vals

@[expose] public section

set_option maxRecDepth 16384

noncomputable section

namespace Cert.Proof.SC

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable {d : Dev nD} {i : grid0.Coords} {fx : ℕ → ℕ → F .f32} {fb : ℕ → ℕ → BitVec 32} {fp : ℕ → ℕ → F .f32} {fe fm : ℕ → F .f32}

/-- The loads of a row and the first round's operands. -/
theorem part1 {Q : _ → sProp 𝕄} (t1 : Fin k0_t1_loop.trips) (t2 : Fin k0_t2_loop.trips) (arg12 c0 c1 : BitVec 32)
    (H : ∀ (v12 : BitVec 32) (hw : k0_chk1 (mk1 fun l => IntOp.xori (BitVec.ofNat 32 l) 8#32)),
      St d i fx fb fp fe (pairV (mnL (fx (16 * t1.val + t2.val))) (mxL (fx (16 * t1.val + t2.val)))) ⊢ Q ⟨Scf.iv c0 c1 t2, v12, (mk1 fun l => fx (16 * t1.val + t2.val) (0 + l)), (mk1 fun l => fx (16 * t1.val + t2.val) (16 + l)), (mk1 fun l => fx (16 * t1.val + t2.val) (32 + l)), (mk1 fun l => fx (16 * t1.val + t2.val) (48 + l)), (mk1 fun l => fx (16 * t1.val + t2.val) (64 + l)), (mk1 fun l => fx (16 * t1.val + t2.val) (80 + l)), (mk1 fun l => fx (16 * t1.val + t2.val) (96 + l)), (mk1 fun l => fx (16 * t1.val + t2.val) (112 + l)),
        mk1 (mnL (fx (16 * t1.val + t2.val))), mk1 (mxL (fx (16 * t1.val + t2.val))), mk1 (fun l => IntOp.xori (BitVec.ofNat 32 l) 8#32), hw⟩) :
    St d i fx fb fp fe fm ⊢ wp frame (wpE (defs₀ (F := F)) 𝒱₀ (thrV d i) none) Set.univ (k0_part1 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 (mk1 fun l => BitVec.ofNat 32 l) t1 arg12 c0 c1 t2) Q := by
  rw [k0_part1_eq_skeleton]
  unfold k0_part1_skel
  dsimp only
  refine st_ldX (k0_off2_eq t1 t2) ?_
  refine st_ldX (k0_off3_eq t1 t2) ?_
  refine st_ldX (k0_off4_eq t1 t2) ?_
  refine st_ldX (k0_off5_eq t1 t2) ?_
  refine st_ldX (k0_off6_eq t1 t2) ?_
  refine st_ldX (k0_off7_eq t1 t2) ?_
  refine st_ldX (k0_off8_eq t1 t2) ?_
  refine st_ldX (k0_off9_eq t1 t2) ?_
  refine st_ldM fun _ => ?_
  refine st_stM (v := mnL (fx (16 * t1.val + t2.val))) (by
    simp only [k0_pay20, k0_pay12, k0_pay13, k0_pay14, k0_pay15, k0_pay16, k0_pay17, k0_pay18, k0_pay19, cast_rowV]; rfl) ?_
  refine st_ldM fun _ => ?_
  refine st_stM (v := mxL (fx (16 * t1.val + t2.val))) (by
    simp only [k0_pay21, k0_pay12, k0_pay13, k0_pay14, k0_pay15, k0_pay16, k0_pay17, k0_pay18, k0_pay19, cast_rowV]; rfl) ?_
  rw [St_pair]
  have hw : k0_chk1 (mk1 fun l => IntOp.xori (BitVec.ofNat 32 l) 8#32) := fun a x => by
    have hx : (x 0).val < 16 := (x 0).isLt
    obtain ⟨h1, h2, -⟩ := xor_lane _ hx 8 (by decide)
    match a with
    | 0 => exact lt_of_eq_of_lt h1 (by show _ < 32; omega)
  refine st_assume (P := k0_chk1 _) hw ?_
  refine st_pure ?_
  simp only [k0_pay20, k0_pay21, k0_pay22, k0_pay12, k0_pay13, k0_pay14, k0_pay15, k0_pay16, k0_pay17, k0_pay18, k0_pay19, cast_rowV]
  exact H _ hw

/-- The reduction over lanes, up to the last exchange of the maximum. -/
theorem part2 {Q : _ → sProp 𝕄} (row : ℕ → F .f32) (hw1 : k0_chk1 (mk1 fun l => IntOp.xori (BitVec.ofNat 32 l) 8#32))
    (H : ∀ (hw : k0_chk8 (mk1 fun l => IntOp.addi (IntOp.xori (BitVec.ofNat 32 l) 1#32) 16#32)),
      St d i fx fb fp fe (pairV (bmin 2 (bmin 4 (bmin 8 (mnL row)))) (bmax 2 (bmax 4 (bmax 8 (mxL row)))))
        ⊢ Q ⟨mk1 (bmax 2 (bmax 4 (bmax 8 (mxL row)))), mk1 (rmin row), mk1 (fun l => IntOp.addi (IntOp.xori (BitVec.ofNat 32 l) 1#32) 16#32), hw⟩) :
    St d i fx fb fp fe (pairV (mnL row) (mxL row)) ⊢ wp frame (wpE (defs₀ (F := F)) 𝒱₀ (thrV d i) none) Set.univ (k0_part2 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 (mk1 fun l => BitVec.ofNat 32 l) (mk1 (mnL row)) (mk1 (mxL row)) (mk1 fun l => IntOp.xori (BitVec.ofNat 32 l) 8#32) hw1) Q := by
  rw [k0_part2_eq_skeleton]
  unfold k0_part2_skel
  dsimp only
  have hlo : ∀ k ∈ [8, 4, 2, 1], ∀ a x, ((![mk1 fun l => IntOp.xori (BitVec.ofNat 32 l) (BitVec.ofNat 32 k)] : Fin 1 → IVec S16 32) a x).toNat < S32.size a := by
    intro k hk a x
    have hx : (x 0).val < 16 := (x 0).isLt
    obtain ⟨h1, h2, -⟩ := xor_lane _ hx k hk
    match a with
    | 0 => exact lt_of_eq_of_lt h1 (by show _ < 32; omega)
  have hhi : ∀ k ∈ [8, 4, 2, 1], ∀ a x, ((![mk1 fun l => IntOp.addi (IntOp.xori (BitVec.ofNat 32 l) (BitVec.ofNat 32 k)) 16#32] : Fin 1 → IVec S16 32) a x).toNat < S32.size a := by
    intro k hk a x
    have hx : (x 0).val < 16 := (x 0).isLt
    obtain ⟨h1, h2, h3⟩ := xor_lane _ hx k hk
    match a with
    | 0 => exact lt_of_eq_of_lt h3 (by show _ < 32; omega)
  refine st_gM (n := fun l => IntOp.xori (BitVec.ofNat 32 l) (BitVec.ofNat 32 8)) rfl ?_
  rw [show (mk1 fun l => pairV (mnL row) (mxL row) (IntOp.xori (BitVec.ofNat 32 l) (BitVec.ofNat 32 8)).toNat : S16.Idx → F .f32)
    = mk1 fun l => (mnL row) (l ^^^ 8) from mk1_congr fun l hl => xor_lo hl (by decide) _ _]
  refine st_assume (P := k0_chk2 _) (hhi 8 (by decide)) ?_
  refine st_gM (n := fun l => IntOp.addi (IntOp.xori (BitVec.ofNat 32 l) (BitVec.ofNat 32 8)) 16#32) rfl ?_
  rw [show (mk1 fun l => pairV (mnL row) (mxL row) (IntOp.addi (IntOp.xori (BitVec.ofNat 32 l) (BitVec.ofNat 32 8)) 16#32).toNat : S16.Idx → F .f32)
    = mk1 fun l => (mxL row) (l ^^^ 8) from mk1_congr fun l hl => xor_hi hl (by decide) _ _]
  refine st_ldM fun _ => ?_
  refine st_stM (v := bmin 8 (mnL row)) rfl ?_
  refine st_ldM fun _ => ?_
  refine st_stM (v := bmax 8 (mxL row)) rfl ?_
  rw [St_pair]
  refine st_assume (P := k0_chk3 _) (hlo 4 (by decide)) ?_
  refine st_gM (n := fun l => IntOp.xori (BitVec.ofNat 32 l) (BitVec.ofNat 32 4)) rfl ?_
  rw [show (mk1 fun l => pairV (bmin 8 (mnL row)) (bmax 8 (mxL row)) (IntOp.xori (BitVec.ofNat 32 l) (BitVec.ofNat 32 4)).toNat : S16.Idx → F .f32)
    = mk1 fun l => (bmin 8 (mnL row)) (l ^^^ 4) from mk1_congr fun l hl => xor_lo hl (by decide) _ _]
  refine st_assume (P := k0_chk4 _) (hhi 4 (by decide)) ?_
  refine st_gM (n := fun l => IntOp.addi (IntOp.xori (BitVec.ofNat 32 l) (BitVec.ofNat 32 4)) 16#32) rfl ?_
  rw [show (mk1 fun l => pairV (bmin 8 (mnL row)) (bmax 8 (mxL row)) (IntOp.addi (IntOp.xori (BitVec.ofNat 32 l) (BitVec.ofNat 32 4)) 16#32).toNat : S16.Idx → F .f32)
    = mk1 fun l => (bmax 8 (mxL row)) (l ^^^ 4) from mk1_congr fun l hl => xor_hi hl (by decide) _ _]
  refine st_ldM fun _ => ?_
  refine st_stM (v := bmin 4 (bmin 8 (mnL row))) rfl ?_
  refine st_ldM fun _ => ?_
  refine st_stM (v := bmax 4 (bmax 8 (mxL row))) rfl ?_
  rw [St_pair]
  refine st_assume (P := k0_chk5 _) (hlo 2 (by decide)) ?_
  refine st_gM (n := fun l => IntOp.xori (BitVec.ofNat 32 l) (BitVec.ofNat 32 2)) rfl ?_
  rw [show (mk1 fun l => pairV (bmin 4 (bmin 8 (mnL row))) (bmax 4 (bmax 8 (mxL row))) (IntOp.xori (BitVec.ofNat 32 l) (BitVec.ofNat 32 2)).toNat : S16.Idx → F .f32)
    = mk1 fun l => (bmin 4 (bmin 8 (mnL row))) (l ^^^ 2) from mk1_congr fun l hl => xor_lo hl (by decide) _ _]
  refine st_assume (P := k0_chk6 _) (hhi 2 (by decide)) ?_
  refine st_gM (n := fun l => IntOp.addi (IntOp.xori (BitVec.ofNat 32 l) (BitVec.ofNat 32 2)) 16#32) rfl ?_
  rw [show (mk1 fun l => pairV (bmin 4 (bmin 8 (mnL row))) (bmax 4 (bmax 8 (mxL row))) (IntOp.addi (IntOp.xori (BitVec.ofNat 32 l) (BitVec.ofNat 32 2)) 16#32).toNat : S16.Idx → F .f32)
    = mk1 fun l => (bmax 4 (bmax 8 (mxL row))) (l ^^^ 2) from mk1_congr fun l hl => xor_hi hl (by decide) _ _]
  refine st_ldM fun _ => ?_
  refine st_stM (v := bmin 2 (bmin 4 (bmin 8 (mnL row)))) rfl ?_
  refine st_ldM fun _ => ?_
  refine st_stM (v := bmax 2 (bmax 4 (bmax 8 (mxL row)))) rfl ?_
  rw [St_pair]
  refine st_assume (P := k0_chk7 _) (hlo 1 (by decide)) ?_
  refine st_gM (n := fun l => IntOp.xori (BitVec.ofNat 32 l) (BitVec.ofNat 32 1)) rfl ?_
  rw [show (mk1 fun l => pairV (bmin 2 (bmin 4 (bmin 8 (mnL row)))) (bmax 2 (bmax 4 (bmax 8 (mxL row)))) (IntOp.xori (BitVec.ofNat 32 l) (BitVec.ofNat 32 1)).toNat : S16.Idx → F .f32)
    = mk1 fun l => (bmin 2 (bmin 4 (bmin 8 (mnL row)))) (l ^^^ 1) from mk1_congr fun l hl => xor_lo hl (by decide) _ _]
  refine st_assume (P := k0_chk8 _) (hhi 1 (by decide)) ?_
  refine st_pure ?_
  exact H (hhi 1 (by decide))

end Cert.Proof.SC
-- ==== Proof.FillB.lean ====
/-
  The straight-line code of one row of the fill: the bins of the eight chunks.
-/
module

public import proofs.«01_k».proof.Proof.FillA

@[expose] public section

set_option maxRecDepth 16384

noncomputable section

namespace Cert.Proof.SC

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable {d : Dev nD} {i : grid0.Coords} {fx : ℕ → ℕ → F .f32} {fb : ℕ → ℕ → BitVec 32} {fp : ℕ → ℕ → F .f32} {fe fm : ℕ → F .f32}

/-- The word an element is truncated to before it is clamped. -/
def e0raw (row : ℕ → F .f32) (c l : ℕ) : BitVec 32 :=
  FloatOps.fptosi 32 (FloatOps.mulf (FloatOps.subf (xs row c l) (Scalar.ofBits .f32 0xBF800000#32)) (Scalar.ofBits .f32 0x41C80000#32))

theorem e0_inb (row : ℕ → F .f32) (c : ℕ) : ∀ a x, ((![mk1 (e0 row c)] : Fin 1 → IVec S16 32) a x).toNat < S64.size a := by
  intro a x
  match a with
  | 0 => exact lt_of_le_of_lt (e0_le row c (x 0).val) (by show _ < 64; omega)

theorem e1_inb (row : ℕ → F .f32) (c : ℕ) :
    ∀ a x, ((![mk1 fun l => IntOp.addi (e0 row c l) 1#32] : Fin 1 → IVec S16 32) a x).toNat < S64.size a := by
  intro a x
  match a with
  | 0 => exact lt_of_eq_of_lt (e0_succ row c (x 0).val) (by have := e0_le row c (x 0).val; show _ < 64; omega)

/-- The last exchange, and chunk 0. -/
theorem part3 {Q : _ → sProp 𝕄} (t1 : Fin k0_t1_loop.trips) (t2 : Fin k0_t2_loop.trips) (v12 : BitVec 32) (hw : k0_chk8 (mk1 fun l => IntOp.addi (IntOp.xori (BitVec.ofNat 32 l) 1#32) 16#32))
    (H : St d i fx (setRow fb (16 * t1.val + t2.val) 0 (binc fe (fx (16 * t1.val + t2.val)) 0)) fp fe (pairV (bmin 2 (bmin 4 (bmin 8 (mnL (fx (16 * t1.val + t2.val)))))) (bmax 2 (bmax 4 (bmax 8 (mxL (fx (16 * t1.val + t2.val))))))) ⊢ Q ⟨(mk1 (den (fx (16 * t1.val + t2.val)))), mk1 (xs (fx (16 * t1.val + t2.val)) 16), mk1 (e0raw (fx (16 * t1.val + t2.val)) 16)⟩) :
    St d i fx fb fp fe (pairV (bmin 2 (bmin 4 (bmin 8 (mnL (fx (16 * t1.val + t2.val)))))) (bmax 2 (bmax 4 (bmax 8 (mxL (fx (16 * t1.val + t2.val))))))) ⊢ wp frame (wpE (defs₀ (F := F)) 𝒱₀ (thrV d i) none) Set.univ (k0_part3 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 v12 (mk1 fun l => fx (16 * t1.val + t2.val) (0 + l)) (mk1 fun l => fx (16 * t1.val + t2.val) (16 + l)) (mk1 (bmax 2 (bmax 4 (bmax 8 (mxL (fx (16 * t1.val + t2.val))))))) (mk1 (rmin (fx (16 * t1.val + t2.val)))) (mk1 fun l => IntOp.addi (IntOp.xori (BitVec.ofNat 32 l) 1#32) 16#32) hw) Q := by
  rw [k0_part3_eq_skeleton]
  unfold k0_part3_skel
  dsimp only
  refine st_gM (n := fun l => IntOp.addi (IntOp.xori (BitVec.ofNat 32 l) (BitVec.ofNat 32 1)) 16#32) rfl ?_
  rw [show (mk1 fun l => (pairV (bmin 2 (bmin 4 (bmin 8 (mnL (fx (16 * t1.val + t2.val)))))) (bmax 2 (bmax 4 (bmax 8 (mxL (fx (16 * t1.val + t2.val))))))) (IntOp.addi (IntOp.xori (BitVec.ofNat 32 l) (BitVec.ofNat 32 1)) 16#32).toNat : S16.Idx → F .f32)
    = mk1 fun l => (bmax 2 (bmax 4 (bmax 8 (mxL (fx (16 * t1.val + t2.val)))))) (l ^^^ 1) from mk1_congr fun l hl => xor_hi hl (by decide) _ _]
  refine st_assume (P := k0_chk9 _) (e0_inb (fx (16 * t1.val + t2.val)) 0) ?_
  refine st_gE (n := e0 (fx (16 * t1.val + t2.val)) 0) rfl ?_
  refine st_assume (P := k0_chk10 _) (e1_inb (fx (16 * t1.val + t2.val)) 0) ?_
  refine st_gE (n := fun l => IntOp.addi (e0 (fx (16 * t1.val + t2.val)) 0 l) 1#32) rfl ?_
  refine st_ldB' fun _ => ?_
  refine st_stB (k0_off10_eq t1 t2) (v := binc fe (fx (16 * t1.val + t2.val)) 0) (cast_vecR _ _) ?_
  refine st_pure ?_
  exact H

/-- Chunk 1, and the bins of chunk 2. -/
theorem part4 {Q : _ → sProp 𝕄} (t1 : Fin k0_t1_loop.trips) (t2 : Fin k0_t2_loop.trips) (v12 : BitVec 32)
    (H : St d i fx (setRow fb (16 * t1.val + t2.val) 16 (binc fe (fx (16 * t1.val + t2.val)) 16)) fp fe fm ⊢ Q (mk1 (binc fe (fx (16 * t1.val + t2.val)) 32))) :
    St d i fx fb fp fe fm ⊢ wp frame (wpE (defs₀ (F := F)) 𝒱₀ (thrV d i) none) Set.univ (k0_part4 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 v12 (mk1 fun l => fx (16 * t1.val + t2.val) (32 + l)) (mk1 (rmin (fx (16 * t1.val + t2.val)))) (mk1 (den (fx (16 * t1.val + t2.val)))) (mk1 (xs (fx (16 * t1.val + t2.val)) 16)) (mk1 (e0raw (fx (16 * t1.val + t2.val)) 16))) Q := by
  rw [k0_part4_eq_skeleton]
  unfold k0_part4_skel
  dsimp only
  refine st_assume (P := k0_chk11 _) (e0_inb (fx (16 * t1.val + t2.val)) 16) ?_
  refine st_gE (n := e0 (fx (16 * t1.val + t2.val)) 16) rfl ?_
  refine st_assume (P := k0_chk12 _) (e1_inb (fx (16 * t1.val + t2.val)) 16) ?_
  refine st_gE (n := fun l => IntOp.addi (e0 (fx (16 * t1.val + t2.val)) 16 l) 1#32) rfl ?_
  refine st_ldB' fun _ => ?_
  refine st_stB (k0_off11_eq t1 t2) (v := binc fe (fx (16 * t1.val + t2.val)) 16) (cast_vecR _ _) ?_
  refine st_assume (P := k0_chk13 _) (e0_inb (fx (16 * t1.val + t2.val)) 32) ?_
  refine st_gE (n := e0 (fx (16 * t1.val + t2.val)) 32) rfl ?_
  refine st_assume (P := k0_chk14 _) (e1_inb (fx (16 * t1.val + t2.val)) 32) ?_
  refine st_gE (n := fun l => IntOp.addi (e0 (fx (16 * t1.val + t2.val)) 32 l) 1#32) rfl ?_
  refine st_pure ?_
  exact H

/-- Chunks 2 and 3. -/
theorem part5 {Q : _ → sProp 𝕄} (t1 : Fin k0_t1_loop.trips) (t2 : Fin k0_t2_loop.trips) (v12 : BitVec 32)
    (H : St d i fx (setRow (setRow fb (16 * t1.val + t2.val) 32 (binc fe (fx (16 * t1.val + t2.val)) 32)) (16 * t1.val + t2.val) 48 (binc fe (fx (16 * t1.val + t2.val)) 48)) fp fe fm ⊢ Q ⟨mk1 (xs (fx (16 * t1.val + t2.val)) 64), mk1 (e0raw (fx (16 * t1.val + t2.val)) 64), 49#32, mk1 fun _ => 0#32⟩) :
    St d i fx fb fp fe fm ⊢ wp frame (wpE (defs₀ (F := F)) 𝒱₀ (thrV d i) none) Set.univ (k0_part5 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 v12 (mk1 fun l => fx (16 * t1.val + t2.val) (48 + l)) (mk1 fun l => fx (16 * t1.val + t2.val) (64 + l)) (mk1 (rmin (fx (16 * t1.val + t2.val)))) (mk1 (den (fx (16 * t1.val + t2.val)))) (mk1 (binc fe (fx (16 * t1.val + t2.val)) 32))) Q := by
  rw [k0_part5_eq_skeleton]
  unfold k0_part5_skel
  dsimp only
  refine st_ldB' fun _ => ?_
  refine st_stB (k0_off12_eq t1 t2) (v := binc fe (fx (16 * t1.val + t2.val)) 32) (cast_vecR _ _) ?_
  refine st_assume (P := k0_chk15 _) (e0_inb (fx (16 * t1.val + t2.val)) 48) ?_
  refine st_gE (n := e0 (fx (16 * t1.val + t2.val)) 48) rfl ?_
  refine st_assume (P := k0_chk16 _) (e1_inb (fx (16 * t1.val + t2.val)) 48) ?_
  refine st_gE (n := fun l => IntOp.addi (e0 (fx (16 * t1.val + t2.val)) 48 l) 1#32) rfl ?_
  refine st_ldB' fun _ => ?_
  refine st_stB (k0_off13_eq t1 t2) (v := binc fe (fx (16 * t1.val + t2.val)) 48) (cast_vecR _ _) ?_
  refine st_pure ?_
  exact H

/-- Chunks 4 and 5. -/
theorem part6 {Q : _ → sProp 𝕄} (t1 : Fin k0_t1_loop.trips) (t2 : Fin k0_t2_loop.trips) (v12 : BitVec 32)
    (H : St d i fx (setRow (setRow fb (16 * t1.val + t2.val) 64 (binc fe (fx (16 * t1.val + t2.val)) 64)) (16 * t1.val + t2.val) 80 (binc fe (fx (16 * t1.val + t2.val)) 80)) fp fe fm ⊢ Q ⟨⟩) :
    St d i fx fb fp fe fm ⊢ wp frame (wpE (defs₀ (F := F)) 𝒱₀ (thrV d i) none) Set.univ (k0_part6 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 v12 (mk1 fun l => fx (16 * t1.val + t2.val) (80 + l)) (mk1 (rmin (fx (16 * t1.val + t2.val)))) (mk1 (den (fx (16 * t1.val + t2.val)))) (mk1 (xs (fx (16 * t1.val + t2.val)) 64)) (mk1 (e0raw (fx (16 * t1.val + t2.val)) 64)) 49#32 (mk1 fun _ => 0#32)) Q := by
  rw [k0_part6_eq_skeleton]
  unfold k0_part6_skel
  dsimp only
  refine st_assume (P := k0_chk17 _) (e0_inb (fx (16 * t1.val + t2.val)) 64) ?_
  refine st_gE (n := e0 (fx (16 * t1.val + t2.val)) 64) rfl ?_
  refine st_assume (P := k0_chk18 _) (e1_inb (fx (16 * t1.val + t2.val)) 64) ?_
  refine st_gE (n := fun l => IntOp.addi (e0 (fx (16 * t1.val + t2.val)) 64 l) 1#32) rfl ?_
  refine st_ldB' fun _ => ?_
  refine st_stB (k0_off14_eq t1 t2) (v := binc fe (fx (16 * t1.val + t2.val)) 64) (cast_vecR _ _) ?_
  refine st_assume (P := k0_chk19 _) (e0_inb (fx (16 * t1.val + t2.val)) 80) ?_
  refine st_gE (n := e0 (fx (16 * t1.val + t2.val)) 80) rfl ?_
  refine st_assume (P := k0_chk20 _) (e1_inb (fx (16 * t1.val + t2.val)) 80) ?_
  refine st_gE (n := fun l => IntOp.addi (e0 (fx (16 * t1.val + t2.val)) 80 l) 1#32) rfl ?_
  refine st_ldB' fun _ => ?_
  refine st_stB (k0_off15_eq t1 t2) (v := binc fe (fx (16 * t1.val + t2.val)) 80) (cast_vecR _ _) ?_
  refine st_pure ?_
  exact H

/-- Chunk 6. -/
theorem part7 {Q : _ → sProp 𝕄} (t1 : Fin k0_t1_loop.trips) (t2 : Fin k0_t2_loop.trips) (v12 : BitVec 32)
    (H : St d i fx (setRow fb (16 * t1.val + t2.val) 96 (binc fe (fx (16 * t1.val + t2.val)) 96)) fp fe fm ⊢ Q ⟨mk1 (xs (fx (16 * t1.val + t2.val)) 112), mk1 (e0 (fx (16 * t1.val + t2.val)) 112)⟩) :
    St d i fx fb fp fe fm ⊢ wp frame (wpE (defs₀ (F := F)) 𝒱₀ (thrV d i) none) Set.univ (k0_part7 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 v12 (mk1 fun l => fx (16 * t1.val + t2.val) (96 + l)) (mk1 fun l => fx (16 * t1.val + t2.val) (112 + l)) (mk1 (rmin (fx (16 * t1.val + t2.val)))) (mk1 (den (fx (16 * t1.val + t2.val))))) Q := by
  rw [k0_part7_eq_skeleton]
  unfold k0_part7_skel
  dsimp only
  refine st_assume (P := k0_chk21 _) (e0_inb (fx (16 * t1.val + t2.val)) 96) ?_
  refine st_gE (n := e0 (fx (16 * t1.val + t2.val)) 96) rfl ?_
  refine st_assume (P := k0_chk22 _) (e1_inb (fx (16 * t1.val + t2.val)) 96) ?_
  refine st_gE (n := fun l => IntOp.addi (e0 (fx (16 * t1.val + t2.val)) 96 l) 1#32) rfl ?_
  refine st_ldB' fun _ => ?_
  refine st_stB (k0_off16_eq t1 t2) (v := binc fe (fx (16 * t1.val + t2.val)) 96) (cast_vecR _ _) ?_
  refine st_pure ?_
  exact H

end Cert.Proof.SC
-- ==== Proof.FillC.lean ====
/-
  The straight-line code of one row of the fill: the last chunk of bins, the eight counting scatters, and the row as a whole.
-/
module

public import proofs.«01_k».proof.Proof.FillB

@[expose] public section

set_option maxRecDepth 16384

noncomputable section

namespace Cert.Proof.SC

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable {d : Dev nD} {i : grid0.Coords} {fx : ℕ → ℕ → F .f32} {fb : ℕ → ℕ → BitVec 32} {fp : ℕ → ℕ → F .f32} {fe fm : ℕ → F .f32}

theorem nest_fill (fe row : ℕ → F .f32) (r : ℕ) (fb : ℕ → ℕ → BitVec 32) (a b : ℕ) :
    setRow (setRow (setRow (setRow (setRow (setRow (setRow (setRow fb r 0 (binc fe row 0)) r 16 (binc fe row 16)) r 32 (binc fe row 32))
      r 48 (binc fe row 48)) r 64 (binc fe row 64)) r 80 (binc fe row 80)) r 96 (binc fe row 96)) r 112 (binc fe row 112) a b
      = fillB fe row r fb a b := by
  unfold fillB setRow binW
  by_cases ha : a = r
  · simp only [ha, true_and]
    by_cases h0 : b < 128
    · rw [if_pos h0]
      have hb : ∀ q, 16 * q ≤ b → b < 16 * q + 16 → 16 * (b / 16) = 16 * q ∧ b % 16 = b - 16 * q := fun q h1 h2 => by omega
      rcases (by omega : b < 16 ∨ (16 ≤ b ∧ b < 32) ∨ (32 ≤ b ∧ b < 48) ∨ (48 ≤ b ∧ b < 64) ∨ (64 ≤ b ∧ b < 80) ∨ (80 ≤ b ∧ b < 96)
        ∨ (96 ≤ b ∧ b < 112) ∨ (112 ≤ b ∧ b < 128)) with h | h | h | h | h | h | h | h
      · obtain ⟨e1, e2⟩ := hb 0 (by omega) (by omega)
        rw [e1, e2]; repeat rw [if_neg (by omega)]
        rw [if_pos (by omega)]
      · obtain ⟨e1, e2⟩ := hb 1 (by omega) (by omega)
        rw [e1, e2]; iterate 6 rw [if_neg (by omega)]
        rw [if_pos (by omega)]
      · obtain ⟨e1, e2⟩ := hb 2 (by omega) (by omega)
        rw [e1, e2]; iterate 5 rw [if_neg (by omega)]
        rw [if_pos (by omega)]
      · obtain ⟨e1, e2⟩ := hb 3 (by omega) (by omega)
        rw [e1, e2]; iterate 4 rw [if_neg (by omega)]
        rw [if_pos (by omega)]
      · obtain ⟨e1, e2⟩ := hb 4 (by omega) (by omega)
        rw [e1, e2]; iterate 3 rw [if_neg (by omega)]
        rw [if_pos (by omega)]
      · obtain ⟨e1, e2⟩ := hb 5 (by omega) (by omega)
        rw [e1, e2]; iterate 2 rw [if_neg (by omega)]
        rw [if_pos (by omega)]
      · obtain ⟨e1, e2⟩ := hb 6 (by omega) (by omega)
        rw [e1, e2]; rw [if_neg (by omega)]
        rw [if_pos (by omega)]
      · obtain ⟨e1, e2⟩ := hb 7 (by omega) (by omega)
        rw [e1, e2]; rw [if_pos (by omega)]
    · rw [if_neg h0]
      iterate 8 rw [if_neg (by omega)]
  · simp only [ha, false_and, if_false]

/-- Row `r` of the counts replaced. -/
def setP (fp : ℕ → ℕ → F .f32) (r : ℕ) (g : ℕ → F .f32) : ℕ → ℕ → F .f32 := fun a b => if a = r then g b else fp a b

theorem setP_self (fp : ℕ → ℕ → F .f32) (r : ℕ) : setP fp r (fp r) = fp := by
  funext a b; unfold setP; split
  · next h => rw [h]
  · rfl

/-- The index vector of a chunk, from its two loads. -/
theorem pidx_vec (b : ℕ → BitVec 32) (c c' : ℕ) (hc : c' = c + 1) :
    (mk1 fun l => IntOp.minsi 4095#32 (IntOp.maxsi 0#32 (IntOp.addi (IntOp.muli (b (c + l)) 64#32) (b (c' + l)))) : S16.Idx → BitVec 32)
      = mk1 fun l => pidx b (c + l) := by
  subst hc
  refine mk1_congr fun l _ => ?_
  unfold pidx
  rw [show c + 1 + l = c + l + 1 by omega]

theorem pidx_inb (a13 : BitVec 32) (h13 : a13.toNat < 16) (b : ℕ → BitVec 32) (c : ℕ) :
    ∀ a x, ((![broadcast S16 a13, mk1 fun l => pidx b (c + l)] : Fin 2 → IVec S16 32) a x).toNat < S16x4096.size a := by
  intro a x
  match a with
  | 0 => exact h13
  | 1 => exact lt_of_le_of_lt (pidx_le b _) (by show _ < 4096; omega)

/-- A counting scatter of one chunk into row `a13` of the counts. -/
theorem st_count {α : Type} {Q : α → sProp 𝕄} {a13 : BitVec 32} {b : ℕ → BitVec 32} {c lim : ℕ} (hlim : lim ≤ 16) {g : ℕ → F .f32}
    {idx : IVec S16 32} (hidx : idx = mk1 fun l => pidx b (c + l)) (M : IVec S16 1) (hM : M = mk1 (maskL lim))
    {v : Vec F S16 .f32} {mask : IVec S16 1} (hv : v = sitofp .f32 (scanCount M idx).2) (hmask : mask = (scanCount M idx).1) {h} {hs}
    {k : PUnit → Prog (TpuEff nD τ sig (Elt F) Λ₀ (thrV d i).2) α}
    (H : St d i fx fb (setP fp a13.toNat (addChunk b c lim g)) fe fm ⊢ wp frame (wpE (defs₀ (F := F)) 𝒱₀ (thrV d i) none) Set.univ (k ⟨⟩) Q) :
    St d i fx fb (setP fp a13.toNat g) fe fm ⊢ wp frame (wpE (defs₀ (F := F)) 𝒱₀ (thrV d i) none) Set.univ
      (SparseCore.vectorStoreIdx aP ![broadcast S16 a13, idx] v mask true h hs >>= k) Q := by
  subst hidx hM hv hmask
  refine st_sc ((scatter_count (setP fp a13.toNat g) a13 (fun l => pidx b (c + l)) lim hlim h).trans (congrArg mk2 ?_)) H
  funext a b'
  unfold setP addChunk
  by_cases ha : a = a13.toNat
  · rw [if_pos ha, if_pos ha, if_pos ha]
  · rw [if_neg ha, if_neg ha, if_neg ha]

theorem mask16 : (broadcast S16 1#1 : IVec S16 1) = mk1 (maskL 16) := by
  funext y
  have : (y 0).val < 16 := (y 0).isLt
  show 1#1 = maskL 16 (y 0).val
  unfold maskL; rw [if_pos this]

theorem mask15 : k0_pay1 = mk1 (maskL 15) := by
  unfold k0_pay1
  dsimp only
  rw [iota_mk1]
  funext y
  have : ∀ l < 16, IntOp.cmpi .slt (BitVec.ofNat 32 l) 15#32 = maskL 15 l := by decide
  exact this _ (y 0).isLt

/-- The last chunk of bins, and the first scatter. -/
theorem part8 {Q : _ → sProp 𝕄} (t1 : Fin k0_t1_loop.trips) (t2 : Fin k0_t2_loop.trips) (v12 a13 : BitVec 32) (h13 : a13.toNat < 16)
    (H : St d i fx (fillB fe (fx (16 * t1.val + t2.val)) (16 * t1.val + t2.val) fb) (setP fp a13.toNat (addChunk (fillB fe (fx (16 * t1.val + t2.val)) (16 * t1.val + t2.val) fb (16 * t1.val + t2.val)) 0 16 (fp a13.toNat))) fe fm ⊢ Q ⟨broadcast S16 a13, 4095#32, (mk1 fun l => IntOp.maxsi 0#32 (IntOp.addi (IntOp.muli ((fillB fe (fx (16 * t1.val + t2.val)) (16 * t1.val + t2.val) fb (16 * t1.val + t2.val)) (16 + l)) 64#32) ((fillB fe (fx (16 * t1.val + t2.val)) (16 * t1.val + t2.val) fb (16 * t1.val + t2.val)) (17 + l))))⟩) :
    St d i fx (setRow (setRow (setRow (setRow (setRow (setRow (setRow fb (16 * t1.val + t2.val) 0 (binc fe (fx (16 * t1.val + t2.val)) 0)) (16 * t1.val + t2.val) 16 (binc fe (fx (16 * t1.val + t2.val)) 16)) (16 * t1.val + t2.val) 32 (binc fe (fx (16 * t1.val + t2.val)) 32)) (16 * t1.val + t2.val) 48 (binc fe (fx (16 * t1.val + t2.val)) 48)) (16 * t1.val + t2.val) 64 (binc fe (fx (16 * t1.val + t2.val)) 64)) (16 * t1.val + t2.val) 80 (binc fe (fx (16 * t1.val + t2.val)) 80)) (16 * t1.val + t2.val) 96 (binc fe (fx (16 * t1.val + t2.val)) 96)) fp fe fm ⊢ wp frame (wpE (defs₀ (F := F)) 𝒱₀ (thrV d i) none) Set.univ (k0_part8 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 a13 v12 (mk1 (xs (fx (16 * t1.val + t2.val)) 112)) (mk1 (e0 (fx (16 * t1.val + t2.val)) 112))) Q := by
  rw [k0_part8_eq_skeleton]
  unfold k0_part8_skel
  dsimp only
  refine st_assume (P := k0_chk23 _) (e0_inb (fx (16 * t1.val + t2.val)) 112) ?_
  refine st_gE (n := e0 (fx (16 * t1.val + t2.val)) 112) rfl ?_
  refine st_assume (P := k0_chk24 _) (e1_inb (fx (16 * t1.val + t2.val)) 112) ?_
  refine st_gE (n := fun l => IntOp.addi (e0 (fx (16 * t1.val + t2.val)) 112 l) 1#32) rfl ?_
  refine st_ldB' fun _ => ?_
  refine st_stB (k0_off17_eq t1 t2) (v := binc fe (fx (16 * t1.val + t2.val)) 112) (cast_vecR _ _) ?_
  rw [St_congrB (fun a _ b _ => nest_fill fe (fx (16 * t1.val + t2.val)) (16 * t1.val + t2.val) fb a b)]
  rw [← setP_self fp a13.toNat]
  refine st_ldB (k0_off18_eq t1 t2) ?_
  refine st_ldB (k0_off19_eq t1 t2) ?_
  have e25 : k0_pay73 (F := F) (rowV (α := BitVec 32) (fillB fe (fx (16 * t1.val + t2.val)) (16 * t1.val + t2.val) fb) (16 * t1.val + t2.val) 0) (rowV (α := BitVec 32) (fillB fe (fx (16 * t1.val + t2.val)) (16 * t1.val + t2.val) fb) (16 * t1.val + t2.val) 1) = mk1 fun l => pidx (fillB fe (fx (16 * t1.val + t2.val)) (16 * t1.val + t2.val) fb (16 * t1.val + t2.val)) (0 + l) := by
    rw [← pidx_vec (fillB fe (fx (16 * t1.val + t2.val)) (16 * t1.val + t2.val) fb (16 * t1.val + t2.val)) 0 1 rfl]
    simp only [cast_rowV, k0_pay73]; rfl
  refine st_assume (P := k0_chk25 _ _) (by rw [e25]; exact pidx_inb a13 h13 _ _) ?_
  refine st_count (lim := 16) (by decide) e25 _ mask16 rfl rfl ?_
  refine st_ldB (k0_off20_eq t1 t2) ?_
  refine st_ldB (k0_off21_eq t1 t2) ?_
  refine st_pure ?_
  simp only [k0_pay77, cast_rowV, setP_self] at H ⊢
  exact H

/-- Scatters 1, 2 and 3. -/
theorem part9 {Q : _ → sProp 𝕄} (t1 : Fin k0_t1_loop.trips) (t2 : Fin k0_t2_loop.trips) (v12 a13 : BitVec 32) (h13 : a13.toNat < 16)
    (H : St d i fx (fillB fe (fx (16 * t1.val + t2.val)) (16 * t1.val + t2.val) fb) (setP fp a13.toNat (addChunk (fillB fe (fx (16 * t1.val + t2.val)) (16 * t1.val + t2.val) fb (16 * t1.val + t2.val)) 48 16 (addChunk (fillB fe (fx (16 * t1.val + t2.val)) (16 * t1.val + t2.val) fb (16 * t1.val + t2.val)) 32 16 (addChunk (fillB fe (fx (16 * t1.val + t2.val)) (16 * t1.val + t2.val) fb (16 * t1.val + t2.val)) 16 16 (addChunk (fillB fe (fx (16 * t1.val + t2.val)) (16 * t1.val + t2.val) fb (16 * t1.val + t2.val)) 0 16 (fp a13.toNat)))))) fe fm ⊢ Q ⟨⟩) :
    St d i fx (fillB fe (fx (16 * t1.val + t2.val)) (16 * t1.val + t2.val) fb) (setP fp a13.toNat (addChunk (fillB fe (fx (16 * t1.val + t2.val)) (16 * t1.val + t2.val) fb (16 * t1.val + t2.val)) 0 16 (fp a13.toNat))) fe fm ⊢ wp frame (wpE (defs₀ (F := F)) 𝒱₀ (thrV d i) none) Set.univ (k0_part9 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 v12 (broadcast S16 a13) 4095#32 (mk1 fun l => IntOp.maxsi 0#32 (IntOp.addi (IntOp.muli ((fillB fe (fx (16 * t1.val + t2.val)) (16 * t1.val + t2.val) fb (16 * t1.val + t2.val)) (16 + l)) 64#32) ((fillB fe (fx (16 * t1.val + t2.val)) (16 * t1.val + t2.val) fb (16 * t1.val + t2.val)) (17 + l))))) Q := by
  rw [k0_part9_eq_skeleton]
  unfold k0_part9_skel
  dsimp only
  have e26 : k0_pay78 4095#32 (mk1 fun l => IntOp.maxsi 0#32 (IntOp.addi (IntOp.muli ((fillB fe (fx (16 * t1.val + t2.val)) (16 * t1.val + t2.val) fb (16 * t1.val + t2.val)) (16 + l)) 64#32) ((fillB fe (fx (16 * t1.val + t2.val)) (16 * t1.val + t2.val) fb (16 * t1.val + t2.val)) (17 + l)))) = mk1 fun l => pidx (fillB fe (fx (16 * t1.val + t2.val)) (16 * t1.val + t2.val) fb (16 * t1.val + t2.val)) (16 + l) := by
    rw [← pidx_vec (fillB fe (fx (16 * t1.val + t2.val)) (16 * t1.val + t2.val) fb (16 * t1.val + t2.val)) 16 17 rfl]
    rfl
  refine st_assume (P := k0_chk26 _ _) (by rw [e26]; exact pidx_inb a13 h13 _ _) ?_
  refine st_count (lim := 16) (by decide) e26 _ mask16 rfl rfl ?_
  refine st_ldB (k0_off22_eq t1 t2) ?_
  refine st_ldB (k0_off23_eq t1 t2) ?_
  have e27 : k0_pay82 (F := F) (rowV (α := BitVec 32) (fillB fe (fx (16 * t1.val + t2.val)) (16 * t1.val + t2.val) fb) (16 * t1.val + t2.val) 32) (rowV (α := BitVec 32) (fillB fe (fx (16 * t1.val + t2.val)) (16 * t1.val + t2.val) fb) (16 * t1.val + t2.val) 33) = mk1 fun l => pidx (fillB fe (fx (16 * t1.val + t2.val)) (16 * t1.val + t2.val) fb (16 * t1.val + t2.val)) (32 + l) := by
    rw [← pidx_vec (fillB fe (fx (16 * t1.val + t2.val)) (16 * t1.val + t2.val) fb (16 * t1.val + t2.val)) 32 33 rfl]
    simp only [cast_rowV, k0_pay82]; rfl
  refine st_assume (P := k0_chk27 _ _) (by rw [e27]; exact pidx_inb a13 h13 _ _) ?_
  refine st_count (lim := 16) (by decide) e27 _ mask16 rfl rfl ?_
  refine st_ldB (k0_off24_eq t1 t2) ?_
  refine st_ldB (k0_off25_eq t1 t2) ?_
  have e28 : k0_pay86 (F := F) (rowV (α := BitVec 32) (fillB fe (fx (16 * t1.val + t2.val)) (16 * t1.val + t2.val) fb) (16 * t1.val + t2.val) 48) (rowV (α := BitVec 32) (fillB fe (fx (16 * t1.val + t2.val)) (16 * t1.val + t2.val) fb) (16 * t1.val + t2.val) 49) = mk1 fun l => pidx (fillB fe (fx (16 * t1.val + t2.val)) (16 * t1.val + t2.val) fb (16 * t1.val + t2.val)) (48 + l) := by
    rw [← pidx_vec (fillB fe (fx (16 * t1.val + t2.val)) (16 * t1.val + t2.val) fb (16 * t1.val + t2.val)) 48 49 rfl]
    simp only [cast_rowV, k0_pay86]; rfl
  refine st_assume (P := k0_chk28 _ _) (by rw [e28]; exact pidx_inb a13 h13 _ _) ?_
  refine st_count (lim := 16) (by decide) e28 _ mask16 rfl rfl ?_
  refine st_pure ?_
  exact H

/-- Scatters 4 and 5. -/
theorem part10 {Q : _ → sProp 𝕄} (t1 : Fin k0_t1_loop.trips) (t2 : Fin k0_t2_loop.trips) (v12 a13 : BitVec 32) (h13 : a13.toNat < 16)
    (H : St d i fx (fillB fe (fx (16 * t1.val + t2.val)) (16 * t1.val + t2.val) fb) (setP fp a13.toNat (addChunk (fillB fe (fx (16 * t1.val + t2.val)) (16 * t1.val + t2.val) fb (16 * t1.val + t2.val)) 80 16 (addChunk (fillB fe (fx (16 * t1.val + t2.val)) (16 * t1.val + t2.val) fb (16 * t1.val + t2.val)) 64 16 (addChunk (fillB fe (fx (16 * t1.val + t2.val)) (16 * t1.val + t2.val) fb (16 * t1.val + t2.val)) 48 16 (addChunk (fillB fe (fx (16 * t1.val + t2.val)) (16 * t1.val + t2.val) fb (16 * t1.val + t2.val)) 32 16 (addChunk (fillB fe (fx (16 * t1.val + t2.val)) (16 * t1.val + t2.val) fb (16 * t1.val + t2.val)) 16 16 (addChunk (fillB fe (fx (16 * t1.val + t2.val)) (16 * t1.val + t2.val) fb (16 * t1.val + t2.val)) 0 16 (fp a13.toNat)))))))) fe fm ⊢ Q ⟨mk1 fun l => (fillB fe (fx (16 * t1.val + t2.val)) (16 * t1.val + t2.val) fb (16 * t1.val + t2.val)) (97 + l), mk1 fun l => IntOp.muli ((fillB fe (fx (16 * t1.val + t2.val)) (16 * t1.val + t2.val) fb (16 * t1.val + t2.val)) (96 + l)) 64#32⟩) :
    St d i fx (fillB fe (fx (16 * t1.val + t2.val)) (16 * t1.val + t2.val) fb) (setP fp a13.toNat (addChunk (fillB fe (fx (16 * t1.val + t2.val)) (16 * t1.val + t2.val) fb (16 * t1.val + t2.val)) 48 16 (addChunk (fillB fe (fx (16 * t1.val + t2.val)) (16 * t1.val + t2.val) fb (16 * t1.val + t2.val)) 32 16 (addChunk (fillB fe (fx (16 * t1.val + t2.val)) (16 * t1.val + t2.val) fb (16 * t1.val + t2.val)) 16 16 (addChunk (fillB fe (fx (16 * t1.val + t2.val)) (16 * t1.val + t2.val) fb (16 * t1.val + t2.val)) 0 16 (fp a13.toNat)))))) fe fm ⊢ wp frame (wpE (defs₀ (F := F)) 𝒱₀ (thrV d i) none) Set.univ (k0_part10 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t2 v12 (broadcast S16 a13)) Q := by
  rw [k0_part10_eq_skeleton]
  unfold k0_part10_skel
  dsimp only
  refine st_ldB (k0_off26_eq t1 t2) ?_
  refine st_ldB (k0_off27_eq t1 t2) ?_
  have e29 : k0_pay90 (F := F) (rowV (α := BitVec 32) (fillB fe (fx (16 * t1.val + t2.val)) (16 * t1.val + t2.val) fb) (16 * t1.val + t2.val) 64) (rowV (α := BitVec 32) (fillB fe (fx (16 * t1.val + t2.val)) (16 * t1.val + t2.val) fb) (16 * t1.val + t2.val) 65) = mk1 fun l => pidx (fillB fe (fx (16 * t1.val + t2.val)) (16 * t1.val + t2.val) fb (16 * t1.val + t2.val)) (64 + l) := by
    rw [← pidx_vec (fillB fe (fx (16 * t1.val + t2.val)) (16 * t1.val + t2.val) fb (16 * t1.val + t2.val)) 64 65 rfl]
    simp only [cast_rowV, k0_pay90]; rfl
  refine st_assume (P := k0_chk29 _ _) (by rw [e29]; exact pidx_inb a13 h13 _ _) ?_
  refine st_count (lim := 16) (by decide) e29 _ mask16 rfl rfl ?_
  refine st_ldB (k0_off28_eq t1 t2) ?_
  refine st_ldB (k0_off29_eq t1 t2) ?_
  have e30 : k0_pay94 (F := F) (rowV (α := BitVec 32) (fillB fe (fx (16 * t1.val + t2.val)) (16 * t1.val + t2.val) fb) (16 * t1.val + t2.val) 80) (rowV (α := BitVec 32) (fillB fe (fx (16 * t1.val + t2.val)) (16 * t1.val + t2.val) fb) (16 * t1.val + t2.val) 81) = mk1 fun l => pidx (fillB fe (fx (16 * t1.val + t2.val)) (16 * t1.val + t2.val) fb (16 * t1.val + t2.val)) (80 + l) := by
    rw [← pidx_vec (fillB fe (fx (16 * t1.val + t2.val)) (16 * t1.val + t2.val) fb (16 * t1.val + t2.val)) 80 81 rfl]
    simp only [cast_rowV, k0_pay94]; rfl
  refine st_assume (P := k0_chk30 _ _) (by rw [e30]; exact pidx_inb a13 h13 _ _) ?_
  refine st_count (lim := 16) (by decide) e30 _ mask16 rfl rfl ?_
  refine st_ldB (k0_off30_eq t1 t2) ?_
  refine st_ldB (k0_off31_eq t1 t2) ?_
  refine st_pure ?_
  simp only [k0_pay98, k0_pay99, cast_rowV]
  exact H

theorem iv2_lt : ∀ t2 : Fin k0_t2_loop.trips, (Scf.iv 0#32 1#32 t2).toNat < 16 := by decide
theorem iv2_eq : ∀ t2 : Fin k0_t2_loop.trips, (Scf.iv 0#32 1#32 t2).toNat = t2.val := by decide

set_option maxHeartbeats 4000000 in
/-- One row of the fill: the row's bins are written, and its transitions are counted into row `t2` of the counts. -/
theorem fill_trip {Q : _ → sProp 𝕄} (t1 : Fin k0_t1_loop.trips) (t2 : Fin k0_t2_loop.trips) (arg12 : BitVec 32) (u : Unit)
    (H : ∀ fm', St d i fx (fillB fe (fx (16 * t1.val + t2.val)) (16 * t1.val + t2.val) fb) (setP fp t2.val (pRow (fillB fe (fx (16 * t1.val + t2.val)) (16 * t1.val + t2.val) fb (16 * t1.val + t2.val)) (fp t2.val))) fe fm' ⊢ Q ⟨⟩) :
    St d i fx fb fp fe fm ⊢ wp frame (wpE (defs₀ (F := F)) 𝒱₀ (thrV d i) none) Set.univ
      (k0_t2_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 (mk1 fun l => BitVec.ofNat 32 l) t1 arg12 t2 u) Q := by
  have h13 := iv2_lt t2
  have e13 := iv2_eq t2
  unfold k0_t2_body
  beta_reduce
  refine st_bind (part1 t1 t2 _ _ _ fun v12 hw1 => ?_)
  dsimp only
  refine st_bind (part2 _ hw1 fun hw8 => ?_)
  dsimp only
  refine st_bind (part3 t1 t2 v12 hw8 ?_)
  dsimp only
  refine st_bind (part4 t1 t2 v12 ?_)
  dsimp only
  refine st_bind (part5 t1 t2 v12 ?_)
  dsimp only
  refine st_bind (part6 t1 t2 v12 ?_)
  dsimp only
  refine st_bind (part7 t1 t2 v12 ?_)
  dsimp only
  refine st_bind (part8 t1 t2 v12 _ h13 ?_)
  dsimp only
  refine st_bind (part9 t1 t2 v12 _ h13 ?_)
  dsimp only
  refine st_bind (part10 t1 t2 v12 _ h13 ?_)
  dsimp only
  generalize (Scf.iv 0#32 1#32 t2) = a13 at h13 e13 ⊢
  have e31 : k0_pay2 (F := F) (mk1 fun l => (fillB fe (fx (16 * t1.val + t2.val)) (16 * t1.val + t2.val) fb (16 * t1.val + t2.val)) (97 + l)) (mk1 fun l => IntOp.muli ((fillB fe (fx (16 * t1.val + t2.val)) (16 * t1.val + t2.val) fb (16 * t1.val + t2.val)) (96 + l)) 64#32) = mk1 fun l => pidx (fillB fe (fx (16 * t1.val + t2.val)) (16 * t1.val + t2.val) fb (16 * t1.val + t2.val)) (96 + l) := by
    rw [← pidx_vec (fillB fe (fx (16 * t1.val + t2.val)) (16 * t1.val + t2.val) fb (16 * t1.val + t2.val)) 96 97 rfl]
    rfl
  refine st_assume (P := k0_chk31 _ _) (by rw [e31]; exact pidx_inb a13 h13 _ _) ?_
  refine st_count (lim := 16) (by decide) e31 _ mask16 rfl rfl ?_
  refine st_ldB (k0_off32_eq t1 t2) ?_
  refine st_ldB (k0_off33_eq t1 t2) ?_
  have e32 : k0_pay6 (F := F) (rowV (α := BitVec 32) (fillB fe (fx (16 * t1.val + t2.val)) (16 * t1.val + t2.val) fb) (16 * t1.val + t2.val) 112) (rowV (α := BitVec 32) (fillB fe (fx (16 * t1.val + t2.val)) (16 * t1.val + t2.val) fb) (16 * t1.val + t2.val) 113) = mk1 fun l => pidx (fillB fe (fx (16 * t1.val + t2.val)) (16 * t1.val + t2.val) fb (16 * t1.val + t2.val)) (112 + l) := by
    rw [← pidx_vec (fillB fe (fx (16 * t1.val + t2.val)) (16 * t1.val + t2.val) fb (16 * t1.val + t2.val)) 112 113 rfl]
    simp only [cast_rowV, k0_pay6]; rfl
  refine st_assume (P := k0_chk32 _ _) (by rw [e32]; exact pidx_inb a13 h13 _ _) ?_
  refine st_count (lim := 15) (by decide) e32 _ mask15 rfl rfl ?_
  refine st_pure ?_
  rw [e13]
  exact H _

end Cert.Proof.SC
-- ==== Proof.Zero.lean ====
/-
  The straight-line code of one row of the zeroing: every cell the row's scatters touched is set to zero again.
-/
module

public import proofs.«01_k».proof.Proof.FillC

@[expose] public section

set_option maxRecDepth 16384

noncomputable section

namespace Cert.Proof.SC

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable {d : Dev nD} {i : grid0.Coords} {fx : ℕ → ℕ → F .f32} {fb : ℕ → ℕ → BitVec 32} {fp : ℕ → ℕ → F .f32} {fe fm : ℕ → F .f32}

/-- The zero the kernel's scatters put back. -/
abbrev z0 : F .f32 := Scalar.ofBits .f32 0x00000000#32

/-- Row `g` with the cells one chunk's transitions name set to zero. -/
def zChunk (b : ℕ → BitVec 32) (c lim : ℕ) (g : ℕ → F .f32) : ℕ → F .f32 :=
  fun col => if cntL (fun l => pidx b (c + l)) lim col ≠ 0 then z0 else g col

/-- Row `g` with the cells the whole row's transitions name set to zero. -/
def zRow (b : ℕ → BitVec 32) (g : ℕ → F .f32) : ℕ → F .f32 :=
  zChunk b 112 15 (zChunk b 96 16 (zChunk b 80 16 (zChunk b 64 16 (zChunk b 48 16 (zChunk b 32 16 (zChunk b 16 16 (zChunk b 0 16 g)))))))

/-- Zeroing undoes counting from a row of zeros. -/
theorem zRow_pRow (b : ℕ → BitVec 32) : zRow b (pRow b fun _ => (z0 : F .f32)) = fun _ => z0 := by
  funext col
  unfold zRow pRow zChunk addChunk addC
  generalize cntL (fun l => pidx b (0 + l)) 16 col = n0
  generalize cntL (fun l => pidx b (16 + l)) 16 col = n1
  generalize cntL (fun l => pidx b (32 + l)) 16 col = n2
  generalize cntL (fun l => pidx b (48 + l)) 16 col = n3
  generalize cntL (fun l => pidx b (64 + l)) 16 col = n4
  generalize cntL (fun l => pidx b (80 + l)) 16 col = n5
  generalize cntL (fun l => pidx b (96 + l)) 16 col = n6
  generalize cntL (fun l => pidx b (112 + l)) 15 col = n7
  by_cases h7 : n7 = 0
  case neg => exact if_pos h7
  by_cases h6 : n6 = 0
  case neg => exact (if_neg (not_not.mpr h7)).trans (if_pos h6)
  refine (if_neg (not_not.mpr h7)).trans ((if_neg (not_not.mpr h6)).trans ?_)
  by_cases h5 : n5 = 0
  case neg => exact if_pos h5
  by_cases h4 : n4 = 0
  case neg => exact (if_neg (not_not.mpr h5)).trans (if_pos h4)
  refine (if_neg (not_not.mpr h5)).trans ((if_neg (not_not.mpr h4)).trans ?_)
  by_cases h3 : n3 = 0
  case neg => exact if_pos h3
  by_cases h2 : n2 = 0
  case neg => exact (if_neg (not_not.mpr h3)).trans (if_pos h2)
  refine (if_neg (not_not.mpr h3)).trans ((if_neg (not_not.mpr h2)).trans ?_)
  by_cases h1 : n1 = 0
  case neg => exact if_pos h1
  by_cases h0 : n0 = 0
  case neg => exact (if_neg (not_not.mpr h1)).trans (if_pos h0)
  subst h0 h1 h2 h3 h4 h5 h6 h7
  rfl

/-- A scatter of zeros of one chunk into row `a13` of the counts. -/
theorem st_zero {α : Type} {Q : α → sProp 𝕄} {a13 : BitVec 32} {b : ℕ → BitVec 32} {c lim : ℕ} (hlim : lim ≤ 16) {g : ℕ → F .f32}
    {idx : IVec S16 32} (hidx : idx = mk1 fun l => pidx b (c + l)) {mask : IVec S16 1} (hM : mask = mk1 (maskL lim))
    {v : Vec F S16 .f32} (hv : v = mk1 fun _ => z0) {h} {hs}
    {k : PUnit → Prog (TpuEff nD τ sig (Elt F) Λ₀ (thrV d i).2) α}
    (H : St d i fx fb (setP fp a13.toNat (zChunk b c lim g)) fe fm ⊢ wp frame (wpE (defs₀ (F := F)) 𝒱₀ (thrV d i) none) Set.univ (k ⟨⟩) Q) :
    St d i fx fb (setP fp a13.toNat g) fe fm ⊢ wp frame (wpE (defs₀ (F := F)) 𝒱₀ (thrV d i) none) Set.univ
      (SparseCore.vectorStoreIdx aP ![broadcast S16 a13, idx] v mask false h hs >>= k) Q := by
  subst hidx hM hv
  refine st_sc ((scatter_const (setP fp a13.toNat g) a13 (fun l => pidx b (c + l)) z0 lim hlim h).trans (congrArg mk2 ?_)) H
  funext a b'
  unfold setP zChunk
  by_cases ha : a = a13.toNat
  · simp only [ha, true_and, if_true]
  · simp only [ha, false_and, if_false]

theorem maskAll : (fun _ => 1#1 : IVec S16 1) = mk1 (maskL 16) := mask16

theorem iv3_lt : ∀ t3 : Fin k0_t3_loop.trips, (Scf.iv 0#32 1#32 t3).toNat < 16 := by decide
theorem iv3_eq : ∀ t3 : Fin k0_t3_loop.trips, (Scf.iv 0#32 1#32 t3).toNat = t3.val := by decide

/-- Zeroing scatters 0 and 1. -/
theorem part11 {Q : _ → sProp 𝕄} (t1 : Fin k0_t1_loop.trips) (t3 : Fin k0_t3_loop.trips) (arg12 a13 : BitVec 32) (e13 : Scf.iv 0#32 1#32 t3 = a13)
    (H : ∀ v12, St d i fx fb (setP fp a13.toNat (zChunk (fb (16 * t1.val + t3.val)) 16 16 (zChunk (fb (16 * t1.val + t3.val)) 0 16 (fp a13.toNat)))) fe fm ⊢ Q ⟨v12, broadcast S16 a13, k0_pay100, (mk1 fun l => IntOp.addi (IntOp.muli ((fb (16 * t1.val + t3.val)) (32 + l)) 64#32) ((fb (16 * t1.val + t3.val)) (33 + l))), 0#32⟩) :
    St d i fx fb fp fe fm ⊢ wp frame (wpE (defs₀ (F := F)) 𝒱₀ (thrV d i) none) Set.univ (k0_part11 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 arg12 0#32 1#32 t3) Q := by
  have h13 := iv3_lt t3
  rw [e13] at h13
  rw [k0_part11_eq_skeleton]
  unfold k0_part11_skel
  dsimp only
  rw [e13]
  rw [← setP_self fp a13.toNat]
  refine st_ldB (k0_off35_eq t1 t3) ?_
  refine st_ldB (k0_off36_eq t1 t3) ?_
  have e33 : k0_pay101 (F := F) (rowV (α := BitVec 32) fb (16 * t1.val + t3.val) 0) (rowV (α := BitVec 32) fb (16 * t1.val + t3.val) 1) = mk1 fun l => pidx (fb (16 * t1.val + t3.val)) (0 + l) := by
    rw [← pidx_vec (fb (16 * t1.val + t3.val)) 0 1 rfl]
    simp only [cast_rowV, k0_pay101]; rfl
  refine st_assume (P := k0_chk33 _ _) (by rw [e33]; exact pidx_inb a13 h13 _ _) ?_
  refine st_zero (lim := 16) (by decide) e33 maskAll rfl ?_
  refine st_ldB (k0_off37_eq t1 t3) ?_
  refine st_ldB (k0_off38_eq t1 t3) ?_
  have e34 : k0_pay102 (F := F) (rowV (α := BitVec 32) fb (16 * t1.val + t3.val) 16) (rowV (α := BitVec 32) fb (16 * t1.val + t3.val) 17) = mk1 fun l => pidx (fb (16 * t1.val + t3.val)) (16 + l) := by
    rw [← pidx_vec (fb (16 * t1.val + t3.val)) 16 17 rfl]
    simp only [cast_rowV, k0_pay102]; rfl
  refine st_assume (P := k0_chk34 _ _) (by rw [e34]; exact pidx_inb a13 h13 _ _) ?_
  refine st_zero (lim := 16) (by decide) e34 maskAll rfl ?_
  refine st_ldB (k0_off39_eq t1 t3) ?_
  refine st_ldB (k0_off40_eq t1 t3) ?_
  refine st_pure ?_
  simp only [k0_pay103, cast_rowV, setP_self] at H ⊢
  exact H _

/-- Zeroing scatters 2, 3 and 4. -/
theorem part12 {Q : _ → sProp 𝕄} (t1 : Fin k0_t1_loop.trips) (t3 : Fin k0_t3_loop.trips) (v12 a13 : BitVec 32) (h13 : a13.toNat < 16)
    (H : St d i fx fb (setP fp a13.toNat (zChunk (fb (16 * t1.val + t3.val)) 64 16 (zChunk (fb (16 * t1.val + t3.val)) 48 16 (zChunk (fb (16 * t1.val + t3.val)) 32 16 (zChunk (fb (16 * t1.val + t3.val)) 16 16 (zChunk (fb (16 * t1.val + t3.val)) 0 16 (fp a13.toNat))))))) fe fm ⊢ Q ⟨(mk1 fun l => IntOp.addi (IntOp.muli ((fb (16 * t1.val + t3.val)) (80 + l)) 64#32) ((fb (16 * t1.val + t3.val)) (81 + l))), 0#32⟩) :
    St d i fx fb (setP fp a13.toNat (zChunk (fb (16 * t1.val + t3.val)) 16 16 (zChunk (fb (16 * t1.val + t3.val)) 0 16 (fp a13.toNat)))) fe fm ⊢ wp frame (wpE (defs₀ (F := F)) 𝒱₀ (thrV d i) none) Set.univ (k0_part12 i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 t3 v12 (broadcast S16 a13) k0_pay100 (mk1 fun l => IntOp.addi (IntOp.muli ((fb (16 * t1.val + t3.val)) (32 + l)) 64#32) ((fb (16 * t1.val + t3.val)) (33 + l))) 0#32) Q := by
  rw [k0_part12_eq_skeleton]
  unfold k0_part12_skel
  dsimp only
  have e35 : k0_pay104 (mk1 fun l => IntOp.addi (IntOp.muli ((fb (16 * t1.val + t3.val)) (32 + l)) 64#32) ((fb (16 * t1.val + t3.val)) (33 + l))) 0#32 = mk1 fun l => pidx (fb (16 * t1.val + t3.val)) (32 + l) := by
    rw [← pidx_vec (fb (16 * t1.val + t3.val)) 32 33 rfl]
    rfl
  refine st_assume (P := k0_chk35 _ _) (by rw [e35]; exact pidx_inb a13 h13 _ _) ?_
  refine st_zero (lim := 16) (by decide) e35 maskAll rfl ?_
  refine st_ldB (k0_off41_eq t1 t3) ?_
  refine st_ldB (k0_off42_eq t1 t3) ?_
  have e36 : k0_pay105 (F := F) (rowV (α := BitVec 32) fb (16 * t1.val + t3.val) 48) (rowV (α := BitVec 32) fb (16 * t1.val + t3.val) 49) = mk1 fun l => pidx (fb (16 * t1.val + t3.val)) (48 + l) := by
    rw [← pidx_vec (fb (16 * t1.val + t3.val)) 48 49 rfl]
    simp only [cast_rowV, k0_pay105]; rfl
  refine st_assume (P := k0_chk36 _ _) (by rw [e36]; exact pidx_inb a13 h13 _ _) ?_
  refine st_zero (lim := 16) (by decide) e36 maskAll rfl ?_
  refine st_ldB (k0_off43_eq t1 t3) ?_
  refine st_ldB (k0_off44_eq t1 t3) ?_
  have e37 : k0_pay106 (F := F) (rowV (α := BitVec 32) fb (16 * t1.val + t3.val) 64) (rowV (α := BitVec 32) fb (16 * t1.val + t3.val) 65) = mk1 fun l => pidx (fb (16 * t1.val + t3.val)) (64 + l) := by
    rw [← pidx_vec (fb (16 * t1.val + t3.val)) 64 65 rfl]
    simp only [cast_rowV, k0_pay106]; rfl
  refine st_assume (P := k0_chk37 _ _) (by rw [e37]; exact pidx_inb a13 h13 _ _) ?_
  refine st_zero (lim := 16) (by decide) e37 maskAll rfl ?_
  refine st_ldB (k0_off45_eq t1 t3) ?_
  refine st_ldB (k0_off46_eq t1 t3) ?_
  refine st_pure ?_
  simp only [k0_pay107, cast_rowV]
  exact H

set_option maxHeartbeats 4000000 in
/-- One row of the zeroing. -/
theorem zero_trip {Q : _ → sProp 𝕄} (t1 : Fin k0_t1_loop.trips) (t3 : Fin k0_t3_loop.trips) (arg12 : BitVec 32) (u : Unit)
    (H : St d i fx fb (setP fp t3.val (zRow (fb (16 * t1.val + t3.val)) (fp t3.val))) fe fm ⊢ Q ⟨⟩) :
    St d i fx fb fp fe fm ⊢ wp frame (wpE (defs₀ (F := F)) 𝒱₀ (thrV d i) none) Set.univ
      (k0_t3_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 arg12 t3 u) Q := by
  have h13 := iv3_lt t3
  have e13 := iv3_eq t3
  obtain ⟨a13, ea⟩ : ∃ a, Scf.iv 0#32 1#32 t3 = a := ⟨_, rfl⟩
  rw [ea] at h13 e13
  unfold k0_t3_body
  beta_reduce
  refine st_bind (part11 t1 t3 _ a13 ea fun v12 => ?_)
  dsimp only
  refine st_bind (part12 t1 t3 v12 a13 h13 ?_)
  dsimp only
  have e38 : k0_pay9 (mk1 fun l => IntOp.addi (IntOp.muli ((fb (16 * t1.val + t3.val)) (80 + l)) 64#32) ((fb (16 * t1.val + t3.val)) (81 + l))) 0#32 = mk1 fun l => pidx (fb (16 * t1.val + t3.val)) (80 + l) := by
    rw [← pidx_vec (fb (16 * t1.val + t3.val)) 80 81 rfl]
    rfl
  refine st_assume (P := k0_chk38 _ _) (by rw [e38]; exact pidx_inb a13 h13 _ _) ?_
  refine st_zero (lim := 16) (by decide) e38 maskAll rfl ?_
  refine st_ldB (k0_off47_eq t1 t3) ?_
  refine st_ldB (k0_off48_eq t1 t3) ?_
  have e39 : k0_pay10 (F := F) (rowV (α := BitVec 32) fb (16 * t1.val + t3.val) 96) (rowV (α := BitVec 32) fb (16 * t1.val + t3.val) 97) = mk1 fun l => pidx (fb (16 * t1.val + t3.val)) (96 + l) := by
    rw [← pidx_vec (fb (16 * t1.val + t3.val)) 96 97 rfl]
    simp only [cast_rowV, k0_pay10]; rfl
  refine st_assume (P := k0_chk39 _ _) (by rw [e39]; exact pidx_inb a13 h13 _ _) ?_
  refine st_zero (lim := 16) (by decide) e39 maskAll rfl ?_
  refine st_ldB (k0_off49_eq t1 t3) ?_
  refine st_ldB (k0_off50_eq t1 t3) ?_
  have e40 : k0_pay11 (F := F) (rowV (α := BitVec 32) fb (16 * t1.val + t3.val) 112) (rowV (α := BitVec 32) fb (16 * t1.val + t3.val) 113) = mk1 fun l => pidx (fb (16 * t1.val + t3.val)) (112 + l) := by
    rw [← pidx_vec (fb (16 * t1.val + t3.val)) 112 113 rfl]
    simp only [cast_rowV, k0_pay11]; rfl
  refine st_assume (P := k0_chk40 _ _) (by rw [e40]; exact pidx_inb a13 h13 _ _) ?_
  refine st_zero (lim := 15) (by decide) e40 mask15 rfl ?_
  refine st_pure ?_
  rw [e13]
  exact H

end Cert.Proof.SC
-- ==== Proof.Dma.lean ====
/-
  A transfer a tile issues and waits for at once, and a counted loop by an invariant.
-/
module

public import proofs.«01_k».proof.Proof.Zero
public import Idealize.ShloMosaic.Lib.Transfers
public import Idealize.ShloMosaic.Lib.Scf

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {i : grid0.Coords} {α : Type}

/-- A transfer issued and awaited at once: the destination holds what the source read. -/
theorem dma_sync {Q : α → sProp 𝕄} {sp sp' : Space} {s : Shape} {e : EltTy} {src : Memref sig (thrV d i).2.kind sp s e} {dst : Memref sig (thrV d i).2.kind sp' s e}
    {sm : DmaSem sig} {h1 h2 h3 h4 h5} {k : PUnit → Prog (TpuEff nD τ sig (Elt F) Λ₀ (thrV d i).2) α} {q : PosShare TreeShare}
    {fs : Buf (Elt F) (src.view.loc (thrV d i))} {fd : Buf (Elt F) (dst.view.loc (thrV d i))} {Sd : Finset (Idx (dst.view.loc (thrV d i)))}
    (hs : 0 < s.numel) (hSd : dst.view.set ⊆ Sd) (O : CellTallies nD τ sig (HIx 1)) (W : Waits sig (HIx 1)) :
    iprop((src.view.loc (thrV d i) ↦[src.view.set]{q} fs) ∗ (dst.view.loc (thrV d i) ↦[Sd]{fullShare} fd)
        ∗ semVal (thrV d i, SemLoc.dma sm) 0 ∗ owes (thrV d i) O W ∗ Transfers.MayWaits (thrV d i) (none : HIx 1) O)
      ⊢ iprop((iprop((dst.view.loc (thrV d i) ↦[Sd]{fullShare} (dst.view.write (Elt F) fd (src.view.read (Elt F) fs) Finset.univ))
            ∗ (src.view.loc (thrV d i) ↦[src.view.set]{q} fs) ∗ semVal (thrV d i, SemLoc.dma sm) 0
            ∗ owes (thrV d i) O (insert (SemLoc.dma sm, (none : HIx 1)) W))
          -∗ wp frame (wpE (defs₀ (F := F)) 𝒱₀ (thrV d i) none) Set.univ (k ⟨⟩) Q)
        -∗ wp frame (wpE (defs₀ (F := F)) 𝒱₀ (thrV d i) none) Set.univ
            (Prog.lift (.enqueueDma src (.here dst) (.dma sm) h1 h2 h3) >>= fun _ => Prog.lift (.waitDma2 sm src dst h4 h5) >>= k) Q) := by
  simp only [Prog.lift, Prog.bind_op, Prog.bind_ret]
  iintro ⟨Hs, Hd, Hv, HO, HM⟩ Hk
  iapply (Transfers.wp_dmaLocal countersEmb 𝒱₀ (thrV d i) none (none : HIx 1) _ rfl (View.amount_pos _ _ hs) hSd) $$ [Hs Hd Hv]
  · iframe Hs Hd Hv
  iintro Hfl
  ihave HM' := (Transfers.MayWaits.elim (.dma sm)) $$ HM
  iapply (Transfers.wp_waitLocalO countersEmb 𝒱₀ (thrV d i) none (none : HIx 1) rfl) $$ [Hfl HO HM']
  · iframe HO HM'
    iexact Hfl
  iintro ⟨⟨Hd, Hs⟩, Hv, HO⟩
  iapply Hk
  iframe Hd Hs Hv HO

/-- A counted loop by an invariant, at the end of a program. -/
theorem st_for {L : Scf.Loop 32} {hok : L.OK} {body : Fin L.trips → Unit → Prog (TpuEff nD τ sig (Elt F) Λ₀ (thrV d i).2) Unit}
    (I : ℕ → sProp 𝕄) {P : sProp 𝕄} {Q : Unit → sProp 𝕄} (h0 : P ⊢ I 0)
    (hb : ∀ (k : Fin L.trips) u, I k.val ⊢ wp frame (wpE (defs₀ (F := F)) 𝒱₀ (thrV d i) none) Set.univ (body k u) fun _ => I (k.val + 1))
    (hQ : I L.trips ⊢ Q ⟨⟩) :
    P ⊢ wp frame (wpE (defs₀ (F := F)) 𝒱₀ (thrV d i) none) Set.univ (Scf.Loop.for L hok ⟨⟩ body) Q := by
  refine BIBase.Entails.trans ?_ (Scf.wp_for _ _ _ _ _ _ _ _ body (fun k _ => I k) hb)
  iintro H
  isplitl [H]
  · iapply h0; iexact H
  iintro %_ HI
  iapply hQ; iexact HI

end Cert.Proof.SC
-- ==== Proof.Group.lean ====
/-
  The two loops over a group's sixteen rows: the fill leaves every row's counts, the zeroing takes them all back.
-/
module

public import proofs.«01_k».proof.Proof.Dma

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {i : grid0.Coords} {fx : ℕ → ℕ → F .f32} {fb : ℕ → ℕ → BitVec 32} {fe fm : ℕ → F .f32}

theorem cntL_congr {n n' : ℕ → BitVec 32} {lim : ℕ} (h : ∀ l < lim, n l = n' l) (b : ℕ) : cntL n lim b = cntL n' lim b := by
  unfold cntL
  refine congrArg Finset.card (Finset.filter_congr fun l hl => ?_)
  rw [h l (Finset.mem_range.mp hl)]

theorem addChunk_congr {b b' : ℕ → BitVec 32} {c lim : ℕ} (hc : c + lim ≤ 127) (h : ∀ t < 128, b t = b' t) (g : ℕ → F .f32) :
    addChunk b c lim g = addChunk b' c lim g := by
  funext col
  unfold addChunk
  rw [cntL_congr (fun l hl => ?_) col]
  unfold pidx
  rw [h (c + l) (by omega), h (c + l + 1) (by omega)]

theorem zChunk_congr {b b' : ℕ → BitVec 32} {c lim : ℕ} (hc : c + lim ≤ 127) (h : ∀ t < 128, b t = b' t) (g : ℕ → F .f32) :
    zChunk b c lim g = zChunk b' c lim g := by
  funext col
  unfold zChunk
  rw [cntL_congr (fun l hl => ?_) col]
  unfold pidx
  rw [h (c + l) (by omega), h (c + l + 1) (by omega)]

theorem pRow_congr {b b' : ℕ → BitVec 32} (h : ∀ t < 128, b t = b' t) (g : ℕ → F .f32) : pRow b g = pRow b' g := by
  unfold pRow
  iterate 8 rw [addChunk_congr (by decide) h]

theorem zRow_congr {b b' : ℕ → BitVec 32} (h : ∀ t < 128, b t = b' t) (g : ℕ → F .f32) : zRow b g = zRow b' g := by
  unfold zRow
  iterate 8 rw [zChunk_congr (by decide) h]

/-- A row's counts, from its input row and the bin boundaries. -/
def cRow (fe row : ℕ → F .f32) : ℕ → F .f32 := pRow (binW fe row) fun _ => z0

/-- A group's counts with rows `lo` to `hi` filled and the others zero. -/
def PP (fe : ℕ → F .f32) (fx : ℕ → ℕ → F .f32) (t1 lo hi : ℕ) : ℕ → ℕ → F .f32 :=
  fun a b => if lo ≤ a ∧ a < hi then cRow fe (fx (16 * t1 + a)) b else z0

/-- The bins of the rows below `n` are the rows' own. -/
def Binned (fe : ℕ → F .f32) (fx : ℕ → ℕ → F .f32) (fb : ℕ → ℕ → BitVec 32) (n : ℕ) : Prop :=
  ∀ r < n, ∀ b < 128, fb r b = binW fe (fx r) b

theorem PP_empty (t1 lo : ℕ) : PP fe fx t1 lo lo = fun _ _ => z0 := by
  funext a b; unfold PP; rw [if_neg (by omega)]

theorem PP_fill (t1 k : ℕ) (b' : ℕ → BitVec 32) (h : ∀ t < 128, b' t = binW fe (fx (16 * t1 + k)) t) :
    setP (PP fe fx t1 0 k) k (pRow b' (PP fe fx t1 0 k k)) = PP fe fx t1 0 (k + 1) := by
  have e : PP fe fx t1 0 k k = fun _ => z0 := by funext b; unfold PP; rw [if_neg (by omega)]
  rw [e, pRow_congr h]
  funext a b
  unfold setP PP
  by_cases ha : a = k
  · rw [if_pos ha, if_pos (by omega), ha]; rfl
  · rw [if_neg ha]
    by_cases hb : 0 ≤ a ∧ a < k
    · rw [if_pos hb, if_pos (by omega)]
    · rw [if_neg hb, if_neg (by omega)]

theorem PP_zero (t1 k : ℕ) (hk : k < 16) (b' : ℕ → BitVec 32) (h : ∀ t < 128, b' t = binW fe (fx (16 * t1 + k)) t) :
    setP (PP fe fx t1 k 16) k (zRow b' (PP fe fx t1 k 16 k)) = PP fe fx t1 (k + 1) 16 := by
  have e : PP fe fx t1 k 16 k = cRow fe (fx (16 * t1 + k)) := by funext b; unfold PP; rw [if_pos (by omega)]
  rw [e, zRow_congr h]
  unfold cRow
  rw [zRow_pRow]
  funext a b
  unfold setP PP
  by_cases ha : a = k
  · rw [if_pos ha, if_neg (by omega)]
  · rw [if_neg ha]
    by_cases hb : k ≤ a ∧ a < 16
    · rw [if_pos hb, if_pos (by omega)]
    · rw [if_neg hb, if_neg (by omega)]

theorem Binned_fill {n : ℕ} (h : Binned fe fx fb n) : Binned fe fx (fillB fe (fx n) n fb) (n + 1) := by
  intro r hr b hb
  unfold fillB
  by_cases e : r = n
  · rw [if_pos ⟨e, hb⟩, e]
  · rw [if_neg (fun h' => e h'.1)]; exact h r (by omega) b hb

set_option maxHeartbeats 1000000 in
/-- The fill of a group: from zero counts to every row's. -/
theorem fill_loop (t1 : Fin k0_t1_loop.trips) (arg12 : BitVec 32) (h : Binned fe fx fb (16 * t1.val)) :
    St d i fx fb (fun _ _ => z0) fe fm ⊢ wp frame (wpE (defs₀ (F := F)) 𝒱₀ (thrV d i) none) Set.univ
      (Scf.Loop.for k0_t2_loop k0_t2_ok ⟨⟩ (k0_t2_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 (mk1 fun l => BitVec.ofNat 32 l) t1 arg12))
      fun _ => iprop(∃ fb' fm', ⌜Binned fe fx fb' (16 * (t1.val + 1))⌝ ∗ St d i fx fb' (PP fe fx t1.val 0 16) fe fm') := by
  refine st_for (fun k => iprop(∃ fb' fm', ⌜Binned fe fx fb' (16 * t1.val + k)⌝ ∗ St d i fx fb' (PP fe fx t1.val 0 k) fe fm')) ?_ ?_ ?_
  · iintro HS
    iexists fb; iexists fm
    isplitr; · ipureintro; exact h
    rw [PP_empty]; iexact HS
  · intro k u
    iintro ⟨%fb', %fm', %hb, HS⟩
    iapply (fill_trip t1 k arg12 u ?_) $$ HS
    intro fm''
    rw [PP_fill t1.val k.val _ (fun t ht => Binned_fill hb _ (Nat.lt_succ_self _) t ht)]
    iintro HS
    iexists _; iexists fm''
    isplitr
    swap; · iexact HS
    ipureintro; exact Binned_fill hb
  · iintro ⟨%fb', %fm', %hb, HS⟩
    iexists fb'; iexists fm'
    isplitr
    · ipureintro; exact hb
    iexact HS

set_option maxHeartbeats 1000000 in
/-- The zeroing of a group: from every row's counts back to zero. -/
theorem zero_loop (t1 : Fin k0_t1_loop.trips) (arg12 : BitVec 32) (h : Binned fe fx fb (16 * (t1.val + 1))) :
    St d i fx fb (PP fe fx t1.val 0 16) fe fm ⊢ wp frame (wpE (defs₀ (F := F)) 𝒱₀ (thrV d i) none) Set.univ
      (Scf.Loop.for k0_t3_loop k0_t3_ok ⟨⟩ (k0_t3_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 t1 arg12))
      fun _ => St d i fx fb (fun _ _ => z0) fe fm := by
  refine st_for (fun k => St d i fx fb (PP fe fx t1.val k 16) fe fm) (.of_eq rfl) ?_ (.of_eq ?_)
  · intro k u
    have hk : k.val < 16 := k.isLt
    refine zero_trip t1 k arg12 u (.of_eq ?_)
    rw [PP_zero t1.val k.val hk _ (fun t ht => h _ (by omega) t ht)]
  · show St d i fx fb (PP fe fx t1.val 16 16) fe fm = _
    rw [PP_empty]

end Cert.Proof.SC
-- ==== Proof.Bands.lean ====
/-
  The rows of the arrays in HBM a tile holds, and what its sliced transfers read and write there.
-/
module

public import proofs.«01_k».proof.Proof.Group
public import Idealize.ShloMosaic.Lib.Pipeline.Value

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The worker's number of a tile: sixteen subcores of two cores, the cores alternating. -/
def wk (i : grid0.Coords) : ℕ := 2 * (i 1).val + (i 0).val

theorem wk_lt (i : grid0.Coords) : wk i < 32 := by
  have h0 : (i 0).val < 2 := (i 0).isLt
  have h1 : (i 1).val < 16 := (i 1).isLt
  unfold wk; omega

/-- Rows `lo` to `lo + n` of a matrix, every column. -/
def band (a b lo n : ℕ) : Finset (⟨2, ![a, b]⟩ : Shape).Idx := Finset.univ.filter fun y => lo ≤ (y 0).val ∧ (y 0).val < lo + n

theorem mem_band {a b lo n : ℕ} {y : (⟨2, ![a, b]⟩ : Shape).Idx} : y ∈ band a b lo n ↔ lo ≤ (y 0).val ∧ (y 0).val < lo + n := by
  simp [band]

theorem mem_rows {a b n lo : ℕ} {off : Fin 2 → ℕ} {inb} (ho : off = ![lo, 0]) {y : (⟨2, ![a, b]⟩ : Shape).Idx} :
    y ∈ (Rect.unit (s := ⟨2, ![a, b]⟩) off ![n, b] inb).set ↔ lo ≤ (y 0).val ∧ (y 0).val < lo + n := by
  subst ho
  rw [Rect.mem_set_unit]
  constructor
  · intro h; exact h 0
  · intro h k
    have h1 : (y 1).val < b := (y 1).isLt
    match k with
    | 0 => exact h
    | 1 => exact ⟨Nat.zero_le _, by show (y 1).val < 0 + b; omega⟩

theorem rows_eq {a b n lo : ℕ} {off : Fin 2 → ℕ} {inb} (ho : off = ![lo, 0]) :
    (Rect.unit (s := ⟨2, ![a, b]⟩) off ![n, b] inb).set = band a b lo n := by
  ext y; rw [mem_rows ho, mem_band]

/-- A block of whole rows written over a matrix. -/
theorem upd_rows {α : Type} {a b n lo : ℕ} {off : Fin 2 → ℕ} {h} (ho : off = ![lo, 0]) (f : (⟨2, ![a, b]⟩ : Shape).Idx → α) (W : ℕ → ℕ → α)
    (y : (⟨2, ![a, b]⟩ : Shape).Idx) :
    updateSlice (s := ⟨2, ![a, b]⟩) (u := ⟨2, ![n, b]⟩) f (mk2 W) off h y = if lo ≤ (y 0).val ∧ (y 0).val < lo + n then W ((y 0).val - lo) (y 1).val else f y := by
  subst ho
  have h1 : (y 1).val < b := (y 1).isLt
  unfold updateSlice
  by_cases hy : lo ≤ (y 0).val ∧ (y 0).val < lo + n
  · refine (dif_pos ?_).trans (if_pos hy).symm
    intro k
    match k with
    | 0 => exact hy
    | 1 => exact ⟨Nat.zero_le _, by show (y 1).val < 0 + b; omega⟩
  · refine (dif_neg fun hc => hy (hc 0)).trans (if_neg hy).symm

/-! ## The arrays in HBM, as a tile names them -/

abbrev gX : Memref sig .scVector .hbm S2048x128 .f32 := Memref.whole main_v0_scv
abbrev gE : Memref sig .scVector .hbm S64 .f32 := Memref.whole main_v4_scv
abbrev gZ : Memref sig .scVector .hbm S16x4096 .f32 := Memref.whole main_v5_scv
abbrev gB : Memref sig .scVector .hbm S2048x144 .i32 := Memref.whole main_v6_0_scv
abbrev gP : Memref sig .scVector .hbm S2048x4096 .f32 := Memref.whole main_v6_1_scv
/-- The tile's rows of the input, of the bins, and a group's rows of the counts. -/
abbrev gXs (i : grid0.Coords) : Memref sig .scVector .hbm S64x128 .f32 := gX.slice (Rect.unit (s := S2048x128) (k0_off1 i) S64x128.size (k0_off1_inb i)) (fun _ => rfl)
abbrev gBs (i : grid0.Coords) : Memref sig .scVector .hbm S64x144 .i32 := gB.slice (Rect.unit (s := S2048x144) (k0_off51 i) S64x144.size (k0_off51_inb i)) (fun _ => rfl)
abbrev gPs (i : grid0.Coords) (t1 : Fin k0_t1_loop.trips) : Memref sig .scVector .hbm S16x4096 .f32 :=
  gP.slice (Rect.unit (s := S2048x4096) (k0_off34 i t1) S16x4096.size (k0_off34_inb i t1)) (fun _ => rfl)

theorem off1_wk (i : grid0.Coords) : k0_off1 i = ![64 * wk i, 0] := by
  rw [k0_off1_eq]; unfold wk; congr 1; omega
theorem off51_wk (i : grid0.Coords) : k0_off51 i = ![64 * wk i, 0] := by
  rw [k0_off51_eq]; unfold wk; congr 1; omega
theorem off34_wk (i : grid0.Coords) (t1 : Fin k0_t1_loop.trips) : k0_off34 i t1 = ![64 * wk i + 16 * t1.val, 0] := by
  rw [k0_off34_eq]; unfold wk; congr 1; omega

theorem gXs_set (i : grid0.Coords) : (gXs i).view.set = band 2048 128 (64 * wk i) 64 :=
  (View.set_slice_whole (main_v0_scv : Ref sig .scVector) _).trans (rows_eq (off1_wk i))
theorem gBs_set (i : grid0.Coords) : (gBs i).view.set = band 2048 144 (64 * wk i) 64 :=
  (View.set_slice_whole (main_v6_0_scv : Ref sig .scVector) _).trans (rows_eq (off51_wk i))
theorem gPs_set (i : grid0.Coords) (t1 : Fin k0_t1_loop.trips) : (gPs i t1).view.set = band 2048 4096 (64 * wk i + 16 * t1.val) 16 :=
  (View.set_slice_whole (main_v6_1_scv : Ref sig .scVector) _).trans (rows_eq (off34_wk i t1))

theorem gXs_read (i : grid0.Coords) (X : ℕ → ℕ → F .f32) :
    (gXs i).view.read (Elt F) (mk2 X : Buf (Elt F) (gX.view.loc (thrV (0 : Dev nD) i))) = mk2 fun r c => X (64 * wk i + r) c := by
  funext y
  have e0 : k0_off1 i 0 = 64 * wk i := congrFun (off1_wk i) 0
  have e1 : k0_off1 i 1 = 0 := congrFun (off1_wk i) 1
  show X (k0_off1 i 0 + 1 * (y 0).val) (k0_off1 i 1 + 1 * (y 1).val) = X (64 * wk i + (y 0).val) (y 1).val
  rw [e0, e1, Nat.one_mul, Nat.zero_add, Nat.one_mul]

theorem gBs_write (i : grid0.Coords) (f : S2048x144.Idx → BitVec 32) (W : ℕ → ℕ → BitVec 32) (y : S2048x144.Idx) :
    (gBs i).view.write (Elt F) f (mk2 W) Finset.univ y = if 64 * wk i ≤ (y 0).val ∧ (y 0).val < 64 * wk i + 64 then W ((y 0).val - 64 * wk i) (y 1).val else f y :=
  (congrFun (View.write_whole_slice_unit (Val := Elt F) (main_v6_0_scv : Ref sig .scVector) (k0_off51 i) S64x144.size (k0_off51_inb i) f (mk2 W)) y).trans
    (upd_rows (off51_wk i) f W y)

theorem gPs_write (i : grid0.Coords) (t1 : Fin k0_t1_loop.trips) (f : S2048x4096.Idx → F .f32) (W : ℕ → ℕ → F .f32) (y : S2048x4096.Idx) :
    (gPs i t1).view.write (Elt F) f (mk2 W) Finset.univ y
      = if 64 * wk i + 16 * t1.val ≤ (y 0).val ∧ (y 0).val < 64 * wk i + 16 * t1.val + 16 then W ((y 0).val - (64 * wk i + 16 * t1.val)) (y 1).val else f y :=
  (congrFun (View.write_whole_slice_unit (Val := Elt F) (main_v6_1_scv : Ref sig .scVector) (k0_off34 i t1) S16x4096.size (k0_off34_inb i t1) f (mk2 W)) y).trans
    (upd_rows (off34_wk i t1) f W y)

end Cert.Proof.SC
-- ==== Proof.Tile.lean ====
/-
  One tile's whole body: its rows brought in, the groups' counts written out, the bins written out.
-/
module

public import proofs.«01_k».proof.Proof.Bands

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {i : grid0.Coords} {α : Type}

/-- `dma_sync` with the destination's contents named. -/
theorem dma_to {Q : α → sProp 𝕄} {sp sp' : Space} {s : Shape} {e : EltTy} {src : Memref sig (thrV d i).2.kind sp s e} {dst : Memref sig (thrV d i).2.kind sp' s e}
    {sm : DmaSem sig} {h1 h2 h3 h4 h5} {k : PUnit → Prog (TpuEff nD τ sig (Elt F) Λ₀ (thrV d i).2) α} {q : PosShare TreeShare}
    {fs : Buf (Elt F) (src.view.loc (thrV d i))} {fd : Buf (Elt F) (dst.view.loc (thrV d i))} (fd' : Buf (Elt F) (dst.view.loc (thrV d i))) {Sd : Finset (Idx (dst.view.loc (thrV d i)))}
    (Ss : Finset (Idx (src.view.loc (thrV d i)))) (hSs : src.view.set = Ss)
    (hs : 0 < s.numel) (hSd : dst.view.set ⊆ Sd) (O : CellTallies nD τ sig (HIx 1)) (W : Waits sig (HIx 1))
    (hw : ∀ y ∈ Sd, dst.view.write (Elt F) fd (src.view.read (Elt F) fs) Finset.univ y = fd' y) :
    iprop((src.view.loc (thrV d i) ↦[Ss]{q} fs) ∗ (dst.view.loc (thrV d i) ↦[Sd]{fullShare} fd)
        ∗ semVal (thrV d i, SemLoc.dma sm) 0 ∗ owes (thrV d i) O W ∗ Transfers.MayWaits (thrV d i) (none : HIx 1) O)
      ⊢ iprop((iprop((dst.view.loc (thrV d i) ↦[Sd]{fullShare} fd')
            ∗ (src.view.loc (thrV d i) ↦[Ss]{q} fs) ∗ semVal (thrV d i, SemLoc.dma sm) 0
            ∗ owes (thrV d i) O (insert (SemLoc.dma sm, (none : HIx 1)) W))
          -∗ wp frame (wpE (defs₀ (F := F)) 𝒱₀ (thrV d i) none) Set.univ (k ⟨⟩) Q)
        -∗ wp frame (wpE (defs₀ (F := F)) 𝒱₀ (thrV d i) none) Set.univ
            (Prog.lift (.enqueueDma src (.here dst) (.dma sm) h1 h2 h3) >>= fun _ => Prog.lift (.waitDma2 sm src dst h4 h5) >>= k) Q) := by
  subst hSs
  have h := dma_sync (F := F) (Q := Q) (d := d) (i := i) (src := src) (dst := dst) (sm := sm) (h1 := h1) (h2 := h2) (h3 := h3) (h4 := h4) (h5 := h5) (k := k) (q := q) (fs := fs) (fd := fd) hs hSd O W
  rw [pointsTo_congr hw] at h
  exact h

variable (X : ℕ → ℕ → F .f32) (E : ℕ → F .f32)

/-- The waits a tile has run are the ones it was told of and its transfers'. -/
def Wok (W W' : Waits sig (HIx 1)) : Prop := ∀ p ∈ W', p ∈ W ∨ p.2 = none

theorem Wok.insert {W W' : Waits sig (HIx 1)} (h : Wok W W') (g : SemLoc sig) : Wok W (insert (g, (none : HIx 1)) W') := by
  intro p hp
  rcases Finset.mem_insert.mp hp with rfl | hp
  · exact .inr rfl
  · exact h p hp

/-- Before group `n`: the bins of the rows done, the counts of the rows done written out. -/
def J (d : Dev nD) (i : grid0.Coords) (O : CellTallies nD τ sig (HIx 1)) (W : Waits sig (HIx 1)) (n : ℕ) : sProp 𝕄 :=
  iprop(∃ (fb : ℕ → ℕ → BitVec 32) (fm : ℕ → F .f32) (g : S2048x4096.Idx → F .f32) (W' : Waits sig (HIx 1)),
    ⌜Binned E (fun r c => X (64 * wk i + r) c) fb (16 * n)⌝
    ∗ ⌜∀ y : S2048x4096.Idx, 64 * wk i ≤ (y 0).val → (y 0).val < 64 * wk i + 16 * n → g y = cRow E (X (y 0).val) (y 1).val⌝
    ∗ ⌜Wok W W'⌝
    ∗ Transfers.MayWaits (thrV d i) (none : HIx 1) O
    ∗ St d i (fun r c => X (64 * wk i + r) c) fb (fun _ _ => z0) E fm
    ∗ (gP.view.loc (thrV d i) ↦[band 2048 4096 (64 * wk i) 64]{fullShare} (g : Buf (Elt F) (gP.view.loc (thrV d i))))
    ∗ semVal (thrV d i, SemLoc.dma cc0_scoped3.sem) 0
    ∗ owes (thrV d i) O W')

theorem iv1_lt (t1 : Fin k0_t1_loop.trips) : t1.val < 4 := t1.isLt

set_option maxRecDepth 16384 in
set_option maxHeartbeats 1000000 in
/-- One group of sixteen rows: filled, written out, zeroed. -/
theorem group_trip (O : CellTallies nD τ sig (HIx 1)) (W : Waits sig (HIx 1)) (t1 : Fin k0_t1_loop.trips) (u : Unit) :
    J X E d i O W t1.val ⊢ wp frame (wpE (defs₀ (F := F)) 𝒱₀ (thrV d i) none) Set.univ
      (k0_t1_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 (mk1 fun l => BitVec.ofNat 32 l) t1 u)
      fun _ => J X E d i O W (t1.val + 1) := by
  have ht := iv1_lt t1
  unfold k0_t1_body
  dsimp only
  unfold J
  iintro ⟨%fb, %fm, %g, %W', %hb, %hg, %hW, #Hmw, HSt, Hp, Hv, HO⟩
  rw [wp_bind]
  iapply (wp_wand _ _ _) $$ [HSt]
  · iapply (fill_loop t1 _ hb) $$ HSt
  iintro %_ ⟨%fb', %fm', %hb', HSt⟩
  dsimp only
  unfold St
  icases HSt with ⟨HX, HB, HP, HE, HM⟩
  iapply (dma_to (F := F) (src := aP) (dst := gPs i t1) (sm := cc0_scoped3.sem)
    (d := d) (i := i) (q := fullShare)
    (fs := (mk2 (PP E (fun r c => X (64 * wk i + r) c) t1.val 0 16) : Buf (Elt F) (aP.view.loc (thrV d i)))) (fd := (g : Buf (Elt F) (gP.view.loc (thrV d i))))
    (Sd := band 2048 4096 (64 * wk i) 64)
    (fd' := fun y : S2048x4096.Idx => if 64 * wk i + 16 * t1.val ≤ (y 0).val ∧ (y 0).val < 64 * wk i + 16 * t1.val + 16 then cRow E (X (y 0).val) (y 1).val else g y)
    (Ss := Finset.univ) (View.set_whole _) (by decide : 0 < S16x4096.numel) ?_ O W' ?_) $$ [HP Hp Hv HO]
  · rw [gPs_set]
    intro y hy
    have hy' := mem_band.mp hy
    refine mem_band.mpr ?_
    omega
  · intro y hy
    refine (gPs_write i t1 g (PP E (fun r c => X (64 * wk i + r) c) t1.val 0 16) y).trans ?_
    by_cases h : 64 * wk i + 16 * t1.val ≤ (y 0).val ∧ (y 0).val < 64 * wk i + 16 * t1.val + 16
    · rw [if_pos h, if_pos h]
      unfold PP
      rw [if_pos (by omega)]
      dsimp only
      rw [show 64 * wk i + (16 * t1.val + ((y 0).val - (64 * wk i + 16 * t1.val))) = (y 0).val by omega]
    · rw [if_neg h, if_neg h]
  · iframe Hv HO Hmw
    isplitl [HP]
    · iexact HP
    · iexact Hp
  iintro ⟨Hp, HP, Hv, HO⟩
  rw [wp_bind]
  iapply (wp_wand _ _ _) $$ [HX HB HP HE HM]
  · iapply (zero_loop (fx := fun r c => X (64 * wk i + r) c) (fb := fb') (fe := E) (fm := fm') t1 _ hb')
    unfold St
    iframe HX HB HP HE HM
  iintro %_ HSt
  unfold St
  dsimp only
  rw [wp_pure]
  imodintro
  iexists fb'; iexists fm'
  iexists (fun y : S2048x4096.Idx => if 64 * wk i + 16 * t1.val ≤ (y 0).val ∧ (y 0).val < 64 * wk i + 16 * t1.val + 16 then cRow E (X (y 0).val) (y 1).val else g y)
  iexists (insert (SemLoc.dma cc0_scoped3.sem, (none : HIx 1)) W')
  isplitr; · ipureintro; exact hb'
  isplitr
  swap
  isplitr
  swap
  · iframe Hmw HSt Hp Hv HO
  · ipureintro; exact hW.insert _
  · ipureintro
    intro y h1 h2
    dsimp only
    by_cases hy : 64 * wk i + 16 * t1.val ≤ (y 0).val
    · rw [if_pos ⟨hy, by omega⟩]
    · rw [if_neg (fun h => hy h.1)]
      exact hg y h1 (by omega)

end Cert.Proof.SC
-- ==== Proof.TileBody.lean ====
/-
  A tile's task from its own buffers and semaphores, taking what the launch hands it and giving back what it wrote.
-/
module

public import proofs.«01_k».proof.Proof.Tile
public import Idealize.ShloMosaic.Lib.ShareLeaves

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {i : grid0.Coords}

open Idealize.ShloMosaic.ShareLeaves (leaf)

/-- The tile's share of a read-only array. -/
def lf (i : grid0.Coords) : PosShare TreeShare := leaf 5 fullShare ⟨wk i, wk_lt i⟩

variable (X : ℕ → ℕ → F .f32) (E : ℕ → F .f32)

/-- The tile's rows of the bins are the rows' own, in the columns that hold them. -/
def BinsOK (i : grid0.Coords) (f : S2048x144.Idx → BitVec 32) : Prop :=
  ∀ y : S2048x144.Idx, 64 * wk i ≤ (y 0).val → (y 0).val < 64 * wk i + 64 → (y 1).val < 128 → f y = binW E (X (y 0).val) (y 1).val

/-- What a tile is handed: its rows of the input, shares of the boundaries and of the zeros, its rows of the results. -/
def goP (d : Dev nD) (i : grid0.Coords) : sProp 𝕄 :=
  iprop((gX.view.loc (thrV d i) ↦[band 2048 128 (64 * wk i) 64]{fullShare} (mk2 X : Buf (Elt F) (gX.view.loc (thrV d i))))
    ∗ (gE.view.loc (thrV d i) ↦{lf i} (mk1 E : Buf (Elt F) (gE.view.loc (thrV d i))))
    ∗ (gZ.view.loc (thrV d i) ↦{lf i} (mk2 (fun _ _ => z0) : Buf (Elt F) (gZ.view.loc (thrV d i))))
    ∗ (∃ f : Buf (Elt F) (gB.view.loc (thrV d i)), gB.view.loc (thrV d i) ↦[band 2048 144 (64 * wk i) 64]{fullShare} f)
    ∗ (∃ f : Buf (Elt F) (gP.view.loc (thrV d i)), gP.view.loc (thrV d i) ↦[band 2048 4096 (64 * wk i) 64]{fullShare} f))

/-- What a tile hands back: the same, its bins and its counts written. -/
def tdP (d : Dev nD) (i : grid0.Coords) : sProp 𝕄 :=
  iprop((gX.view.loc (thrV d i) ↦[band 2048 128 (64 * wk i) 64]{fullShare} (mk2 X : Buf (Elt F) (gX.view.loc (thrV d i))))
    ∗ (gE.view.loc (thrV d i) ↦{lf i} (mk1 E : Buf (Elt F) (gE.view.loc (thrV d i))))
    ∗ (gZ.view.loc (thrV d i) ↦{lf i} (mk2 (fun _ _ => z0) : Buf (Elt F) (gZ.view.loc (thrV d i))))
    ∗ (∃ f : Buf (Elt F) (gB.view.loc (thrV d i)), ⌜BinsOK X E i f⌝ ∗ gB.view.loc (thrV d i) ↦[band 2048 144 (64 * wk i) 64]{fullShare} f)
    ∗ (gP.view.loc (thrV d i) ↦[band 2048 4096 (64 * wk i) 64]{fullShare} (mk2 (fun R c => cRow E (X R) c) : Buf (Elt F) (gP.view.loc (thrV d i)))))

/-- The tile's scratch at contents not named, and its transfers' semaphores at zero. -/
def scr (d : Dev nD) (i : grid0.Coords) : sProp 𝕄 :=
  iprop((∃ f, (thrV d i).loc cc0_scratch0 ↦{fullShare} f) ∗ (∃ f, (thrV d i).loc cc0_scratch1 ↦{fullShare} f) ∗ (∃ f, (thrV d i).loc cc0_scratch2 ↦{fullShare} f)
    ∗ (∃ f, (thrV d i).loc cc0_scratch3 ↦{fullShare} f) ∗ (∃ f, (thrV d i).loc cc0_scratch4 ↦{fullShare} f))
def sems (d : Dev nD) (i : grid0.Coords) : sProp 𝕄 :=
  iprop(semVal (thrV d i, SemLoc.dma cc0_scoped0.sem) 0 ∗ semVal (thrV d i, SemLoc.dma cc0_scoped1.sem) 0 ∗ semVal (thrV d i, SemLoc.dma cc0_scoped2.sem) 0
    ∗ semVal (thrV d i, SemLoc.dma cc0_scoped3.sem) 0 ∗ semVal (thrV d i, SemLoc.dma cc0_scoped4.sem) 0)

theorem scr_intro {fx fb fp fe fm} : St (F := F) d i fx fb fp fe fm ⊢ scr d i := by
  unfold St scr
  iintro ⟨HX, HB, HP, HE, HM⟩
  isplitl [HX]; · iexists _; iexact HX
  isplitl [HB]; · iexists _; iexact HB
  isplitl [HP]; · iexists _; iexact HP
  isplitl [HE]; · iexists _; iexact HE
  iexists _; iexact HM

theorem Wok.refl (W : Waits sig (HIx 1)) : Wok W W := fun _ h => .inl h

/-- The four groups. -/
theorem groups (O : CellTallies nD τ sig (HIx 1)) (W : Waits sig (HIx 1)) :
    J X E d i O W 0 ⊢ wp frame (wpE (defs₀ (F := F)) 𝒱₀ (thrV d i) none) Set.univ
      (Scf.Loop.for k0_t1_loop k0_t1_ok ⟨⟩ (k0_t1_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4 (iota .scVector S16 32 [0] iota_S16_d0_w32_scVector)))
      fun _ => J X E d i O W 4 := by
  rw [iota_mk1]
  exact st_for (fun n => J X E d i O W n) .rfl (fun t1 u => group_trip X E O W t1 u) (.of_eq rfl)

set_option maxRecDepth 16384 in
set_option maxHeartbeats 2000000 in
/-- The tile's body, from its pieces to its pieces. -/
theorem body_run (O : CellTallies nD τ sig (HIx 1)) (W : Waits sig (HIx 1)) :
    iprop(goP X E d i ∗ scr d i ∗ sems d i ∗ Transfers.MayWaits (thrV d i) (none : HIx 1) O ∗ owes (thrV d i) O W)
      ⊢ wp frame (wpE (defs₀ (F := F)) 𝒱₀ (thrV d i) none) Set.univ (cc0__sc_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4)
        fun _ => iprop(tdP X E d i ∗ scr d i ∗ sems d i ∗ ∃ W', ⌜Wok W W'⌝ ∗ owes (thrV d i) O W') := by
  rw [cc0__sc_body_eq_skeleton]
  unfold cc0__sc_body_skel
  dsimp only
  unfold goP sems
  iintro ⟨⟨HgX, HgE, HgZ, ⟨%gb, HgB⟩, ⟨%gp, HgP⟩⟩, Hscr, ⟨H0, H1, H2, H3, H4⟩, #Hmw, HO⟩
  unfold scr
  icases Hscr with ⟨⟨%fx0, HX⟩, ⟨%fb0, HB⟩, ⟨%fp0, HP⟩, ⟨%fe0, HE⟩, ⟨%fm0, HM⟩⟩
  iapply (dma_to (F := F) (src := gE) (dst := aE) (sm := cc0_scoped0.sem) (d := d) (i := i) (q := lf i)
    (fs := (mk1 E : Buf (Elt F) (gE.view.loc (thrV d i)))) (fd := (fe0 : Buf (Elt F) (aE.view.loc (thrV d i)))) (Sd := Finset.univ)
    (fd' := (mk1 E : Buf (Elt F) (aE.view.loc (thrV d i))))
    (Ss := Finset.univ) (View.set_whole _) (by decide : 0 < S64.numel) (Finset.subset_univ _) O W
    (fun y _ => congrFun (View.write_whole_univ (Val := Elt F) (cc0_scratch3 : Ref sig .scVector) fe0 (mk1 E)) y)) $$ [HgE HE H0 HO]
  · iframe H0 HO Hmw
    isplitl [HgE]
    · iexact HgE
    · iexact HE
  iintro ⟨HE, HgE, H0, HO⟩
  iapply (dma_to (F := F) (src := gXs i) (dst := aX) (sm := cc0_scoped1.sem) (d := d) (i := i) (q := fullShare)
    (fs := (mk2 X : Buf (Elt F) (gX.view.loc (thrV d i)))) (fd := (fx0 : Buf (Elt F) (aX.view.loc (thrV d i)))) (Sd := Finset.univ)
    (fd' := (mk2 (fun r c => X (64 * wk i + r) c) : Buf (Elt F) (aX.view.loc (thrV d i))))
    (Ss := band 2048 128 (64 * wk i) 64) (gXs_set i) (by decide : 0 < S64x128.numel) (Finset.subset_univ _) O _
    (fun y _ => (congrFun (View.write_whole_univ (Val := Elt F) (cc0_scratch0 : Ref sig .scVector) fx0 _) y).trans (congrFun (gXs_read i X) y))) $$ [HgX HX H1 HO]
  · iframe H1 HO Hmw
    isplitl [HgX]
    · iexact HgX
    · iexact HX
  iintro ⟨HX, HgX, H1, HO⟩
  iapply (dma_to (F := F) (src := gZ) (dst := aP) (sm := cc0_scoped2.sem) (d := d) (i := i) (q := lf i)
    (fs := (mk2 (fun _ _ => z0) : Buf (Elt F) (gZ.view.loc (thrV d i)))) (fd := (fp0 : Buf (Elt F) (aP.view.loc (thrV d i)))) (Sd := Finset.univ)
    (fd' := (mk2 (fun _ _ => z0) : Buf (Elt F) (aP.view.loc (thrV d i))))
    (Ss := Finset.univ) (View.set_whole _) (by decide : 0 < S16x4096.numel) (Finset.subset_univ _) O _
    (fun y _ => congrFun (View.write_whole_univ (Val := Elt F) (cc0_scratch2 : Ref sig .scVector) fp0 _) y)) $$ [HgZ HP H2 HO]
  · iframe H2 HO Hmw
    isplitl [HgZ]
    · iexact HgZ
    · iexact HP
  iintro ⟨HP, HgZ, H2, HO⟩
  rw [wp_bind]
  iapply (wp_wand _ _ _) $$ [HX HB HP HE HM HgP H3 HO]
  · iapply (groups X E O W) $$ [HX HB HP HE HM HgP H3 HO]
    unfold J St
    iexists (un2 fb0 : ℕ → ℕ → BitVec 32); iexists (un1 fm0 : ℕ → F .f32); iexists gp; iexists _
    isplitr; · ipureintro; intro r hr; omega
    isplitr; · ipureintro; intro y h1 h2; omega
    isplitr
    swap
    · rw [mk2_un2, mk1_un1]
      iframe Hmw HX HP HE H3 HO HgP
      isplitl [HB]
      · iexact HB
      · iexact HM
    · ipureintro; exact ((Wok.refl W).insert _).insert _ |>.insert _
  iintro %_ HJ
  unfold J
  icases HJ with ⟨%fb, %fm, %g, %W', %hb, %hg, %hW, -, HSt, HgP, H3, HO⟩
  unfold St
  icases HSt with ⟨HX, HB, HP, HE, HM⟩
  iapply (dma_to (F := F) (src := aB) (dst := gBs i) (sm := cc0_scoped4.sem) (d := d) (i := i) (q := fullShare)
    (fs := (mk2 fb : Buf (Elt F) (aB.view.loc (thrV d i)))) (fd := (gb : Buf (Elt F) (gB.view.loc (thrV d i)))) (Sd := band 2048 144 (64 * wk i) 64)
    (fd' := fun y : S2048x144.Idx => if 64 * wk i ≤ (y 0).val ∧ (y 0).val < 64 * wk i + 64 then fb ((y 0).val - 64 * wk i) (y 1).val else gb y)
    (Ss := Finset.univ) (View.set_whole _) (by decide : 0 < S64x144.numel) (by rw [gBs_set]) O _
    (fun y _ => gBs_write i gb fb y)) $$ [HgB HB H4 HO]
  · iframe H4 HO Hmw
    isplitl [HB]
    · iexact HB
    · iexact HgB
  iintro ⟨HgB, HB, H4, HO⟩
  rw [wp_pure]
  imodintro
  unfold tdP
  isplitl [HgX HgE HgZ HgB HgP]
  · iframe HgX HgE HgZ
    isplitl [HgB]
    · iexists (fun y : S2048x144.Idx => if 64 * wk i ≤ (y 0).val ∧ (y 0).val < 64 * wk i + 64 then fb ((y 0).val - 64 * wk i) (y 1).val else gb y)
      isplitr
      · ipureintro
        intro y h1 h2 h3
        dsimp only
        rw [if_pos ⟨h1, h2⟩, hb _ (by show _ < 16 * 4; omega) _ h3]
        dsimp only
        rw [show 64 * wk i + ((y 0).val - 64 * wk i) = (y 0).val by omega]
      · iexact HgB
    · have e : (gP.view.loc (thrV d i) ↦[band 2048 4096 (64 * wk i) 64]{fullShare} (g : Buf (Elt F) (gP.view.loc (thrV d i))) : sProp 𝕄)
          = gP.view.loc (thrV d i) ↦[band 2048 4096 (64 * wk i) 64]{fullShare} (mk2 (fun R c => cRow E (X R) c) : Buf (Elt F) (gP.view.loc (thrV d i))) :=
        pointsTo_congr fun y hy => hg y (mem_band.mp hy).1 (by have := (mem_band.mp hy).2; show _ < 64 * wk i + 16 * 4; omega)
      rw [← e]
      iexact HgP
  isplitl [HX HB HP HE HM]
  · isplitl [HX]; · iexists _; iexact HX
    isplitl [HB]; · iexists _; iexact HB
    isplitl [HP]; · iexists _; iexact HP
    isplitl [HE]; · iexists _; iexact HE
    iexists _; iexact HM
  iframe H0 H1 H2 H3 H4
  iexists _
  isplitr
  swap; · iexact HO
  ipureintro; exact hW.insert _

end Cert.Proof.SC
-- ==== Proof.TileObl.lean ====
/-
What the launch hands the tiles and takes back, and every tile's obligation.
-/
module

public import proofs.«01_k».proof.Proof.TileBody

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.ShareLeaves (leaf)

section Own

variable (d : Dev nD) (i : grid0.Coords)

abbrev cell0 (d : Dev nD) (i : grid0.Coords) : GSem nD τ sig := (thrV d i, SemLoc.dma cc0_scoped0.sem)
abbrev cell1 (d : Dev nD) (i : grid0.Coords) : GSem nD τ sig := (thrV d i, SemLoc.dma cc0_scoped1.sem)
abbrev cell2 (d : Dev nD) (i : grid0.Coords) : GSem nD τ sig := (thrV d i, SemLoc.dma cc0_scoped2.sem)
abbrev cell3 (d : Dev nD) (i : grid0.Coords) : GSem nD τ sig := (thrV d i, SemLoc.dma cc0_scoped3.sem)
abbrev cell4 (d : Dev nD) (i : grid0.Coords) : GSem nD τ sig := (thrV d i, SemLoc.dma cc0_scoped4.sem)

omit [FloatOps F] in
/-- A tile's own semaphores: the five of its transfers, and the rest. -/
theorem ownSems0_V :
    (ownSems0 (thrV d i) : sProp 𝕄) = iprop(semVal (cell0 d i) 0 ∗ semVal (cell1 d i) 0 ∗ semVal (cell2 d i) 0 ∗ semVal (cell3 d i) 0 ∗ semVal (cell4 d i) 0
      ∗ bigSep ((((((ownCells (thrV d i)).erase (cell0 d i)).erase (cell1 d i)).erase (cell2 d i)).erase (cell3 d i)).erase (cell4 d i)) fun g => semVal g 0) := by
  unfold SparseCore.Cfg.ownSems0
  rw [SparseCore.bigSep_erase' ((mem_ownCells (g := cell0 d i)).mpr ⟨rfl, by show (SemLoc.dma cc0_scoped0.sem : SemLoc sig).isScoped .scVector = true; decide⟩),
    SparseCore.bigSep_erase' (Finset.mem_erase.mpr ⟨by simp [cell0, cell1]; decide, (mem_ownCells (g := cell1 d i)).mpr ⟨rfl, by show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d i)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d i)).mpr ⟨rfl, by show (SemLoc.dma cc0_scoped3.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d i)).mpr ⟨rfl, by show (SemLoc.dma cc0_scoped4.sem : SemLoc sig).isScoped .scVector = true; decide⟩⟩⟩⟩⟩)]

omit [FloatOps F] in
/-- A tile's own buffers: its five scratches, and the rest. -/
theorem ownBufs_V :
    (ownBufs (thrV d i) : sProp 𝕄) = iprop((∃ f, (thrV d i).loc cc0_scratch0 ↦{fullShare} f) ∗ (∃ f, (thrV d i).loc cc0_scratch1 ↦{fullShare} f) ∗ (∃ f, (thrV d i).loc cc0_scratch2 ↦{fullShare} f) ∗ (∃ f, (thrV d i).loc cc0_scratch3 ↦{fullShare} f) ∗ (∃ f, (thrV d i).loc cc0_scratch4 ↦{fullShare} f)
      ∗ bigSep ((((((ownRefs (τ := τ) (thrV d i).2).erase ((thrV d i).2.devRef cc0_scratch0)).erase ((thrV d i).2.devRef cc0_scratch1)).erase ((thrV d i).2.devRef cc0_scratch2)).erase ((thrV d i).2.devRef cc0_scratch3)).erase ((thrV d i).2.devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := (Proc.scVector ((i 0).castLE hcore0) ((i 1).castLE hsub0))) (b := (Proc.scVector ((i 0).castLE hcore0) ((i 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector ((i 0).castLE hcore0) ((i 1).castLE hsub0))) (b := (Proc.scVector ((i 0).castLE hcore0) ((i 1).castLE hsub0)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector ((i 0).castLE hcore0) ((i 1).castLE hsub0))) (b := (Proc.scVector ((i 0).castLE hcore0) ((i 1).castLE hsub0)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector ((i 0).castLE hcore0) ((i 1).castLE hsub0))) (b := (Proc.scVector ((i 0).castLE hcore0) ((i 1).castLE hsub0)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector ((i 0).castLE hcore0) ((i 1).castLE hsub0))) (b := (Proc.scVector ((i 0).castLE hcore0) ((i 1).castLE hsub0)).devRef cc0_scratch4) rfl⟩⟩⟩⟩)]

end Own

section Launch

variable (X : Dev nD → ℕ → ℕ → F .f32) (E : Dev nD → ℕ → F .f32)

/-- A tile's task: from what it is handed to what it hands back. -/
theorem tile_body (d : Dev nD) (i : grid0.Coords) (hF : (K (F := F)).Facts) (O : CellTallies nD τ sig (HIx 1)) (W : Waits sig (HIx 1)) (hO : ∀ g, O g none = 0) :
    iprop(levAts (K (F := F)).L (K (F := F)).lev ∗ emp ∗ goP (X d) (E d) d i ∗ scopedBufs (thrV d i) ∗ scopedSems0 (thrV d i) ∗ owes (thrV d i) O W)
      ⊢ wp frame (wpE (defs₀ (F := F)) 𝒱₀ (thrV d i) none) Set.univ (cc0__sc_body (F := F) i (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4)
          fun _ => iprop(tdP (X d) (E d) d i ∗ scopedBufs (thrV d i) ∗ scopedSems0 (thrV d i)
            ∗ ∃ W', ⌜∀ p ∈ W', p ∈ W ∨ p.2 = none ∨ p.2 = some (0 : Fin 1)⌝ ∗ owes (thrV d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V d i, ownBufs_V d i]
  iintro ⟨#Hlv, -, Hgo, ⟨H0, H1, H2, H3, H4, Hbufs⟩, ⟨S0, S1, S2, S3, S4, Hsems⟩, HO⟩
  ihave Hmw := (show levAts (K (F := F)).L (K (F := F)).lev ⊢ Transfers.MayWaits (thrV d i) (none : HIx 1) O from
    (K (F := F)).mayWaits_none (thr := thrV d i) hO) $$ Hlv
  iapply (wp_wand _ _ _) $$ [Hgo H0 H1 H2 H3 H4 S0 S1 S2 S3 S4 Hmw HO]
  · iapply (body_run (d := d) (i := i) (X d) (E d) O W) $$ [Hgo H0 H1 H2 H3 H4 S0 S1 S2 S3 S4 Hmw HO]
    unfold scr sems
    iframe
    iexact Hmw
  iintro %_ Hpost
  unfold scr sems
  icases Hpost with ⟨Htd, ⟨H0, H1, H2, H3, H4⟩, ⟨S0, S1, S2, S3, S4⟩, ⟨%W', %hW, HO⟩⟩
  iframe Htd H0 H1 H2 H3 H4 Hbufs S0 S1 S2 S3 S4 Hsems
  iexists W'
  iframe HO
  ipureintro
  intro p hp
  rcases hW p hp with h | h
  · exact .inl h
  · exact .inr (.inl h)

/-- The grid's coordinates of a core and a subcore. -/
abbrev coordsV (c : Fin (grid0.bound 0)) (s : Fin (grid0.bound 1)) : grid0.Coords :=
  fun | 0 => c | 1 => s | ⟨_ + 2, h⟩ => absurd h (Nat.not_lt.2 (Nat.le_add_left _ _))

/-- The same, for a core and a subcore of the call. -/
abbrev cw (c : Fin ((K (F := F)).nCore 0)) (s : Fin ((K (F := F)).nSub 0)) : grid0.Coords := coordsV ⟨c.val, c.isLt⟩ ⟨s.val, s.isLt⟩

set_option synthInstance.maxHeartbeats 400000 in
instance goP_storable (d : Dev nD) (i : grid0.Coords) : BI.Storable (upEmb : UEmb _ 𝕄) (goP (X d) (E d) d i) := by unfold goP; infer_instance
set_option synthInstance.maxHeartbeats 400000 in
instance tdP_storable (d : Dev nD) (i : grid0.Coords) : BI.Storable (upEmb : UEmb _ 𝕄) (tdP (X d) (E d) d i) := by unfold tdP; infer_instance

/-- What a core is handed, and what it hands back: its tiles' parts. -/
def goC (d : Dev nD) (c : Fin ((K (F := F)).nCore 0)) : sProp 𝕄 := bigSep Finset.univ fun i : Fin ((K (F := F)).nSub 0) => goP (X d) (E d) d (cw c i)
def tdC (d : Dev nD) (c : Fin ((K (F := F)).nCore 0)) : sProp 𝕄 := bigSep Finset.univ fun i : Fin ((K (F := F)).nSub 0) => tdP (X d) (E d) d (cw c i)

instance goC_storable (d : Dev nD) (c : Fin ((K (F := F)).nCore 0)) : BI.Storable (upEmb : UEmb _ 𝕄) (goC X E d c) := by unfold goC; infer_instance
instance tdC_storable (d : Dev nD) (c : Fin ((K (F := F)).nCore 0)) : BI.Storable (upEmb : UEmb _ 𝕄) (tdC X E d c) := by unfold tdC; infer_instance

/-- What the call hands over and takes back. -/
def P : (K (F := F)).Pay (nD := nD) (Val := Elt F) (Name := ℕ) (U := UU) where
  st := fun q d c => match q with
    | 0 => goC X E d c
  dn := fun q d c => match q with
    | 0 => tdC X E d c
  go := fun q d c i => match q with
    | 0 => goP (X d) (E d) d (cw c i)
  td := fun q d c i => match q with
    | 0 => tdP (X d) (E d) d (cw c i)
  x := fun _ _ => iprop(emp)

instance P_storable : (P X E).IsStorable where
  st q d c := match q with
    | 0 => goC_storable X E d c
  dn q d c := match q with
    | 0 => tdC_storable X E d c
  go q d c i := match q with
    | 0 => goP_storable X E d (cw c i)
  td q d c i := match q with
    | 0 => tdP_storable X E d (cw c i)

theorem defs₀_vector (c : Fin τ.nSC) (s : Fin τ.nSub) :
    defs₀ (F := F) (.scVector c s) 0 ()
      = SparseCore.onTile hcore0 hsub0 (fun c s => cc0__sc_body (F := F) (coordsV c s) (Memref.whole main_v0_scv) (Memref.isWhole_whole _) (Memref.whole main_v4_scv) (Memref.isWhole_whole _) (Memref.whole main_v5_scv) (Memref.isWhole_whole _) (Memref.whole main_v6_0_scv) (Memref.isWhole_whole _) (Memref.whole main_v6_1_scv) (Memref.isWhole_whole _) aX (Memref.isWhole_whole _) aB (Memref.isWhole_whole _) aP (Memref.isWhole_whole _) aE (Memref.isWhole_whole _) aM (Memref.isWhole_whole _) cc0_scoped0 cc0_scoped1 cc0_scoped2 cc0_scoped3 cc0_scoped4) ⟨⟩ c s := rfl

theorem tileObl (hF : (K (F := F)).Facts) : (K (F := F)).TileObl (D (F := F)) 𝒱 (P X E) v₀ 0 := by
  intro d c i O W hO _ _
  simp only [show (P X E).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X E d (coordsV ⟨_, hci.1⟩ ⟨_, hci.2⟩) hF O W hO

/-- A sequencer hands on what it is handed. -/
theorem vecSplit : (K (F := F)).VecSplit' (P X E) 0 := by
  intro d c
  show goC X E d c ⊢ |={Set.univ}=> iprop((bigSep Finset.univ fun i : Fin ((K (F := F)).nSub 0) => goP (X d) (E d) d (cw c i))
      ∗ ((bigSep Finset.univ fun i : Fin ((K (F := F)).nSub 0) => tdP (X d) (E d) d (cw c i)) -∗ tdC X E d c))
  unfold goC tdC
  iintro H
  imodintro
  iframe H
  iintro H
  iexact H

end Launch

end Cert.Proof.SC
-- ==== Proof.Split.lean ====
/-
The whole arrays in HBM split among the thirty-two tiles, and joined again.
-/
module

public import proofs.«01_k».proof.Proof.TileObl

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.ShareLeaves (leaf)

/-- The tiles' numbers, by core and subcore. -/
def wkE : Fin 2 × Fin 16 ≃ Fin 32 where
  toFun p := ⟨2 * p.2.val + p.1.val, by omega⟩
  invFun w := (⟨w.val % 2, by omega⟩, ⟨w.val / 2, by omega⟩)
  left_inv p := by
    rcases p with ⟨a, b⟩
    refine Prod.ext (Fin.ext ?_) (Fin.ext ?_)
    · show (2 * b.val + a.val) % 2 = a.val; omega
    · show (2 * b.val + a.val) / 2 = b.val; omega
  right_inv w := Fin.ext (by show 2 * (w.val / 2) + w.val % 2 = w.val; omega)

/-- A family over the thirty-two tiles, core by core. -/
theorem bigSep_workers (Φ : Fin 32 → sProp 𝕄) :
    bigSep Finset.univ Φ = bigSep Finset.univ fun c : Fin ((K (F := F)).nCore 0) => bigSep Finset.univ fun i : Fin ((K (F := F)).nSub 0) => Φ ⟨wk (cw c i), wk_lt _⟩ := by
  rw [bigSep_univ_equiv wkE Φ, bigSep_univ_prod (fun p : Fin 2 × Fin 16 => Φ (wkE p))]
  rfl

theorem band_disj (b : ℕ) : ∀ w ∈ (Finset.univ : Finset (Fin 32)), ∀ w' ∈ (Finset.univ : Finset (Fin 32)), w ≠ w' →
    Disjoint (band 2048 b (64 * w.val) 64) (band 2048 b (64 * w'.val) 64) := by
  intro w _ w' _ h
  rw [Finset.disjoint_left]
  intro y hy hy'
  rw [mem_band] at hy hy'
  exact h (Fin.ext (by omega))

theorem band_cover (b : ℕ) : (Finset.univ : Finset (Fin 32)).biUnion (fun w => band 2048 b (64 * w.val) 64) = Finset.univ := by
  ext y
  have h : (y 0).val < 2048 := (y 0).isLt
  simp only [Finset.mem_biUnion, Finset.mem_univ, true_and, iff_true]
  exact ⟨⟨(y 0).val / 64, by omega⟩, mem_band.mpr (by show 64 * ((y 0).val / 64) ≤ _ ∧ _ < 64 * ((y 0).val / 64) + 64; omega)⟩

/-! ## The arrays, as the TensorCore names them -/

abbrev lX (d : Dev nD) : Loc nD τ sig := (SparseCore.T d).loc main_v0
abbrev lE (d : Dev nD) : Loc nD τ sig := (SparseCore.T d).loc main_v4
abbrev lZ (d : Dev nD) : Loc nD τ sig := (SparseCore.T d).loc main_v5
abbrev lB (d : Dev nD) : Loc nD τ sig := (SparseCore.T d).loc main_v6_0
abbrev lP (d : Dev nD) : Loc nD τ sig := (SparseCore.T d).loc main_v6_1

section Split

variable (X : Dev nD → ℕ → ℕ → F .f32) (E : Dev nD → ℕ → F .f32) (d : Dev nD)

/-- What tile `w` is handed. -/
def goQ (w : Fin 32) : sProp 𝕄 :=
  iprop((lX d ↦[band 2048 128 (64 * w.val) 64]{fullShare} (mk2 (X d) : Buf (Elt F) (lX d)))
    ∗ (lE d ↦{leaf 5 fullShare w} (mk1 (E d) : Buf (Elt F) (lE d)))
    ∗ (lZ d ↦{leaf 5 fullShare w} (mk2 (fun _ _ => z0) : Buf (Elt F) (lZ d)))
    ∗ (∃ f : Buf (Elt F) (lB d), lB d ↦[band 2048 144 (64 * w.val) 64]{fullShare} f)
    ∗ (∃ f : Buf (Elt F) (lP d), lP d ↦[band 2048 4096 (64 * w.val) 64]{fullShare} f))

/-- The bins of tile `w`'s rows. -/
def BOK (w : Fin 32) (f : S2048x144.Idx → BitVec 32) : Prop :=
  ∀ y : S2048x144.Idx, 64 * w.val ≤ (y 0).val → (y 0).val < 64 * w.val + 64 → (y 1).val < 128 → f y = binW (E d) (X d (y 0).val) (y 1).val

/-- What tile `w` hands back. -/
def tdQ (w : Fin 32) : sProp 𝕄 :=
  iprop((lX d ↦[band 2048 128 (64 * w.val) 64]{fullShare} (mk2 (X d) : Buf (Elt F) (lX d)))
    ∗ (lE d ↦{leaf 5 fullShare w} (mk1 (E d) : Buf (Elt F) (lE d)))
    ∗ (lZ d ↦{leaf 5 fullShare w} (mk2 (fun _ _ => z0) : Buf (Elt F) (lZ d)))
    ∗ (∃ f : Buf (Elt F) (lB d), ⌜BOK X E d w f⌝ ∗ lB d ↦[band 2048 144 (64 * w.val) 64]{fullShare} f)
    ∗ (lP d ↦[band 2048 4096 (64 * w.val) 64]{fullShare} (mk2 (fun R c => cRow (E d) (X d R) c) : Buf (Elt F) (lP d))))

theorem goP_eq (i : grid0.Coords) : goP (X d) (E d) d i = goQ X E d ⟨wk i, wk_lt i⟩ := rfl
theorem tdP_eq (i : grid0.Coords) : tdP (X d) (E d) d i = tdQ X E d ⟨wk i, wk_lt i⟩ := rfl

theorem goC_all : (bigSep Finset.univ fun c => goC X E d c) = bigSep Finset.univ (goQ X E d) :=
  ((bigSep_workers (goQ X E d)).trans (bigSep_congr fun c _ => (bigSep_congr fun i _ => (goP_eq X E d (cw c i)).symm))).symm
theorem tdC_all : (bigSep Finset.univ fun c => tdC X E d c) = bigSep Finset.univ (tdQ X E d) :=
  ((bigSep_workers (tdQ X E d)).trans (bigSep_congr fun c _ => (bigSep_congr fun i _ => (tdP_eq X E d (cw c i)).symm))).symm

/-- The arrays the call takes. -/
def callPre : sProp 𝕄 :=
  iprop((lX d ↦{fullShare} (mk2 (X d) : Buf (Elt F) (lX d))) ∗ (lE d ↦{fullShare} (mk1 (E d) : Buf (Elt F) (lE d)))
    ∗ (lZ d ↦{fullShare} (mk2 (fun _ _ => z0) : Buf (Elt F) (lZ d)))
    ∗ (∃ f : Buf (Elt F) (lB d), lB d ↦{fullShare} f) ∗ (∃ f : Buf (Elt F) (lP d), lP d ↦{fullShare} f))

/-- The bins of all rows. -/
def BOKall (f : S2048x144.Idx → BitVec 32) : Prop := ∀ y : S2048x144.Idx, (y 1).val < 128 → f y = binW (E d) (X d (y 0).val) (y 1).val

/-- The arrays the call gives back. -/
def callPost : sProp 𝕄 :=
  iprop((lX d ↦{fullShare} (mk2 (X d) : Buf (Elt F) (lX d))) ∗ (lE d ↦{fullShare} (mk1 (E d) : Buf (Elt F) (lE d)))
    ∗ (lZ d ↦{fullShare} (mk2 (fun _ _ => z0) : Buf (Elt F) (lZ d)))
    ∗ (∃ f : Buf (Elt F) (lB d), ⌜BOKall X E d f⌝ ∗ lB d ↦{fullShare} f)
    ∗ (lP d ↦{fullShare} (mk2 (fun R c => cRow (E d) (X d R) c) : Buf (Elt F) (lP d))))

theorem bands_of (ℓ : Loc nD τ sig) (K : Fin 32 → Finset (Idx ℓ)) (hd : ∀ w ∈ (Finset.univ : Finset (Fin 32)), ∀ w' ∈ (Finset.univ : Finset (Fin 32)), w ≠ w' → Disjoint (K w) (K w'))
    (hc : (Finset.univ : Finset (Fin 32)).biUnion K = Finset.univ) (f : Buf (Elt F) ℓ) :
    (ℓ ↦{fullShare} f : sProp 𝕄) = bigSep Finset.univ fun w => ℓ ↦[K w]{fullShare} f := by
  rw [← pointsTo_biUnion Finset.univ (ℓ := ℓ) K hd, hc]

theorem bands_some (ℓ : Loc nD τ sig) (K : Fin 32 → Finset (Idx ℓ)) (hd : ∀ w ∈ (Finset.univ : Finset (Fin 32)), ∀ w' ∈ (Finset.univ : Finset (Fin 32)), w ≠ w' → Disjoint (K w) (K w'))
    (hc : (Finset.univ : Finset (Fin 32)).biUnion K = Finset.univ) (f : Buf (Elt F) ℓ) :
    (ℓ ↦{fullShare} f : sProp 𝕄) ⊢ bigSep Finset.univ fun w => iprop(∃ f : Buf (Elt F) ℓ, ℓ ↦[K w]{fullShare} f) := by
  rw [bands_of ℓ K hd hc f]
  refine bigSep_mono fun w _ => ?_
  show (ℓ ↦[K w]{fullShare} f : sProp 𝕄) ⊢ iprop(∃ f : Buf (Elt F) ℓ, ℓ ↦[K w]{fullShare} f)
  iintro H
  iexists f
  iexact H

theorem call_split : callPre X E d ⊢ bigSep Finset.univ fun c => goC X E d c := by
  rw [goC_all]
  unfold callPre goQ
  rw [bigSep_sep', bigSep_sep', bigSep_sep', bigSep_sep']
  rw [bands_of (lX d) (fun w => band 2048 128 (64 * w.val) 64) (band_disj 128) (band_cover 128),
    ShareLeaves.pointsTo_leaves (ℓ := lE d) Finset.univ _ 5 fullShare, ShareLeaves.pointsTo_leaves (ℓ := lZ d) Finset.univ _ 5 fullShare]
  iintro ⟨HX, HE, HZ, ⟨%fb, HB⟩, ⟨%fp, HP⟩⟩
  isplitl [HX]; · iexact HX
  isplitl [HE]; · iexact HE
  isplitl [HZ]; · iexact HZ
  isplitl [HB]
  · ihave HB := (bands_some (lB d) (fun w => band 2048 144 (64 * w.val) 64) (band_disj 144) (band_cover 144) fb) $$ HB
    iexact HB
  · ihave HP := (bands_some (lP d) (fun w => band 2048 4096 (64 * w.val) 64) (band_disj 4096) (band_cover 4096) fp) $$ HP
    iexact HP

theorem bins_join [∀ e, Nonempty (Elt F e)] :
    (bigSep Finset.univ fun w : Fin 32 => iprop(∃ f : Buf (Elt F) (lB d), ⌜BOK X E d w f⌝ ∗ lB d ↦[band 2048 144 (64 * w.val) 64]{fullShare} f))
      ⊢ (iprop(∃ f : Buf (Elt F) (lB d), ⌜BOKall X E d f⌝ ∗ lB d ↦{fullShare} f) : sProp 𝕄) := by
  iintro H
  ihave H := (bigSep_exists_pi (M := 𝕄) Finset.univ (fun (w : Fin 32) (f : Buf (Elt F) (lB d)) => iprop(⌜BOK X E d w f⌝ ∗ lB d ↦[band 2048 144 (64 * w.val) 64]{fullShare} f))) $$ H
  icases H with ⟨%fs, H⟩
  ihave H := (bigSep_pure_sep (Finset.univ : Finset (Fin 32)) (fun w => BOK X E d w (fs w)) (fun w => (lB d ↦[band 2048 144 (64 * w.val) 64]{fullShare} fs w : sProp 𝕄))) $$ H
  icases H with ⟨%hb, H⟩
  ihave H := (pointsTo_biUnion_join (ℓ := lB d) (q := fullShare) (Val := Elt F) Finset.univ (fun w : Fin 32 => band 2048 144 (64 * w.val) 64) fs (fs 0) (band_disj 144)) $$ H
  icases H with ⟨%g, %hg, H⟩
  iexists g
  isplitr
  · ipureintro
    intro y hy
    have h : (y 0).val < 2048 := (y 0).isLt
    have hw : (y 0).val / 64 < 32 := by omega
    have h1 : 64 * ((y 0).val / 64) ≤ (y 0).val := by omega
    have h2 : (y 0).val < 64 * ((y 0).val / 64) + 64 := by omega
    exact (hg ⟨(y 0).val / 64, hw⟩ (Finset.mem_univ _) y (mem_band.mpr ⟨h1, h2⟩)).trans (hb ⟨(y 0).val / 64, hw⟩ (Finset.mem_univ _) y h1 h2 hy)
  · rw [show (Finset.univ : Finset (Fin 32)).biUnion (fun w : Fin 32 => (band 2048 144 (64 * w.val) 64 : Finset (Idx (lB d)))) = Finset.univ from band_cover 144]
    iexact H

theorem call_join [∀ e, Nonempty (Elt F e)] : (bigSep Finset.univ fun c => tdC X E d c) ⊢ callPost X E d := by
  rw [tdC_all]
  unfold callPost tdQ
  rw [bigSep_sep', bigSep_sep', bigSep_sep', bigSep_sep']
  rw [bands_of (lX d) (fun w => band 2048 128 (64 * w.val) 64) (band_disj 128) (band_cover 128),
    bands_of (lP d) (fun w => band 2048 4096 (64 * w.val) 64) (band_disj 4096) (band_cover 4096),
    ShareLeaves.pointsTo_leaves (ℓ := lE d) Finset.univ _ 5 fullShare, ShareLeaves.pointsTo_leaves (ℓ := lZ d) Finset.univ _ 5 fullShare]
  iintro ⟨HX, HE, HZ, HB, HP⟩
  isplitl [HX]; · iexact HX
  isplitl [HE]; · iexact HE
  isplitl [HZ]; · iexact HZ
  isplitl [HB]
  · ihave HB := (bins_join X E d) $$ HB
    iexact HB
  · iexact HP

end Split

end Cert.Proof.SC
-- ==== Proof.Host.lean ====
/-
The operations of the host program between the two kernels, and what they leave in the buffers the kernels read.
-/
module

public import proofs.«01_k».proof.Proof.Split
public import Idealize.ShloMosaic.Lib.StableHlo.Run

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.StableHlo (after seq held)

set_option maxRecDepth 16384

/-- A TensorCore's buffer as one of the device's. -/
abbrev dr (b : Ref sig .tc) : DevRef τ sig := Proc.devRef .tc b

def hostA : List (HloOp τ sig (Elt F)) := [
  (StableHlo.nullary main_cst (constant S1 .f32 0xF149F2CA#32)),
  (StableHlo.reshape main_arg0 main_v0 (rfl : (.f32 : EltTy) = .f32) shapeCasts_S256x8x128_S2048x128),
  (StableHlo.nullary main_cst_0 (constant S_ .f32 0xBF800000#32)),
  (StableHlo.nullary main_cst_1 (constant S_ .f32 0x3F800000#32))]
/-- The boundaries of the bins, evenly spaced. -/
def hostL : List (HloOp τ sig (Elt F)) := [
  StableHlo.unary main_cst_0 main_call0_v0 (id : (⟨S_, .f32⟩ : BufTy).Contents (Elt F) → (⟨S_, .f32⟩ : BufTy).Contents (Elt F)),
  StableHlo.unary main_cst_1 main_call0_v1 (id : (⟨S_, .f32⟩ : BufTy).Contents (Elt F) → (⟨S_, .f32⟩ : BufTy).Contents (Elt F)),
  StableHlo.binary main_call0_v1 main_call0_v0 main_call0_v2 (subf : (⟨S_, .f32⟩ : BufTy).Contents (Elt F) → (⟨S_, .f32⟩ : BufTy).Contents (Elt F) → (⟨S_, .f32⟩ : BufTy).Contents (Elt F)),
  StableHlo.nullary main_call0_cst ((constant S_ .f32 0x42480000#32) : (⟨S_, .f32⟩ : BufTy).Contents (Elt F)),
  StableHlo.binary main_call0_v2 main_call0_cst main_call0_v3 (Host.divf : (⟨S_, .f32⟩ : BufTy).Contents (Elt F) → (⟨S_, .f32⟩ : BufTy).Contents (Elt F) → (⟨S_, .f32⟩ : BufTy).Contents (Elt F)),
  StableHlo.nullary main_call0_v4 ((sitofp .f32 (iotaInDim S50 32 0)) : (⟨S50, .f32⟩ : BufTy).Contents (Elt F)),
  StableHlo.nullary main_call0_cst_0 ((constant S_ .f32 0x42480000#32) : (⟨S_, .f32⟩ : BufTy).Contents (Elt F)),
  StableHlo.unary main_call0_cst_0 main_call0_v5 ((broadcastInDim S50 ![] bcast_S_S50) : (⟨S_, .f32⟩ : BufTy).Contents (Elt F) → (⟨S50, .f32⟩ : BufTy).Contents (Elt F)),
  StableHlo.binary main_call0_v4 main_call0_v5 main_call0_v6 (Host.divf : (⟨S50, .f32⟩ : BufTy).Contents (Elt F) → (⟨S50, .f32⟩ : BufTy).Contents (Elt F) → (⟨S50, .f32⟩ : BufTy).Contents (Elt F)),
  StableHlo.reshape main_call0_v0 main_call0_v7 (rfl : (.f32 : EltTy) = .f32) shapeCasts_S_S1,
  StableHlo.nullary main_call0_cst_1 ((constant S_ .f32 0x3F800000#32) : (⟨S_, .f32⟩ : BufTy).Contents (Elt F)),
  StableHlo.unary main_call0_cst_1 main_call0_v8 ((broadcastInDim S50 ![] bcast_S_S50) : (⟨S_, .f32⟩ : BufTy).Contents (Elt F) → (⟨S50, .f32⟩ : BufTy).Contents (Elt F)),
  StableHlo.binary main_call0_v8 main_call0_v6 main_call0_v9 (subf : (⟨S50, .f32⟩ : BufTy).Contents (Elt F) → (⟨S50, .f32⟩ : BufTy).Contents (Elt F) → (⟨S50, .f32⟩ : BufTy).Contents (Elt F)),
  StableHlo.unary main_call0_v7 main_call0_v10 ((broadcastInDim S50 ![0] bcast_S1_S50_0) : (⟨S1, .f32⟩ : BufTy).Contents (Elt F) → (⟨S50, .f32⟩ : BufTy).Contents (Elt F)),
  StableHlo.binary main_call0_v10 main_call0_v9 main_call0_v11 (mulf : (⟨S50, .f32⟩ : BufTy).Contents (Elt F) → (⟨S50, .f32⟩ : BufTy).Contents (Elt F) → (⟨S50, .f32⟩ : BufTy).Contents (Elt F)),
  StableHlo.reshape main_call0_v1 main_call0_v12 (rfl : (.f32 : EltTy) = .f32) shapeCasts_S_S1,
  StableHlo.unary main_call0_v12 main_call0_v13 ((broadcastInDim S50 ![0] bcast_S1_S50_0) : (⟨S1, .f32⟩ : BufTy).Contents (Elt F) → (⟨S50, .f32⟩ : BufTy).Contents (Elt F)),
  StableHlo.binary main_call0_v13 main_call0_v6 main_call0_v14 (mulf : (⟨S50, .f32⟩ : BufTy).Contents (Elt F) → (⟨S50, .f32⟩ : BufTy).Contents (Elt F) → (⟨S50, .f32⟩ : BufTy).Contents (Elt F)),
  StableHlo.binary main_call0_v11 main_call0_v14 main_call0_v15 (addf : (⟨S50, .f32⟩ : BufTy).Contents (Elt F) → (⟨S50, .f32⟩ : BufTy).Contents (Elt F) → (⟨S50, .f32⟩ : BufTy).Contents (Elt F)),
  StableHlo.unary main_call0_v1 main_call0_v16 ((broadcastInDim S1 ![] bcast_S_S1) : (⟨S_, .f32⟩ : BufTy).Contents (Elt F) → (⟨S1, .f32⟩ : BufTy).Contents (Elt F)),
  StableHlo.binary main_call0_v15 main_call0_v16 main_v1 ((fun a b => concatenate S51 0 [⟨S50, a⟩, ⟨S1, b⟩] concatenates_S50_S1_S51_d0) : (⟨S50, .f32⟩ : BufTy).Contents (Elt F) → (⟨S1, .f32⟩ : BufTy).Contents (Elt F) → (⟨S51, .f32⟩ : BufTy).Contents (Elt F))]
/-- All of these but the last, and the last. -/
def hostL1 : List (HloOp τ sig (Elt F)) := [
  StableHlo.unary main_cst_0 main_call0_v0 (id : (⟨S_, .f32⟩ : BufTy).Contents (Elt F) → (⟨S_, .f32⟩ : BufTy).Contents (Elt F)),
  StableHlo.unary main_cst_1 main_call0_v1 (id : (⟨S_, .f32⟩ : BufTy).Contents (Elt F) → (⟨S_, .f32⟩ : BufTy).Contents (Elt F)),
  StableHlo.binary main_call0_v1 main_call0_v0 main_call0_v2 (subf : (⟨S_, .f32⟩ : BufTy).Contents (Elt F) → (⟨S_, .f32⟩ : BufTy).Contents (Elt F) → (⟨S_, .f32⟩ : BufTy).Contents (Elt F)),
  StableHlo.nullary main_call0_cst ((constant S_ .f32 0x42480000#32) : (⟨S_, .f32⟩ : BufTy).Contents (Elt F)),
  StableHlo.binary main_call0_v2 main_call0_cst main_call0_v3 (Host.divf : (⟨S_, .f32⟩ : BufTy).Contents (Elt F) → (⟨S_, .f32⟩ : BufTy).Contents (Elt F) → (⟨S_, .f32⟩ : BufTy).Contents (Elt F)),
  StableHlo.nullary main_call0_v4 ((sitofp .f32 (iotaInDim S50 32 0)) : (⟨S50, .f32⟩ : BufTy).Contents (Elt F)),
  StableHlo.nullary main_call0_cst_0 ((constant S_ .f32 0x42480000#32) : (⟨S_, .f32⟩ : BufTy).Contents (Elt F)),
  StableHlo.unary main_call0_cst_0 main_call0_v5 ((broadcastInDim S50 ![] bcast_S_S50) : (⟨S_, .f32⟩ : BufTy).Contents (Elt F) → (⟨S50, .f32⟩ : BufTy).Contents (Elt F)),
  StableHlo.binary main_call0_v4 main_call0_v5 main_call0_v6 (Host.divf : (⟨S50, .f32⟩ : BufTy).Contents (Elt F) → (⟨S50, .f32⟩ : BufTy).Contents (Elt F) → (⟨S50, .f32⟩ : BufTy).Contents (Elt F)),
  StableHlo.reshape main_call0_v0 main_call0_v7 (rfl : (.f32 : EltTy) = .f32) shapeCasts_S_S1,
  StableHlo.nullary main_call0_cst_1 ((constant S_ .f32 0x3F800000#32) : (⟨S_, .f32⟩ : BufTy).Contents (Elt F)),
  StableHlo.unary main_call0_cst_1 main_call0_v8 ((broadcastInDim S50 ![] bcast_S_S50) : (⟨S_, .f32⟩ : BufTy).Contents (Elt F) → (⟨S50, .f32⟩ : BufTy).Contents (Elt F)),
  StableHlo.binary main_call0_v8 main_call0_v6 main_call0_v9 (subf : (⟨S50, .f32⟩ : BufTy).Contents (Elt F) → (⟨S50, .f32⟩ : BufTy).Contents (Elt F) → (⟨S50, .f32⟩ : BufTy).Contents (Elt F)),
  StableHlo.unary main_call0_v7 main_call0_v10 ((broadcastInDim S50 ![0] bcast_S1_S50_0) : (⟨S1, .f32⟩ : BufTy).Contents (Elt F) → (⟨S50, .f32⟩ : BufTy).Contents (Elt F)),
  StableHlo.binary main_call0_v10 main_call0_v9 main_call0_v11 (mulf : (⟨S50, .f32⟩ : BufTy).Contents (Elt F) → (⟨S50, .f32⟩ : BufTy).Contents (Elt F) → (⟨S50, .f32⟩ : BufTy).Contents (Elt F)),
  StableHlo.reshape main_call0_v1 main_call0_v12 (rfl : (.f32 : EltTy) = .f32) shapeCasts_S_S1,
  StableHlo.unary main_call0_v12 main_call0_v13 ((broadcastInDim S50 ![0] bcast_S1_S50_0) : (⟨S1, .f32⟩ : BufTy).Contents (Elt F) → (⟨S50, .f32⟩ : BufTy).Contents (Elt F)),
  StableHlo.binary main_call0_v13 main_call0_v6 main_call0_v14 (mulf : (⟨S50, .f32⟩ : BufTy).Contents (Elt F) → (⟨S50, .f32⟩ : BufTy).Contents (Elt F) → (⟨S50, .f32⟩ : BufTy).Contents (Elt F)),
  StableHlo.binary main_call0_v11 main_call0_v14 main_call0_v15 (addf : (⟨S50, .f32⟩ : BufTy).Contents (Elt F) → (⟨S50, .f32⟩ : BufTy).Contents (Elt F) → (⟨S50, .f32⟩ : BufTy).Contents (Elt F)),
  StableHlo.unary main_call0_v1 main_call0_v16 ((broadcastInDim S1 ![] bcast_S_S1) : (⟨S_, .f32⟩ : BufTy).Contents (Elt F) → (⟨S1, .f32⟩ : BufTy).Contents (Elt F))]
def hostC : HloOp τ sig (Elt F) := StableHlo.binary main_call0_v15 main_call0_v16 main_v1 ((fun a b => concatenate S51 0 [⟨S50, a⟩, ⟨S1, b⟩] concatenates_S50_S1_S51_d0) : (⟨S50, .f32⟩ : BufTy).Contents (Elt F) → (⟨S1, .f32⟩ : BufTy).Contents (Elt F) → (⟨S51, .f32⟩ : BufTy).Contents (Elt F))
def hostB : List (HloOp τ sig (Elt F)) := [
  (StableHlo.unary main_v1 main_v2 ((extractStridedSlice S49 ![1] · slices_S51_S49_1) : (⟨S51, .f32⟩ : BufTy).Contents (Elt F) → (⟨S49, .f32⟩ : BufTy).Contents (Elt F))),
  (StableHlo.nullary main_cst_2 (constant S_ .f32 0x7149F2CA#32)),
  (StableHlo.unary main_cst_2 main_v3 (broadcastInDim S14 ![] bcast_S_S14 : (⟨S_, .f32⟩ : BufTy).Contents (Elt F) → (⟨S14, .f32⟩ : BufTy).Contents (Elt F))),
  (StableHlo.nary ![main_cst, main_v2, main_v3] main_v4 (fun u => (concatenate S64 0 [⟨S1, (u 0 : (⟨S1, .f32⟩ : BufTy).Contents (Elt F))⟩, ⟨S49, (u 1 : (⟨S49, .f32⟩ : BufTy).Contents (Elt F))⟩, ⟨S14, (u 2 : (⟨S14, .f32⟩ : BufTy).Contents (Elt F))⟩] concatenates_S1_S49_S14_S64_d0 : (⟨S64, .f32⟩ : BufTy).Contents (Elt F)))),
  (StableHlo.nullary main_cst_3 (constant S_ .f32 0x00000000#32)),
  (StableHlo.unary main_cst_3 main_v5 (broadcastInDim S16x4096 ![] bcast_S_S16x4096 : (⟨S_, .f32⟩ : BufTy).Contents (Elt F) → (⟨S16x4096, .f32⟩ : BufTy).Contents (Elt F)))]
/-- Between the two kernels. -/
def hostMid : List (HloOp τ sig (Elt F)) := [
  (StableHlo.unary main_v6_0 main_v7 ((extractStridedSlice S2048x128 ![0, 0] · slices_S2048x144_S2048x128_0_0) : (⟨S2048x144, .i32⟩ : BufTy).Contents (Elt F) → (⟨S2048x128, .i32⟩ : BufTy).Contents (Elt F))),
  (StableHlo.reshape main_v6_1 main_v8 (rfl : (.f32 : EltTy) = .f32) shapeCasts_S2048x4096_S2048x64x64)]
/-- After them. -/
def hostPost : List (HloOp τ sig (Elt F)) := [
  (StableHlo.reshape main_v9 main_v10 (rfl : (.f32 : EltTy) = .f32) shapeCasts_S2048x128x128_S256x8x128x128)]

def hostPre : List (HloOp τ sig (Elt F)) := hostA ++ hostL ++ hostB

theorem body_eq : (fn_linspace.body (F := F) (.of main_cst_0) (.of main_cst_1) main_call0) = seq hostL := rfl

theorem main_eq (d : Dev nD) :
    main (F := F) d = (seq hostPre >>= fun _ => (sc (F := F)).run d 0 >>= fun _ => seq hostMid >>= fun _ =>
      Prog.lift (.customCall (SparseCore.inner (Pipeline.entry 0)) ()) >>= fun _ => seq hostPost) := by
  unfold hostPre
  rw [StableHlo.seq_append, StableHlo.seq_append, ← body_eq]
  simp only [hostA, hostB, hostMid, hostPost, seq, bind_assoc, pure_bind]
  rfl

/-- The TensorCore's buffers that outlive a kernel's region. -/
def ucRefs : Finset (DevRef τ sig) := (StableHlo.tcRefs τ sig).filter fun b => ¬ b.isScoped

theorem unscopedBufs_held (c : Dev nD) (W : Valuation τ sig (Elt F)) :
    (unscopedBufs c (fun b => W (dr b)) : sProp 𝕄) = held (SparseCore.T c) ucRefs W := by
  unfold unscopedBufs StableHlo.held ucRefs StableHlo.tcRefs
  rw [Finset.filter_map, bigSep_map]
  rfl

theorem mem_uc {b : Ref sig .tc} (h : b.isScoped = false) : (Proc.devRef (τ := τ) .tc b) ∈ ucRefs :=
  Finset.mem_filter.mpr ⟨StableHlo.devRef_mem_tcRefs b, by
    show ¬ (b.isScoped = true); rw [h]; exact Bool.false_ne_true⟩

theorem sub_uc {s : Finset (DevRef τ sig)} (h : s ⊆ StableHlo.tcRefs τ sig) (hs : ∀ b ∈ s, b.isScoped = false) : s ⊆ ucRefs :=
  fun b hb => Finset.mem_filter.mpr ⟨h hb, by rw [hs b hb]; exact Bool.false_ne_true⟩

/-- The even spacing: `k / 50` for the first fifty. -/
def linQ : FVec F S50 .f32 := Host.divf (sitofp .f32 (iotaInDim S50 32 0)) (broadcastInDim S50 ![] bcast_S_S50 (constant S_ .f32 0x42480000#32))
/-- Fifty-one evenly spaced numbers from the least to the greatest. -/
def linV : FVec F S51 .f32 :=
  concatenate S51 0 [⟨S50, addf (mulf (broadcastInDim S50 ![0] bcast_S1_S50_0 (shapeCast S1 (constant S_ .f32 0xBF800000#32 : FVec F S_ .f32) shapeCasts_S_S1))
      (subf (broadcastInDim S50 ![] bcast_S_S50 (constant S_ .f32 0x3F800000#32)) linQ))
    (mulf (broadcastInDim S50 ![0] bcast_S1_S50_0 (shapeCast S1 (constant S_ .f32 0x3F800000#32 : FVec F S_ .f32) shapeCasts_S_S1)) linQ)⟩,
    ⟨S1, broadcastInDim S1 ![] bcast_S_S1 (constant S_ .f32 0x3F800000#32 : FVec F S_ .f32)⟩] concatenates_S50_S1_S51_d0
/-- The boundaries the tiles read. -/
def extV : FVec F S64 .f32 :=
  concatenate S64 0 [⟨S1, (constant S1 .f32 0xF149F2CA#32 : FVec F S1 .f32)⟩, ⟨S49, extractStridedSlice S49 ![1] (linV (F := F)) slices_S51_S49_1⟩,
    ⟨S14, broadcastInDim S14 ![] bcast_S_S14 (constant S_ .f32 0x7149F2CA#32 : FVec F S_ .f32)⟩] concatenates_S1_S49_S14_S64_d0

variable (V : Valuation τ sig (Elt F))

theorem after_append (l₁ l₂ : List (HloOp τ sig (Elt F))) : after (l₁ ++ l₂) V = after l₂ (after l₁ V) := by
  induction l₁ generalizing V with
  | nil => rfl
  | cons op l ih => exact ih _

theorem hostL_split : (hostL : List (HloOp τ sig (Elt F))) = hostL1 ++ [hostC] := rfl

theorem linV_ok (h0 : V (dr main_cst_0) = (constant S_ .f32 0xBF800000#32 : FVec F S_ .f32)) (h1 : V (dr main_cst_1) = (constant S_ .f32 0x3F800000#32 : FVec F S_ .f32)) :
    after hostL V (dr main_v1) = (linV : FVec F S51 .f32) := by
  have e15 : after hostL1 V (dr main_call0_v15) = (addf (mulf (broadcastInDim S50 ![0] bcast_S1_S50_0 (shapeCast S1 (constant S_ .f32 0xBF800000#32 : FVec F S_ .f32) shapeCasts_S_S1))
      (subf (broadcastInDim S50 ![] bcast_S_S50 (constant S_ .f32 0x3F800000#32)) linQ))
    (mulf (broadcastInDim S50 ![0] bcast_S1_S50_0 (shapeCast S1 (constant S_ .f32 0x3F800000#32 : FVec F S_ .f32) shapeCasts_S_S1)) linQ) : FVec F S50 .f32) := by
    simp (disch := decide) only [hostL1, StableHlo.after_cons, StableHlo.after_nil, StableHlo.nullary_result', StableHlo.unary_result', StableHlo.binary_result', StableHlo.reshape_result',
      StableHlo.nullary_result_ne', StableHlo.unary_result_ne', StableHlo.binary_result_ne', StableHlo.reshape_result_ne', h0, h1]
    rfl
  have e16 : after hostL1 V (dr main_call0_v16) = (broadcastInDim S1 ![] bcast_S_S1 (constant S_ .f32 0x3F800000#32 : FVec F S_ .f32) : FVec F S1 .f32) := by
    simp (disch := decide) only [hostL1, StableHlo.after_cons, StableHlo.after_nil, StableHlo.nullary_result', StableHlo.unary_result', StableHlo.binary_result', StableHlo.reshape_result',
      StableHlo.nullary_result_ne', StableHlo.unary_result_ne', StableHlo.binary_result_ne', StableHlo.reshape_result_ne', h0, h1]
    rfl
  rw [hostL_split, after_append]
  show hostC.result (after hostL1 V) (dr main_v1) = _
  unfold hostC
  rw [StableHlo.binary_result', e15, e16]
  rfl

theorem hostL_keeps (r : Ref sig .tc) (h : r ∉ [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v1]) : after hostL V (Proc.devRef .tc r) = V (Proc.devRef .tc r) :=
  StableHlo.after_of_writes_sub hostL V (W := [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v1]) (by simp only [hostL, List.Forall, StableHlo.nullary_writes, StableHlo.unary_writes, StableHlo.binary_writes, StableHlo.reshape_writes]; decide) h

theorem hostA_c0 : after hostA V (dr main_cst_0) = (constant S_ .f32 0xBF800000#32 : FVec F S_ .f32) := by
  simp (disch := decide) only [hostA, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostA_c1 : after hostA V (dr main_cst_1) = (constant S_ .f32 0x3F800000#32 : FVec F S_ .f32) := by
  simp (disch := decide) only [hostA, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostA_c : after hostA V (dr main_cst) = (constant S1 .f32 0xF149F2CA#32 : FVec F S1 .f32) := by
  simp (disch := decide) only [hostA, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostA_v0 : after hostA V (dr main_v0) = (shapeCast S2048x128 (V (dr main_arg0) : FVec F S256x8x128 .f32) shapeCasts_S256x8x128_S2048x128 : FVec F S2048x128 .f32) := by
  simp (disch := decide) only [hostA, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']
  rfl

theorem hostA_arg : after hostA V (dr main_arg0) = V (dr main_arg0) := by
  simp (disch := decide) only [hostA, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostB_v0 : after hostB V (dr main_v0) = V (dr main_v0) := by
  simp (disch := decide) only [hostB, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostB_arg : after hostB V (dr main_arg0) = V (dr main_arg0) := by
  simp (disch := decide) only [hostB, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostB_v4 (h : V (dr main_cst) = (constant S1 .f32 0xF149F2CA#32 : FVec F S1 .f32)) (h1 : V (dr main_v1) = (linV : FVec F S51 .f32)) : after hostB V (dr main_v4) = (extV : FVec F S64 .f32) := by
  simp (disch := decide) only [hostB, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']
  simp only [Matrix.cons_val]
  unfold extV
  rw [← h, ← h1]
  rfl

theorem hostB_v5 : after hostB V (dr main_v5) = (mk2 (fun _ _ => z0) : FVec F S16x4096 .f32) := by
  simp (disch := decide) only [hostB, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']
  rfl

theorem hostMid_v7 : after hostMid V (dr main_v7) = (extractStridedSlice S2048x128 ![0, 0] (V (dr main_v6_0) : S2048x144.Idx → BitVec 32) slices_S2048x144_S2048x128_0_0 : S2048x128.Idx → BitVec 32) := by
  simp (disch := decide) only [hostMid, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostMid_v8 : after hostMid V (dr main_v8) = (shapeCast S2048x64x64 (V (dr main_v6_1) : FVec F S2048x4096 .f32) shapeCasts_S2048x4096_S2048x64x64 : FVec F S2048x64x64 .f32) := by
  simp (disch := decide) only [hostMid, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']
  rfl

theorem hostMid_arg : after hostMid V (dr main_arg0) = V (dr main_arg0) := by
  simp (disch := decide) only [hostMid, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem hostPost_v10 : after hostPost V (dr main_v10) = (shapeCast S256x8x128x128 (V (dr main_v9) : FVec F S2048x128x128 .f32) shapeCasts_S2048x128x128_S256x8x128x128 : FVec F S256x8x128x128 .f32) := by
  simp (disch := decide) only [hostPost, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']
  rfl

theorem hostPost_arg : after hostPost V (dr main_arg0) = V (dr main_arg0) := by
  simp (disch := decide) only [hostPost, StableHlo.after_cons, StableHlo.after_nil, StableHlo.nullary_result', StableHlo.unary_result', StableHlo.binary_result', StableHlo.reshape_result', StableHlo.nary_result',
    StableHlo.nullary_result_ne', StableHlo.unary_result_ne', StableHlo.binary_result_ne', StableHlo.reshape_result_ne', StableHlo.nary_result_ne']

theorem pre_v0 : after hostPre V (dr main_v0) = (shapeCast S2048x128 (V (dr main_arg0) : FVec F S256x8x128 .f32) shapeCasts_S256x8x128_S2048x128 : FVec F S2048x128 .f32) := by
  unfold hostPre
  rw [after_append, after_append, hostB_v0, hostL_keeps _ _ (by decide), hostA_v0]
theorem pre_arg : after hostPre V (dr main_arg0) = V (dr main_arg0) := by
  unfold hostPre
  rw [after_append, after_append, hostB_arg, hostL_keeps _ _ (by decide), hostA_arg]
theorem pre_v5 : after hostPre V (dr main_v5) = (mk2 (fun _ _ => z0) : FVec F S16x4096 .f32) := by
  unfold hostPre
  rw [after_append, hostB_v5]
theorem pre_v4 : after hostPre V (dr main_v4) = (extV : FVec F S64 .f32) := by
  unfold hostPre
  rw [after_append, after_append]
  exact hostB_v4 _ ((hostL_keeps _ _ (by decide)).trans (hostA_c V)) (linV_ok _ (hostA_c0 V) (hostA_c1 V))

theorem hostA_sub : ∀ op ∈ (hostA : List (HloOp τ sig (Elt F))), op.bufs ⊆ ucRefs := by
  simp only [hostA, List.mem_cons, List.not_mem_nil, or_false, List.mem_append, forall_eq_or_imp, forall_eq]
  refine ⟨?_, ?_, ?_, ?_⟩ <;> exact sub_uc (by simp) (HloOp.no_scoped _)
theorem hostA_fresh : ∀ op ∈ (hostA : List (HloOp τ sig (Elt F))), op.fresh = ∅ := by
  simp only [hostA, List.mem_cons, List.not_mem_nil, or_false, List.mem_append, forall_eq_or_imp, forall_eq]
  refine ⟨?_, ?_, ?_, ?_⟩ <;> rfl

theorem hostL_sub : ∀ op ∈ (hostL : List (HloOp τ sig (Elt F))), op.bufs ⊆ ucRefs := by
  simp only [hostL, List.mem_cons, List.not_mem_nil, or_false, List.mem_append, forall_eq_or_imp, forall_eq]
  refine ⟨?_, ?_, ?_, ?_, ?_, ?_, ?_, ?_, ?_, ?_, ?_, ?_, ?_, ?_, ?_, ?_, ?_, ?_, ?_, ?_, ?_⟩ <;> exact sub_uc (by simp) (HloOp.no_scoped _)
theorem hostL_fresh : ∀ op ∈ (hostL : List (HloOp τ sig (Elt F))), op.fresh = ∅ := by
  simp only [hostL, List.mem_cons, List.not_mem_nil, or_false, List.mem_append, forall_eq_or_imp, forall_eq]
  refine ⟨?_, ?_, ?_, ?_, ?_, ?_, ?_, ?_, ?_, ?_, ?_, ?_, ?_, ?_, ?_, ?_, ?_, ?_, ?_, ?_, ?_⟩ <;> rfl

theorem hostB_sub : ∀ op ∈ (hostB : List (HloOp τ sig (Elt F))), op.bufs ⊆ ucRefs := by
  simp only [hostB, List.mem_cons, List.not_mem_nil, or_false, List.mem_append, forall_eq_or_imp, forall_eq]
  refine ⟨?_, ?_, ?_, ?_, ?_, ?_⟩ <;> exact sub_uc (by simp) (HloOp.no_scoped _)
theorem hostB_fresh : ∀ op ∈ (hostB : List (HloOp τ sig (Elt F))), op.fresh = ∅ := by
  simp only [hostB, List.mem_cons, List.not_mem_nil, or_false, List.mem_append, forall_eq_or_imp, forall_eq]
  refine ⟨?_, ?_, ?_, ?_, ?_, ?_⟩ <;> rfl

theorem hostMid_sub : ∀ op ∈ (hostMid : List (HloOp τ sig (Elt F))), op.bufs ⊆ ucRefs := by
  simp only [hostMid, List.mem_cons, List.not_mem_nil, or_false, List.mem_append, forall_eq_or_imp, forall_eq]
  refine ⟨?_, ?_⟩ <;> exact sub_uc (by simp) (HloOp.no_scoped _)
theorem hostMid_fresh : ∀ op ∈ (hostMid : List (HloOp τ sig (Elt F))), op.fresh = ∅ := by
  simp only [hostMid, List.mem_cons, List.not_mem_nil, or_false, List.mem_append, forall_eq_or_imp, forall_eq]
  refine ⟨?_, ?_⟩ <;> rfl

theorem hostPost_sub : ∀ op ∈ (hostPost : List (HloOp τ sig (Elt F))), op.bufs ⊆ ucRefs := by
  simp only [hostPost, List.mem_cons, List.not_mem_nil, or_false, forall_eq]
  exact sub_uc (by simp) (HloOp.no_scoped _)
theorem hostPost_fresh : ∀ op ∈ (hostPost : List (HloOp τ sig (Elt F))), op.fresh = ∅ := by
  simp only [hostPost, List.mem_cons, List.not_mem_nil, or_false, forall_eq]
  rfl

theorem hostPre_sub : ∀ op ∈ (hostPre : List (HloOp τ sig (Elt F))), op.bufs ⊆ ucRefs := by
  intro op h
  rcases List.mem_append.mp h with h | h
  · rcases List.mem_append.mp h with h | h
    · exact hostA_sub op h
    · exact hostL_sub op h
  · exact hostB_sub op h
theorem hostPre_fresh : ∀ op ∈ (hostPre : List (HloOp τ sig (Elt F))), op.fresh = ∅ := by
  intro op h
  rcases List.mem_append.mp h with h | h
  · rcases List.mem_append.mp h with h | h
    · exact hostA_fresh op h
    · exact hostL_fresh op h
  · exact hostB_fresh op h

end Cert.Proof.SC
-- ==== Proof.TcSteps.lean ====
/-
  The steps of the expanding kernel's block body: it reads row `n` of the bins' block and page `n` of the probabilities'
  block, and stores page `n` of the output block.
-/
module

public import proofs.«01_k».proof.Proof.Base
public import Idealize.ShloMosaic.Lib.Pipeline.Value

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A rank-three array given by a function of its coordinates. -/
abbrev mk3 {α : Type} {a b c : ℕ} (f : ℕ → ℕ → ℕ → α) : (⟨3, ![a, b, c]⟩ : Shape).Idx → α :=
  fun y => f (y 0).val (y 1).val (y 2).val

/-- Row `n` of the bins' block, as loaded. -/
def rowI (fb : ℕ → ℕ → BitVec 32) (n : ℕ) : Vec F S1x128 .i32 := fun y => fb n (y 1).val
/-- Page `n` of the counts' block, as loaded. -/
def pageP (fp : ℕ → ℕ → ℕ → F .f32) (n : ℕ) : Vec F S1x64x64 .f32 := fun y => fp n (y 1).val (y 2).val

/-- The page of the output a row of bins and a page of counts give. -/
def outP (fb : ℕ → ℕ → BitVec 32) (fp : ℕ → ℕ → ℕ → F .f32) (n a b : ℕ) : F .f32 :=
  k1_pay2 (rowI (F := F) fb n) (pageP fp n) (fun | 0 => (0 : Fin 1) | 1 => Fin.ofNat 128 a | 2 => Fin.ofNat 128 b)

variable {d : Dev nD} {M0 : Memref sig .tc .vmem S32x128 .i32} {M1 : Memref sig .tc .vmem S32x64x64 .f32}
  {M2 : Memref sig .tc .vmem S32x128x128 .f32} {fb : ℕ → ℕ → BitVec 32} {fp : ℕ → ℕ → ℕ → F .f32} {n : ℕ} {α : Type}

/-- The three blocks of the body, the first `n` pages of the output block done. -/
def TS (d : Dev nD) (M0 : Memref sig .tc .vmem S32x128 .i32) (M1 : Memref sig .tc .vmem S32x64x64 .f32)
    (M2 : Memref sig .tc .vmem S32x128x128 .f32) (fb : ℕ → ℕ → BitVec 32) (fp : ℕ → ℕ → ℕ → F .f32) (n : ℕ) : sProp 𝕄 :=
  iprop((∃ f0 : Buf (Elt F) (M0.view.loc (T d : Thread nD τ)), ⌜M0.view.read (Elt F) f0 = mk2 fb⌝ ∗ M0.view.loc (T d : Thread nD τ) ↦{fullShare} f0) ∗
    (∃ f1 : Buf (Elt F) (M1.view.loc (T d : Thread nD τ)), ⌜M1.view.read (Elt F) f1 = mk3 fp⌝ ∗ M1.view.loc (T d : Thread nD τ) ↦{fullShare} f1) ∗
    (∃ f2 : Buf (Elt F) (M2.view.loc (T d : Thread nD τ)), ⌜∀ y : S32x128x128.Idx, (y 0).val < n → M2.view.read (Elt F) f2 y = mk3 (outP fb fp) y⌝ ∗
      M2.view.loc (T d : Thread nD τ) ↦{fullShare} f2))

/-- A load of a row of the bins' block. -/
theorem ts_ld0 {Q : α → sProp 𝕄} {r : ℕ} {inb : ∀ a, (![r, 0] : Fin 2 → ℕ) a + S1x128.size a ≤ S32x128.size a} {hl}
    {k : Vec F S1x128 .i32 → Prog (TpuEff nD τ sig (Elt F) Λ₀ .tc) α}
    (H : TS d M0 M1 M2 fb fp n ⊢ wp frame (wpE (defs₀ (F := F)) 𝒱₀ (T d : Thread nD τ) none) Set.univ (k (rowI fb r)) Q) :
    TS d M0 M1 M2 fb fp n ⊢ wp frame (wpE (defs₀ (F := F)) 𝒱₀ (T d : Thread nD τ) none) Set.univ
      (Prog.lift (.load M0 (Rect.unit (s := S32x128) ![r, 0] S1x128.size inb).toLoadRect hl) >>= k) Q := by
  simp only [Prog.lift, Prog.bind_op, Prog.bind_ret]
  iintro HS
  unfold TS at *
  icases HS with ⟨⟨%f0, %h0, H1⟩, Hr⟩
  have hv : M0.view.readAt (Elt F) (Rect.unit (s := S32x128) ![r, 0] S1x128.size inb).toLoadRect f0 = rowI fb r := by
    rw [View.readAt_rect]
    funext y
    have hy : (y 0).val = 0 := by have := (y 0).isLt; simp at this; omega
    show M0.view.read (Elt F) f0 ((Rect.unit (s := S32x128) ![r, 0] S1x128.size inb).emb y) = _
    rw [h0]
    show fb (r + 1 * (y 0).val) (0 + 1 * (y 1).val) = fb r (y 1).val
    rw [hy]; simp
  rw [← hv] at H
  iapply (wp_load (defs := defs₀ (F := F)) 𝒱₀ (T d : Thread nD τ) none Set.univ (m := M0) (S := Finset.univ) (Finset.subset_univ _)) $$ H1
  iintro H1
  iapply H
  isplitl [H1]
  · iexists f0; isplitr; ipureintro; exact h0; iexact H1
  iexact Hr

/-- A load of a page of the counts' block. -/
theorem ts_ld1 {Q : α → sProp 𝕄} {r : ℕ} {inb : ∀ a, (![r, 0, 0] : Fin 3 → ℕ) a + S1x64x64.size a ≤ S32x64x64.size a} {hl}
    {k : Vec F S1x64x64 .f32 → Prog (TpuEff nD τ sig (Elt F) Λ₀ .tc) α}
    (H : TS d M0 M1 M2 fb fp n ⊢ wp frame (wpE (defs₀ (F := F)) 𝒱₀ (T d : Thread nD τ) none) Set.univ (k (pageP fp r)) Q) :
    TS d M0 M1 M2 fb fp n ⊢ wp frame (wpE (defs₀ (F := F)) 𝒱₀ (T d : Thread nD τ) none) Set.univ
      (Prog.lift (.load M1 (Rect.unit (s := S32x64x64) ![r, 0, 0] S1x64x64.size inb).toLoadRect hl) >>= k) Q := by
  simp only [Prog.lift, Prog.bind_op, Prog.bind_ret]
  iintro HS
  unfold TS at *
  icases HS with ⟨H0, ⟨%f1, %h1, H1⟩, Hr⟩
  have hv : M1.view.readAt (Elt F) (Rect.unit (s := S32x64x64) ![r, 0, 0] S1x64x64.size inb).toLoadRect f1 = pageP fp r := by
    rw [View.readAt_rect]
    funext y
    have hy : (y 0).val = 0 := by have := (y 0).isLt; simp at this; omega
    show M1.view.read (Elt F) f1 ((Rect.unit (s := S32x64x64) ![r, 0, 0] S1x64x64.size inb).emb y) = _
    rw [h1]
    show fp (r + 1 * (y 0).val) (0 + 1 * (y 1).val) (0 + 1 * (y 2).val) = fp r (y 1).val (y 2).val
    rw [hy]; simp
  rw [← hv] at H
  iapply (wp_load (defs := defs₀ (F := F)) 𝒱₀ (T d : Thread nD τ) none Set.univ (m := M1) (S := Finset.univ) (Finset.subset_univ _)) $$ H1
  iintro H1
  iapply H
  isplitl [H0]; iexact H0
  isplitl [H1]
  · iexists f1; isplitr; ipureintro; exact h1; iexact H1
  iexact Hr

/-- A load of a page of the output block, whose value is not used. -/
theorem ts_ld2 {Q : α → sProp 𝕄} {r : ℕ} {inb : ∀ a, (![r, 0, 0] : Fin 3 → ℕ) a + S1x128x128.size a ≤ S32x128x128.size a} {hl}
    {k : Vec F S1x128x128 .f32 → Prog (TpuEff nD τ sig (Elt F) Λ₀ .tc) α}
    (H : ∀ v, TS d M0 M1 M2 fb fp n ⊢ wp frame (wpE (defs₀ (F := F)) 𝒱₀ (T d : Thread nD τ) none) Set.univ (k v) Q) :
    TS d M0 M1 M2 fb fp n ⊢ wp frame (wpE (defs₀ (F := F)) 𝒱₀ (T d : Thread nD τ) none) Set.univ
      (Prog.lift (.load M2 (Rect.unit (s := S32x128x128) ![r, 0, 0] S1x128x128.size inb).toLoadRect hl) >>= k) Q := by
  simp only [Prog.lift, Prog.bind_op, Prog.bind_ret]
  iintro HS
  unfold TS at *
  icases HS with ⟨H0, H1, %f2, %h2, H2⟩
  iapply (wp_load (defs := defs₀ (F := F)) 𝒱₀ (T d : Thread nD τ) none Set.univ (m := M2) (S := Finset.univ) (Finset.subset_univ _)) $$ H2
  iintro H2
  iapply (H _)
  isplitl [H0]; iexact H0
  isplitl [H1]; iexact H1
  iexists f2; isplitr; ipureintro; exact h2; iexact H2

/-- The store of page `n` of the output block. -/
theorem ts_st2 {Q : α → sProp 𝕄} {inb : ∀ a, (![n, 0, 0] : Fin 3 → ℕ) a + S1x128x128.size a ≤ S32x128x128.size a} {w : FVec F S1x128x128 .f32} {hx hm}
    {k : PUnit → Prog (TpuEff nD τ sig (Elt F) Λ₀ .tc) α}
    (hw : w = k1_pay2 (rowI fb n) (pageP fp n))
    (H : TS d M0 M1 M2 fb fp (n + 1) ⊢ wp frame (wpE (defs₀ (F := F)) 𝒱₀ (T d : Thread nD τ) none) Set.univ (k ⟨⟩) Q) :
    TS d M0 M1 M2 fb fp n ⊢ wp frame (wpE (defs₀ (F := F)) 𝒱₀ (T d : Thread nD τ) none) Set.univ
      (Prog.lift (.store M2 (Rect.unit (s := S32x128x128) ![n, 0, 0] S1x128x128.size inb) w Finset.univ hx hm) >>= k) Q := by
  simp only [Prog.lift, Prog.bind_op, Prog.bind_ret]
  iintro HS
  unfold TS at *
  icases HS with ⟨H0, H1, %f2, %h2, H2⟩
  iapply (wp_store (defs := defs₀ (F := F)) 𝒱₀ (T d : Thread nD τ) none Set.univ (m := M2) (r := Rect.unit (s := S32x128x128) ![n, 0, 0] S1x128x128.size inb)
    (S := Finset.univ) (Finset.subset_univ _)) $$ H2
  iintro H2
  iapply H
  isplitl [H0]; iexact H0
  isplitl [H1]; iexact H1
  iexists _
  isplitr
  rotate_left
  · iexact H2
  ipureintro
  intro y hy
  by_cases hn : (y 0).val = n
  · have h0 : (y 0).val < 32 := (y 0).isLt
    have h1 : (y 1).val < 128 := (y 1).isLt
    have h2 : (y 2).val < 128 := (y 2).isLt
    have e : y = (Rect.unit (s := S32x128x128) ![n, 0, 0] S1x128x128.size inb).emb
        (fun | 0 => (0 : Fin 1) | 1 => Fin.ofNat 128 (y 1).val | 2 => Fin.ofNat 128 (y 2).val) := by
      funext a
      match a with
      | 0 => exact Fin.ext (by show (y 0).val = n + 1 * 0; omega)
      | 1 => exact Fin.ext (by show (y 1).val = 0 + 1 * ((y 1).val % 128); rw [Nat.mod_eq_of_lt h1]; omega)
      | 2 => exact Fin.ext (by show (y 2).val = 0 + 1 * ((y 2).val % 128); rw [Nat.mod_eq_of_lt h2]; omega)
    refine (congrArg (M2.view.read (Elt F) _) e).trans ?_
    refine (View.read_slice_write_emb (v := M2.view) (Rect.unit (s := S32x128x128) ![n, 0, 0] S1x128x128.size inb) f2 w (Finset.mem_univ _)).trans ?_
    rw [hw]
    show _ = outP fb fp (y 0).val (y 1).val (y 2).val
    rw [hn]
    rfl
  · refine (View.read_slice_write_of_not_mem (v := M2.view) _ _ _ _ ?_).trans (h2 y (by omega))
    intro hmem
    obtain ⟨z, -, hz⟩ := Finset.mem_map.mp hmem
    have hz0 : (z 0).val = 0 := by have := (z 0).isLt; simp at this; omega
    have := congrArg (fun q : S32x128x128.Idx => (q 0).val) hz
    have h3 : n + 1 * (z 0).val = (y 0).val := this
    omega

theorem ts_bind {β : Type} {R : sProp 𝕄} {Q : β → sProp 𝕄} {p : Prog (TpuEff nD τ sig (Elt F) Λ₀ .tc) α}
    {k : α → Prog (TpuEff nD τ sig (Elt F) Λ₀ .tc) β}
    (H : R ⊢ wp frame (wpE (defs₀ (F := F)) 𝒱₀ (T d : Thread nD τ) none) Set.univ p
      fun x => wp frame (wpE (defs₀ (F := F)) 𝒱₀ (T d : Thread nD τ) none) Set.univ (k x) Q) :
    R ⊢ wp frame (wpE (defs₀ (F := F)) 𝒱₀ (T d : Thread nD τ) none) Set.univ (p >>= k) Q := by
  rw [wp_bind]; exact H

theorem ts_pure {R : sProp 𝕄} {Q : α → sProp 𝕄} {x : α} (H : R ⊢ Q x) :
    R ⊢ wp frame (wpE (defs₀ (F := F)) 𝒱₀ (T d : Thread nD τ) none) Set.univ (pure x) Q := by
  rw [wp_pure]; exact H.trans fupd_intro

end Cert.Proof.SC
-- ==== Proof.TcBody.lean ====
/-
  The expanding kernel's block body, part by part: after it, every page of the output block holds what its row of bins
  and its page of counts give.
-/
module

public import proofs.«01_k».proof.Proof.TcSteps

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {fb : ℕ → ℕ → BitVec 32} {fp : ℕ → ℕ → ℕ → F .f32}

set_option maxRecDepth 16384

/-- Pages 0 to 1 of the block. -/
theorem k1_part1_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 1 ⊢ Q ⟨(iota .tc S64x128 32 [0] iota_S64x128_d0_w32), (k1_pay3 (rowI (F := F) fb 1)), (k1_pay4 (rowI (F := F) fb 1) (pageP fp 1))⟩) :
    TS d arg1 arg2 arg3 fb fp 0 ⊢ wp frame (wpE (defs₀ (F := F)) 𝒱₀ (T d : Thread nD τ) none) Set.univ (k1_part1 i arg1 harg1 arg2 harg2 arg3 harg3 ) Q := by
  rw [k1_part1_eq_skeleton]
  unfold k1_part1_skel
  dsimp only
  refine ts_ld0 ?_
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 1 to 2 of the block. -/
theorem k1_part2_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 2 ⊢ Q (k1_pay6 (iota .tc S64x128 32 [0] iota_S64x128_d0_w32) (rowI (F := F) fb 2) (pageP fp 2))) :
    TS d arg1 arg2 arg3 fb fp 1 ⊢ wp frame (wpE (defs₀ (F := F)) 𝒱₀ (T d : Thread nD τ) none) Set.univ (k1_part2 i arg1 harg1 arg2 harg2 arg3 harg3 (iota .tc S64x128 32 [0] iota_S64x128_d0_w32) (k1_pay3 (rowI (F := F) fb 1)) (k1_pay4 (rowI (F := F) fb 1) (pageP fp 1))) Q := by
  rw [k1_part2_eq_skeleton]
  unfold k1_part2_skel
  dsimp only
  refine ts_ld2 fun _ => ?_
  dsimp only
  refine ts_st2 rfl ?_
  dsimp only
  refine ts_ld0 ?_
  dsimp only
  refine ts_ld1 ?_
  dsimp only
  exact ts_pure H

/-- Pages 2 to 4 of the block. -/
theorem k1_part3_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 4 ⊢ Q ⟨(k1_pay9 (iota .tc S64x128 32 [0] iota_S64x128_d0_w32) (rowI (F := F) fb 4)), (k1_pay10 (pageP fp 4))⟩) :
    TS d arg1 arg2 arg3 fb fp 2 ⊢ wp frame (wpE (defs₀ (F := F)) 𝒱₀ (T d : Thread nD τ) none) Set.univ (k1_part3 i arg1 harg1 arg2 harg2 arg3 harg3 (iota .tc S64x128 32 [0] iota_S64x128_d0_w32) (k1_pay6 (iota .tc S64x128 32 [0] iota_S64x128_d0_w32) (rowI (F := F) fb 2) (pageP fp 2))) Q := by
  rw [k1_part3_eq_skeleton]
  unfold k1_part3_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 4 to 5 of the block. -/
theorem k1_part4_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 5 ⊢ Q ⟨(k1_pay14 (iota .tc S64x128 32 [0] iota_S64x128_d0_w32) (rowI (F := F) fb 5) (pageP fp 5)), (k1_pay15 (iota .tc S64x128 32 [0] iota_S64x128_d0_w32) (rowI (F := F) fb 5) (pageP fp 5))⟩) :
    TS d arg1 arg2 arg3 fb fp 4 ⊢ wp frame (wpE (defs₀ (F := F)) 𝒱₀ (T d : Thread nD τ) none) Set.univ (k1_part4 i arg1 harg1 arg2 harg2 arg3 harg3 (iota .tc S64x128 32 [0] iota_S64x128_d0_w32) (k1_pay9 (iota .tc S64x128 32 [0] iota_S64x128_d0_w32) (rowI (F := F) fb 4)) (k1_pay10 (pageP fp 4))) Q := by
  rw [k1_part4_eq_skeleton]
  unfold k1_part4_skel
  dsimp only
  refine ts_ld2 fun _ => ?_
  dsimp only
  refine ts_st2 rfl ?_
  dsimp only
  refine ts_ld0 ?_
  dsimp only
  refine ts_ld1 ?_
  dsimp only
  exact ts_pure H

/-- Pages 5 to 7 of the block. -/
theorem k1_part5_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 7 ⊢ Q (k1_pay18 (iota .tc S64x128 32 [0] iota_S64x128_d0_w32) (rowI (F := F) fb 7))) :
    TS d arg1 arg2 arg3 fb fp 5 ⊢ wp frame (wpE (defs₀ (F := F)) 𝒱₀ (T d : Thread nD τ) none) Set.univ (k1_part5 i arg1 harg1 arg2 harg2 arg3 harg3 (iota .tc S64x128 32 [0] iota_S64x128_d0_w32) (k1_pay14 (iota .tc S64x128 32 [0] iota_S64x128_d0_w32) (rowI (F := F) fb 5) (pageP fp 5)) (k1_pay15 (iota .tc S64x128 32 [0] iota_S64x128_d0_w32) (rowI (F := F) fb 5) (pageP fp 5))) Q := by
  rw [k1_part5_eq_skeleton]
  unfold k1_part5_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  exact ts_pure H

/-- Pages 7 to 8 of the block. -/
theorem k1_part6_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 8 ⊢ Q ⟨(k1_pay20 (iota .tc S64x128 32 [0] iota_S64x128_d0_w32) (rowI (F := F) fb 8)), (k1_pay22 (iota .tc S64x128 32 [0] iota_S64x128_d0_w32) (rowI (F := F) fb 8) (pageP fp 8)), (k1_pay23 (iota .tc S64x128 32 [0] iota_S64x128_d0_w32) (rowI (F := F) fb 8) (pageP fp 8))⟩) :
    TS d arg1 arg2 arg3 fb fp 7 ⊢ wp frame (wpE (defs₀ (F := F)) 𝒱₀ (T d : Thread nD τ) none) Set.univ (k1_part6 i arg1 harg1 arg2 harg2 arg3 harg3 (iota .tc S64x128 32 [0] iota_S64x128_d0_w32) (k1_pay18 (iota .tc S64x128 32 [0] iota_S64x128_d0_w32) (rowI (F := F) fb 7))) Q := by
  rw [k1_part6_eq_skeleton]
  unfold k1_part6_skel
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 8 to 10 of the block. -/
theorem k1_part7_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 10 ⊢ Q (k1_pay26 (iota .tc S64x128 32 [0] iota_S64x128_d0_w32) (rowI (F := F) fb 10))) :
    TS d arg1 arg2 arg3 fb fp 8 ⊢ wp frame (wpE (defs₀ (F := F)) 𝒱₀ (T d : Thread nD τ) none) Set.univ (k1_part7 i arg1 harg1 arg2 harg2 arg3 harg3 (iota .tc S64x128 32 [0] iota_S64x128_d0_w32) (k1_pay20 (iota .tc S64x128 32 [0] iota_S64x128_d0_w32) (rowI (F := F) fb 8)) (k1_pay22 (iota .tc S64x128 32 [0] iota_S64x128_d0_w32) (rowI (F := F) fb 8) (pageP fp 8)) (k1_pay23 (iota .tc S64x128 32 [0] iota_S64x128_d0_w32) (rowI (F := F) fb 8) (pageP fp 8))) Q := by
  rw [k1_part7_eq_skeleton]
  unfold k1_part7_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  exact ts_pure H

/-- Pages 10 to 11 of the block. -/
theorem k1_part8_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 11 ⊢ Q ⟨(k1_pay28 (iota .tc S64x128 32 [0] iota_S64x128_d0_w32) (rowI (F := F) fb 11)), (k1_pay30 (iota .tc S64x128 32 [0] iota_S64x128_d0_w32) (rowI (F := F) fb 11) (pageP fp 11)), (k1_pay31 (iota .tc S64x128 32 [0] iota_S64x128_d0_w32) (rowI (F := F) fb 11) (pageP fp 11))⟩) :
    TS d arg1 arg2 arg3 fb fp 10 ⊢ wp frame (wpE (defs₀ (F := F)) 𝒱₀ (T d : Thread nD τ) none) Set.univ (k1_part8 i arg1 harg1 arg2 harg2 arg3 harg3 (iota .tc S64x128 32 [0] iota_S64x128_d0_w32) (k1_pay26 (iota .tc S64x128 32 [0] iota_S64x128_d0_w32) (rowI (F := F) fb 10))) Q := by
  rw [k1_part8_eq_skeleton]
  unfold k1_part8_skel
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 11 to 13 of the block. -/
theorem k1_part9_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 13 ⊢ Q (k1_pay34 (rowI (F := F) fb 13))) :
    TS d arg1 arg2 arg3 fb fp 11 ⊢ wp frame (wpE (defs₀ (F := F)) 𝒱₀ (T d : Thread nD τ) none) Set.univ (k1_part9 i arg1 harg1 arg2 harg2 arg3 harg3 (iota .tc S64x128 32 [0] iota_S64x128_d0_w32) (k1_pay28 (iota .tc S64x128 32 [0] iota_S64x128_d0_w32) (rowI (F := F) fb 11)) (k1_pay30 (iota .tc S64x128 32 [0] iota_S64x128_d0_w32) (rowI (F := F) fb 11) (pageP fp 11)) (k1_pay31 (iota .tc S64x128 32 [0] iota_S64x128_d0_w32) (rowI (F := F) fb 11) (pageP fp 11))) Q := by
  rw [k1_part9_eq_skeleton]
  unfold k1_part9_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  exact ts_pure H

/-- Pages 13 to 14 of the block. -/
theorem k1_part10_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 14 ⊢ Q ⟨(k1_pay36 (iota .tc S64x128 32 [0] iota_S64x128_d0_w32) (rowI (F := F) fb 14)), (k1_pay38 (iota .tc S64x128 32 [0] iota_S64x128_d0_w32) (rowI (F := F) fb 14) (pageP fp 14)), (k1_pay39 (iota .tc S64x128 32 [0] iota_S64x128_d0_w32) (rowI (F := F) fb 14) (pageP fp 14)), (k1_pay40 (iota .tc S64x128 32 [0] iota_S64x128_d0_w32) (rowI (F := F) fb 14) (pageP fp 14))⟩) :
    TS d arg1 arg2 arg3 fb fp 13 ⊢ wp frame (wpE (defs₀ (F := F)) 𝒱₀ (T d : Thread nD τ) none) Set.univ (k1_part10 i arg1 harg1 arg2 harg2 arg3 harg3 (iota .tc S64x128 32 [0] iota_S64x128_d0_w32) (k1_pay34 (rowI (F := F) fb 13))) Q := by
  rw [k1_part10_eq_skeleton]
  unfold k1_part10_skel
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 14 to 16 of the block. -/
theorem k1_part11_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 16 ⊢ Q ⟨⟩) :
    TS d arg1 arg2 arg3 fb fp 14 ⊢ wp frame (wpE (defs₀ (F := F)) 𝒱₀ (T d : Thread nD τ) none) Set.univ (k1_part11 i arg1 harg1 arg2 harg2 arg3 harg3 (iota .tc S64x128 32 [0] iota_S64x128_d0_w32) (k1_pay36 (iota .tc S64x128 32 [0] iota_S64x128_d0_w32) (rowI (F := F) fb 14)) (k1_pay38 (iota .tc S64x128 32 [0] iota_S64x128_d0_w32) (rowI (F := F) fb 14) (pageP fp 14)) (k1_pay39 (iota .tc S64x128 32 [0] iota_S64x128_d0_w32) (rowI (F := F) fb 14) (pageP fp 14)) (k1_pay40 (iota .tc S64x128 32 [0] iota_S64x128_d0_w32) (rowI (F := F) fb 14) (pageP fp 14))) Q := by
  rw [k1_part11_eq_skeleton]
  unfold k1_part11_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  exact ts_pure H

/-- Pages 16 to 17 of the block. -/
theorem k1_part12_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 17 ⊢ Q ⟨(k1_pay44 (iota .tc S64x128 32 [0] iota_S64x128_d0_w32) (rowI (F := F) fb 17)), (k1_pay46 (iota .tc S64x128 32 [0] iota_S64x128_d0_w32) (rowI (F := F) fb 17) (pageP fp 17)), (k1_pay47 (iota .tc S64x128 32 [0] iota_S64x128_d0_w32) (rowI (F := F) fb 17) (pageP fp 17))⟩) :
    TS d arg1 arg2 arg3 fb fp 16 ⊢ wp frame (wpE (defs₀ (F := F)) 𝒱₀ (T d : Thread nD τ) none) Set.univ (k1_part12 i arg1 harg1 arg2 harg2 arg3 harg3 (iota .tc S64x128 32 [0] iota_S64x128_d0_w32)) Q := by
  rw [k1_part12_eq_skeleton]
  unfold k1_part12_skel
  dsimp only
  refine ts_ld0 ?_
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 17 to 18 of the block. -/
theorem k1_part13_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 18 ⊢ Q (k1_pay49 (iota .tc S64x128 32 [0] iota_S64x128_d0_w32) (rowI (F := F) fb 18) (pageP fp 18))) :
    TS d arg1 arg2 arg3 fb fp 17 ⊢ wp frame (wpE (defs₀ (F := F)) 𝒱₀ (T d : Thread nD τ) none) Set.univ (k1_part13 i arg1 harg1 arg2 harg2 arg3 harg3 (iota .tc S64x128 32 [0] iota_S64x128_d0_w32) (k1_pay44 (iota .tc S64x128 32 [0] iota_S64x128_d0_w32) (rowI (F := F) fb 17)) (k1_pay46 (iota .tc S64x128 32 [0] iota_S64x128_d0_w32) (rowI (F := F) fb 17) (pageP fp 17)) (k1_pay47 (iota .tc S64x128 32 [0] iota_S64x128_d0_w32) (rowI (F := F) fb 17) (pageP fp 17))) Q := by
  rw [k1_part13_eq_skeleton]
  unfold k1_part13_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  exact ts_pure H

/-- Pages 18 to 20 of the block. -/
theorem k1_part14_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 20 ⊢ Q ⟨(k1_pay51 (iota .tc S64x128 32 [0] iota_S64x128_d0_w32) (rowI (F := F) fb 20)), (k1_pay52 (iota .tc S64x128 32 [0] iota_S64x128_d0_w32) (rowI (F := F) fb 20) (pageP fp 20)), (k1_pay53 (iota .tc S64x128 32 [0] iota_S64x128_d0_w32) (rowI (F := F) fb 20) (pageP fp 20))⟩) :
    TS d arg1 arg2 arg3 fb fp 18 ⊢ wp frame (wpE (defs₀ (F := F)) 𝒱₀ (T d : Thread nD τ) none) Set.univ (k1_part14 i arg1 harg1 arg2 harg2 arg3 harg3 (iota .tc S64x128 32 [0] iota_S64x128_d0_w32) (k1_pay49 (iota .tc S64x128 32 [0] iota_S64x128_d0_w32) (rowI (F := F) fb 18) (pageP fp 18))) Q := by
  rw [k1_part14_eq_skeleton]
  unfold k1_part14_skel
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 20 to 21 of the block. -/
theorem k1_part15_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 21 ⊢ Q (k1_pay55 (iota .tc S64x128 32 [0] iota_S64x128_d0_w32) (rowI (F := F) fb 21) (pageP fp 21))) :
    TS d arg1 arg2 arg3 fb fp 20 ⊢ wp frame (wpE (defs₀ (F := F)) 𝒱₀ (T d : Thread nD τ) none) Set.univ (k1_part15 i arg1 harg1 arg2 harg2 arg3 harg3 (iota .tc S64x128 32 [0] iota_S64x128_d0_w32) (k1_pay51 (iota .tc S64x128 32 [0] iota_S64x128_d0_w32) (rowI (F := F) fb 20)) (k1_pay52 (iota .tc S64x128 32 [0] iota_S64x128_d0_w32) (rowI (F := F) fb 20) (pageP fp 20)) (k1_pay53 (iota .tc S64x128 32 [0] iota_S64x128_d0_w32) (rowI (F := F) fb 20) (pageP fp 20))) Q := by
  rw [k1_part15_eq_skeleton]
  unfold k1_part15_skel
  dsimp only
  refine ts_ld2 fun _ => ?_
  dsimp only
  refine ts_st2 rfl ?_
  dsimp only
  refine ts_ld0 ?_
  dsimp only
  refine ts_ld1 ?_
  dsimp only
  exact ts_pure H

/-- Pages 21 to 23 of the block. -/
theorem k1_part16_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 23 ⊢ Q ⟨(k1_pay58 (iota .tc S64x128 32 [0] iota_S64x128_d0_w32) (rowI (F := F) fb 23)), (k1_pay59 (pageP fp 23))⟩) :
    TS d arg1 arg2 arg3 fb fp 21 ⊢ wp frame (wpE (defs₀ (F := F)) 𝒱₀ (T d : Thread nD τ) none) Set.univ (k1_part16 i arg1 harg1 arg2 harg2 arg3 harg3 (iota .tc S64x128 32 [0] iota_S64x128_d0_w32) (k1_pay55 (iota .tc S64x128 32 [0] iota_S64x128_d0_w32) (rowI (F := F) fb 21) (pageP fp 21))) Q := by
  rw [k1_part16_eq_skeleton]
  unfold k1_part16_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 23 to 24 of the block. -/
theorem k1_part17_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 24 ⊢ Q (k1_pay61 (iota .tc S64x128 32 [0] iota_S64x128_d0_w32) (rowI (F := F) fb 24) (pageP fp 24))) :
    TS d arg1 arg2 arg3 fb fp 23 ⊢ wp frame (wpE (defs₀ (F := F)) 𝒱₀ (T d : Thread nD τ) none) Set.univ (k1_part17 i arg1 harg1 arg2 harg2 arg3 harg3 (iota .tc S64x128 32 [0] iota_S64x128_d0_w32) (k1_pay58 (iota .tc S64x128 32 [0] iota_S64x128_d0_w32) (rowI (F := F) fb 23)) (k1_pay59 (pageP fp 23))) Q := by
  rw [k1_part17_eq_skeleton]
  unfold k1_part17_skel
  dsimp only
  refine ts_ld2 fun _ => ?_
  dsimp only
  refine ts_st2 rfl ?_
  dsimp only
  refine ts_ld0 ?_
  dsimp only
  refine ts_ld1 ?_
  dsimp only
  exact ts_pure H

/-- Pages 24 to 26 of the block. -/
theorem k1_part18_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 26 ⊢ Q (k1_pay64 (iota .tc S64x128 32 [0] iota_S64x128_d0_w32) (rowI (F := F) fb 26))) :
    TS d arg1 arg2 arg3 fb fp 24 ⊢ wp frame (wpE (defs₀ (F := F)) 𝒱₀ (T d : Thread nD τ) none) Set.univ (k1_part18 i arg1 harg1 arg2 harg2 arg3 harg3 (iota .tc S64x128 32 [0] iota_S64x128_d0_w32) (k1_pay61 (iota .tc S64x128 32 [0] iota_S64x128_d0_w32) (rowI (F := F) fb 24) (pageP fp 24))) Q := by
  rw [k1_part18_eq_skeleton]
  unfold k1_part18_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  exact ts_pure H

/-- Pages 26 to 27 of the block. -/
theorem k1_part19_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 27 ⊢ Q ⟨(k1_pay66 (iota .tc S64x128 32 [0] iota_S64x128_d0_w32) (rowI (F := F) fb 27)), (k1_pay68 (iota .tc S64x128 32 [0] iota_S64x128_d0_w32) (rowI (F := F) fb 27) (pageP fp 27)), (k1_pay69 (iota .tc S64x128 32 [0] iota_S64x128_d0_w32) (rowI (F := F) fb 27) (pageP fp 27)), (constant S128x128 .f32 0x00000000#32)⟩) :
    TS d arg1 arg2 arg3 fb fp 26 ⊢ wp frame (wpE (defs₀ (F := F)) 𝒱₀ (T d : Thread nD τ) none) Set.univ (k1_part19 i arg1 harg1 arg2 harg2 arg3 harg3 (iota .tc S64x128 32 [0] iota_S64x128_d0_w32) (k1_pay64 (iota .tc S64x128 32 [0] iota_S64x128_d0_w32) (rowI (F := F) fb 26))) Q := by
  rw [k1_part19_eq_skeleton]
  unfold k1_part19_skel
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 27 to 29 of the block. -/
theorem k1_part20_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 29 ⊢ Q (k1_pay72 (iota .tc S64x128 32 [0] iota_S64x128_d0_w32) (rowI (F := F) fb 29))) :
    TS d arg1 arg2 arg3 fb fp 27 ⊢ wp frame (wpE (defs₀ (F := F)) 𝒱₀ (T d : Thread nD τ) none) Set.univ (k1_part20 i arg1 harg1 arg2 harg2 arg3 harg3 (iota .tc S64x128 32 [0] iota_S64x128_d0_w32) (k1_pay66 (iota .tc S64x128 32 [0] iota_S64x128_d0_w32) (rowI (F := F) fb 27)) (k1_pay68 (iota .tc S64x128 32 [0] iota_S64x128_d0_w32) (rowI (F := F) fb 27) (pageP fp 27)) (k1_pay69 (iota .tc S64x128 32 [0] iota_S64x128_d0_w32) (rowI (F := F) fb 27) (pageP fp 27)) (constant S128x128 .f32 0x00000000#32)) Q := by
  rw [k1_part20_eq_skeleton]
  unfold k1_part20_skel
  dsimp only
  refine ts_ld2 fun _ => ?_
  dsimp only
  refine ts_st2 rfl ?_
  dsimp only
  refine ts_ld0 ?_
  dsimp only
  refine ts_ld1 ?_
  dsimp only
  refine ts_ld2 fun _ => ?_
  dsimp only
  refine ts_st2 rfl ?_
  dsimp only
  refine ts_ld0 ?_
  dsimp only
  exact ts_pure H

/-- Pages 29 to 30 of the block. -/
theorem k1_part21_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 30 ⊢ Q ⟨(k1_pay74 (iota .tc S64x128 32 [0] iota_S64x128_d0_w32) (rowI (F := F) fb 30)), (k1_pay76 (iota .tc S64x128 32 [0] iota_S64x128_d0_w32) (rowI (F := F) fb 30) (pageP fp 30)), (k1_pay77 (iota .tc S64x128 32 [0] iota_S64x128_d0_w32) (rowI (F := F) fb 30) (pageP fp 30)), (Scalar.ofBits .f32 0x3F800000#32)⟩) :
    TS d arg1 arg2 arg3 fb fp 29 ⊢ wp frame (wpE (defs₀ (F := F)) 𝒱₀ (T d : Thread nD τ) none) Set.univ (k1_part21 i arg1 harg1 arg2 harg2 arg3 harg3 (iota .tc S64x128 32 [0] iota_S64x128_d0_w32) (k1_pay72 (iota .tc S64x128 32 [0] iota_S64x128_d0_w32) (rowI (F := F) fb 29))) Q := by
  rw [k1_part21_eq_skeleton]
  unfold k1_part21_skel
  dsimp only
  refine ts_ld1 ?_
  dsimp only
  refine ts_ld2 fun _ => ?_
  dsimp only
  refine ts_st2 rfl ?_
  dsimp only
  refine ts_ld0 ?_
  dsimp only
  refine ts_ld1 ?_
  dsimp only
  exact ts_pure H

/-- Pages 0 to 31 of the block. -/
theorem k1_part22_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 31 ⊢ Q ⟨(k1_pay79 (iota .tc S64x128 32 [0] iota_S64x128_d0_w32) (rowI (F := F) fb 31)), (k1_pay81 (iota .tc S64x128 32 [0] iota_S64x128_d0_w32) (rowI (F := F) fb 31) (pageP fp 31)), (k1_pay82 (iota .tc S64x128 32 [0] iota_S64x128_d0_w32) (rowI (F := F) fb 31) (pageP fp 31)), (k1_pay83 (iota .tc S64x128 32 [0] iota_S64x128_d0_w32) (rowI (F := F) fb 31) (pageP fp 31)), (k1_pay84 (F := F))⟩) :
    TS d arg1 arg2 arg3 fb fp 0 ⊢ wp frame (wpE (defs₀ (F := F)) 𝒱₀ (T d : Thread nD τ) none) Set.univ (k1_part22 i arg1 harg1 arg2 harg2 arg3 harg3 ) Q := by
  rw [k1_part22_eq_skeleton]
  unfold k1_part22_skel
  dsimp only
  refine ts_bind (k1_part1_ok (i := i) (harg1 := harg1) (harg2 := harg2) (harg3 := harg3) ?_)
  dsimp only
  refine ts_bind (k1_part2_ok (i := i) (harg1 := harg1) (harg2 := harg2) (harg3 := harg3) ?_)
  dsimp only
  refine ts_bind (k1_part3_ok (i := i) (harg1 := harg1) (harg2 := harg2) (harg3 := harg3) ?_)
  dsimp only
  refine ts_bind (k1_part4_ok (i := i) (harg1 := harg1) (harg2 := harg2) (harg3 := harg3) ?_)
  dsimp only
  refine ts_bind (k1_part5_ok (i := i) (harg1 := harg1) (harg2 := harg2) (harg3 := harg3) ?_)
  dsimp only
  refine ts_bind (k1_part6_ok (i := i) (harg1 := harg1) (harg2 := harg2) (harg3 := harg3) ?_)
  dsimp only
  refine ts_bind (k1_part7_ok (i := i) (harg1 := harg1) (harg2 := harg2) (harg3 := harg3) ?_)
  dsimp only
  refine ts_bind (k1_part8_ok (i := i) (harg1 := harg1) (harg2 := harg2) (harg3 := harg3) ?_)
  dsimp only
  refine ts_bind (k1_part9_ok (i := i) (harg1 := harg1) (harg2 := harg2) (harg3 := harg3) ?_)
  dsimp only
  refine ts_bind (k1_part10_ok (i := i) (harg1 := harg1) (harg2 := harg2) (harg3 := harg3) ?_)
  dsimp only
  refine ts_bind (k1_part11_ok (i := i) (harg1 := harg1) (harg2 := harg2) (harg3 := harg3) ?_)
  dsimp only
  refine ts_bind (k1_part12_ok (i := i) (harg1 := harg1) (harg2 := harg2) (harg3 := harg3) ?_)
  dsimp only
  refine ts_bind (k1_part13_ok (i := i) (harg1 := harg1) (harg2 := harg2) (harg3 := harg3) ?_)
  dsimp only
  refine ts_bind (k1_part14_ok (i := i) (harg1 := harg1) (harg2 := harg2) (harg3 := harg3) ?_)
  dsimp only
  refine ts_bind (k1_part15_ok (i := i) (harg1 := harg1) (harg2 := harg2) (harg3 := harg3) ?_)
  dsimp only
  refine ts_bind (k1_part16_ok (i := i) (harg1 := harg1) (harg2 := harg2) (harg3 := harg3) ?_)
  dsimp only
  refine ts_bind (k1_part17_ok (i := i) (harg1 := harg1) (harg2 := harg2) (harg3 := harg3) ?_)
  dsimp only
  refine ts_bind (k1_part18_ok (i := i) (harg1 := harg1) (harg2 := harg2) (harg3 := harg3) ?_)
  dsimp only
  refine ts_bind (k1_part19_ok (i := i) (harg1 := harg1) (harg2 := harg2) (harg3 := harg3) ?_)
  dsimp only
  refine ts_bind (k1_part20_ok (i := i) (harg1 := harg1) (harg2 := harg2) (harg3 := harg3) ?_)
  dsimp only
  refine ts_bind (k1_part21_ok (i := i) (harg1 := harg1) (harg2 := harg2) (harg3 := harg3) ?_)
  dsimp only
  refine ts_ld2 fun _ => ?_
  dsimp only
  refine ts_st2 rfl ?_
  dsimp only
  refine ts_ld0 ?_
  dsimp only
  refine ts_ld1 ?_
  dsimp only
  exact ts_pure H

/-- Pages 0 to 32 of the block. -/
theorem body_ok {i : grid1.Coords} {arg1 : Memref sig .tc .vmem S32x128 .i32} {harg1 : arg1.IsWhole} {arg2 : Memref sig .tc .vmem S32x64x64 .f32} {harg2 : arg2.IsWhole} {arg3 : Memref sig .tc .vmem S32x128x128 .f32} {harg3 : arg3.IsWhole}
    {Q : _ → sProp 𝕄} (H : TS d arg1 arg2 arg3 fb fp 32 ⊢ Q ⟨⟩) :
    TS d arg1 arg2 arg3 fb fp 0 ⊢ wp frame (wpE (defs₀ (F := F)) 𝒱₀ (T d : Thread nD τ) none) Set.univ (cc1__expand_block i arg1 harg1 arg2 harg2 arg3 harg3 ) Q := by
  rw [cc1__expand_block_eq_skeleton]
  unfold cc1__expand_block_skel
  dsimp only
  refine ts_bind (k1_part22_ok (i := i) (harg1 := harg1) (harg2 := harg2) (harg3 := harg3) ?_)
  dsimp only
  refine ts_ld2 fun _ => ?_
  dsimp only
  refine ts_st2 rfl ?_
  dsimp only
  exact ts_pure H

end Cert.Proof.SC
-- ==== Proof.TcRegion.lean ====
/-
  The expanding kernel as a pipelined region: at every grid point the two input blocks are staged, the body makes the
  output block of them, and the blocks written back cover the output array.
-/
module

public import proofs.«01_k».proof.Proof.TcBody
public import proofs.«01_k».proof.Proof.Gen.KernelIdeal.Launch
public import proofs.«01_k».proof.Proof.Gen.KernelIdeal.Points
public import Idealize.ShloMosaic.Lib.Pipeline.ValueKit.Geometry
public import Idealize.ShloMosaic.Lib.Pipeline.RegionsLoop

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxRecDepth 16384

/-- A rank-three array's contents written back as a function of naturals. -/
def un3 {α : Type} {a b c : ℕ} [NeZero a] [NeZero b] [NeZero c] (g : (⟨3, ![a, b, c]⟩ : Shape).Idx → α) : ℕ → ℕ → ℕ → α :=
  fun i j k => g (fun | 0 => Fin.ofNat a i | 1 => Fin.ofNat b j | 2 => Fin.ofNat c k)

theorem mk3_un3 {α : Type} {a b c : ℕ} [NeZero a] [NeZero b] [NeZero c] (g : (⟨3, ![a, b, c]⟩ : Shape).Idx → α) : mk3 (un3 g) = g := by
  funext y
  have h0 : (y 0).val < a := (y 0).isLt
  have h1 : (y 1).val < b := (y 1).isLt
  have h2 : (y 2).val < c := (y 2).isLt
  refine congrArg g (funext fun k => ?_)
  match k with
  | 0 => exact Fin.ext (Nat.mod_eq_of_lt h0)
  | 1 => exact Fin.ext (Nat.mod_eq_of_lt h1)
  | 2 => exact Fin.ext (Nat.mod_eq_of_lt h2)

/-! ## The proof data, at an entry valuation -/

variable (V : (c : Dev nD) → (b : Ref sig .tc) → Buf (Elt F) ((c.tc : Thread nD τ).loc b))

/-- The bins and the counts the region is entered with. -/
def binsOf (c : Dev nD) : ℕ → ℕ → BitVec 32 := un2 (α := BitVec 32) (a := 2048) (b := 128) (V c main_v7)
def cntsOf (c : Dev nD) : ℕ → ℕ → ℕ → F .f32 := un3 (α := F .f32) (a := 2048) (b := 64) (c := 64) (V c main_v8)

/-- Row `n` of block `t`. -/
abbrev binsAt (c : Dev nD) (t : ℕ) : ℕ → ℕ → BitVec 32 := fun n => binsOf V c (32 * t + n)
abbrev cntsAt (c : Dev nD) (t : ℕ) : ℕ → ℕ → ℕ → F .f32 := fun n => cntsOf V c (32 * t + n)

abbrev Φc (c : Dev nD) : sProp 𝕄 := Pipeline.scopedRest (Ix := HIx 1) (Name := ℕ) (U := UU) (Lvl := ℕ) (Val := Elt F) spec1 c

def dat (c : Dev nD) : Dat τ (Elt F) (HIx 1) ℕ UU ℕ cfg1 c where
  A w := V c (Pipeline.arrRef spec1 w)
  after w t := match w with
    | ⟨0, _⟩ => (mk2 (binsAt V c t.val) : S32x128.Idx → BitVec 32)
    | ⟨1, _⟩ => (mk3 (cntsAt V c t.val) : S32x64x64.Idx → F .f32)
    | ⟨2, _⟩ => (mk3 (outP (binsAt V c t.val) (cntsAt V c t.val)) : S32x128x128.Idx → F .f32)
  Φ _ := Φc c
  q _ := fullShare
  owed _ := 0

/-- The pipelined calls take no table, so there is one admission. -/
def adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem index0 : ∀ t : Fin cfg1.N, win1_0.index t = ![t.val, 0] := by decide +kernel
theorem index1 : ∀ t : Fin cfg1.N, win1_1.index t = ![t.val, 0, 0] := by decide +kernel
theorem index2 : ∀ t : Fin cfg1.N, win1_2.index t = ![t.val, 0, 0] := by decide +kernel

theorem before0 (c : Dev nD) (t : Fin cfg1.N) (d : S32x128.Idx → BitVec 32) : (dat V c).before 0 t d = (mk2 (binsAt V c t.val) : S32x128.Idx → BitVec 32) := by
  unfold Dat.before
  rw [if_pos (fetch1_0 t)]
  have e : V c main_v7 = (mk2 (binsOf V c) : S2048x128.Idx → BitVec 32) := (mk2_un2 _).symm
  funext y
  show V c main_v7 ((win1_0.blk t).view.emb y) = _
  rw [e]
  show binsOf V c (((win1_0.blk t).view.emb y) 0).val (((win1_0.blk t).view.emb y) 1).val = binsOf V c (32 * t.val + (y 0).val) (y 1).val
  blk_simp [index0]
  simp [Nat.mul_comm]

theorem before1 (c : Dev nD) (t : Fin cfg1.N) (d : S32x64x64.Idx → F .f32) : (dat V c).before 1 t d = (mk3 (cntsAt V c t.val) : S32x64x64.Idx → F .f32) := by
  unfold Dat.before
  rw [if_pos (fetch1_1 t)]
  have e : V c main_v8 = (mk3 (cntsOf V c) : S2048x64x64.Idx → F .f32) := (mk3_un3 _).symm
  funext y
  show V c main_v8 ((win1_1.blk t).view.emb y) = _
  rw [e]
  show cntsOf V c (((win1_1.blk t).view.emb y) 0).val (((win1_1.blk t).view.emb y) 1).val (((win1_1.blk t).view.emb y) 2).val
    = cntsOf V c (32 * t.val + (y 0).val) (y 1).val (y 2).val
  blk_simp [index1]
  simp [Nat.mul_comm]

/-- The array the region leaves. -/
abbrev outW (c : Dev nD) : S2048x128x128.Idx → F .f32 := mk3 (outP (binsOf V c) (cntsOf V c))

theorem arr_out (c : Dev nD) : (dat V c).arrAt 2 cfg1.N = outW V c := by
  refine (dat V c).arrAt_eq_of_covers 2 (outW V c) (by decide +kernel) fun t hf y => ?_
  blk_simp
  show outP (binsAt V c t.val) (cntsAt V c t.val) (y 0).val (y 1).val (y 2).val
    = outP (binsOf V c) (cntsOf V c) (((win1_2.blk t).view.emb y) 0).val (((win1_2.blk t).view.emb y) 1).val (((win1_2.blk t).view.emb y) 2).val
  blk_simp [index2]
  simp
  rw [Nat.mul_comm]
  rfl

/-- The block body at a grid point. -/
theorem body_obligation (c : Dev nD) : BodyObligation (dat V c) (defs₀ (F := F)) 𝒱₀ (none : HIx 1) Set.univ := fun t => by
  rw [bigSep_W1, bigSep_W1]
  unfold owns
  rw [show (dat V c).Φ t.castSucc = Φc c from rfl, show (dat V c).Φ t.succ = Φc c from rfl,
    show (dat V c).owesAt (none : HIx 1) t.succ = (dat V c).owesAt (none : HIx 1) t.castSucc from rfl]
  rw [show (st1_0 t).view.set = Finset.univ from (hstage1_0 ((cfg1.slots t 0).cast nbuf1_0)).set_eq_univ,
    show (st1_1 t).view.set = Finset.univ from (hstage1_1 ((cfg1.slots t 1).cast nbuf1_1)).set_eq_univ,
    show (st1_2 t).view.set = Finset.univ from (hstage1_2 ((cfg1.slots t 2).cast nbuf1_2)).set_eq_univ]
  have hb : TS c (st1_0 t) (st1_1 t) (st1_2 t) (binsAt V c t.val) (cntsAt V c t.val) 0
      ⊢ wp frame (wpE (defs₀ (F := F)) 𝒱₀ (T c : Thread nD τ) none) Set.univ (bodyAt1 t)
        fun _ => TS c (st1_0 t) (st1_1 t) (st1_2 t) (binsAt V c t.val) (cntsAt V c t.val) 32 := body_ok (BI.Entails.refl _)
  iintro ⟨HΦ, Howes, ⟨%d0, %f0, %hf0, H0⟩, ⟨%d1, %f1, %hf1, H1⟩, ⟨%d2, %f2, -, H2⟩⟩
  rw [before0] at hf0
  rw [before1] at hf1
  iapply (wp_wand _ _ _) $$ [H0 H1 H2]
  · iapply hb
    unfold TS
    isplitl [H0]
    · iexists f0; isplitr; ipureintro; exact hf0; iexact H0
    isplitl [H1]
    · iexists f1; isplitr; ipureintro; exact hf1; iexact H1
    iexists f2; isplitr; ipureintro; intro y hy; exact absurd hy (Nat.not_lt_zero _); iexact H2
  iintro %_ Hpost
  unfold TS
  icases Hpost with ⟨⟨%g0, %hg0, H0⟩, ⟨%g1, %hg1, H1⟩, %g2, %hg2, H2⟩
  isplitl [HΦ]; · iexact HΦ
  isplitl [Howes]; · iexact Howes
  isplitl [H0]
  · iexists g0; isplitr; ipureintro; exact hg0; iexact H0
  isplitl [H1]
  · iexists g1; isplitr; ipureintro; exact hg1; iexact H1
  iexists g2; isplitr; ipureintro; exact funext fun y => hg2 y (y 0).isLt; iexact H2

/-! ## The region over the thread state -/

/-- The buffers after the region: the output array holds its value, every other buffer what it held. -/
def Vp (c : Dev nD) (b : Ref sig .tc) : Buf (Elt F) ((c.tc : Thread nD τ).loc b) :=
  if h : b = main_v9 then h ▸ (outW V c : Buf (Elt F) ((c.tc : Thread nD τ).loc main_v9)) else V c b

theorem Vp_out (c : Dev nD) : Vp V c main_v9 = outW V c := dif_pos rfl
theorem Vp_ne (c : Dev nD) (b : Ref sig .tc) (h : b ≠ main_v9) : Vp V c b = V c b := dif_neg h

set_option backward.isDefEq.respectTransparency.types false in
/-- The region as a segment of the thread's run. -/
def reg : Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, owes (c.tc : Thread nD τ) (0 : CellTallies nD τ sig (HIx 1)) W)
  post c := iprop(unscopedBufs c (Vp V c) ∗ ∃ W, owes (c.tc : Thread nD τ) (0 : CellTallies nD τ sig (HIx 1)) W)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp V c) ((pdats V 0 c).arrAt · cfg1.N)
      (fun w => by
        fin_cases w
        · exact ((pdats V 0 c).arrAt_in 0 rfl _).trans (Vp_ne V c main_v7 (by decide)).symm
        · exact ((pdats V 0 c).arrAt_in 1 rfl _).trans (Vp_ne V c main_v8 (by decide)).symm
        · exact (arr_out V c).trans (Vp_out V c).symm)
      (fun b hb => Vp_ne V c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.SC
-- ==== Proof.Launch.lean ====
/-
The whole run: the host operations, the two kernels, and what the launch needs and gives.
-/
module

public import proofs.«01_k».proof.Proof.Host
public import proofs.«01_k».proof.Proof.TcRegion
public import Idealize.ShloMosaic.Lib.SparseCore.Quiescent

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.StableHlo (after seq held launchContents)

set_option maxRecDepth 16384

/-! ## The values along the run -/

/-- The input as rows of 128. -/
def Xof (x : FVec F S256x8x128 .f32) : ℕ → ℕ → F .f32 := un2 (a := 2048) (b := 128) (shapeCast S2048x128 x shapeCasts_S256x8x128_S2048x128)
/-- The boundaries the tiles read, by index. -/
def Ev : ℕ → F .f32 := un1 (a := 64) (extV (F := F))
/-- The bins, row by row. -/
def binsV (x : FVec F S256x8x128 .f32) : S2048x128.Idx → BitVec 32 := mk2 fun r c => binW Ev (Xof x r) c
/-- The counts of the transitions, a flat row for each row. -/
def cntV (x : FVec F S256x8x128 .f32) : FVec F S2048x4096 .f32 := mk2 fun R c => cRow Ev (Xof x R) c
/-- The counts as squares. -/
def cnt3V (x : FVec F S256x8x128 .f32) : FVec F S2048x64x64 .f32 := shapeCast S2048x64x64 (cntV x) shapeCasts_S2048x4096_S2048x64x64
/-- The field, a square for each row. -/
def fldV (x : FVec F S256x8x128 .f32) : FVec F S2048x128x128 .f32 :=
  mk3 (outP (un2 (α := BitVec 32) (a := 2048) (b := 128) (binsV x)) (un3 (α := F .f32) (a := 2048) (b := 64) (c := 64) (cnt3V x)))
/-- What the program computes. -/
def resOf (x : FVec F S256x8x128 .f32) : FVec F S256x8x128x128 .f32 := shapeCast S256x8x128x128 (fldV x) shapeCasts_S2048x128x128_S256x8x128x128

section Run

variable (m : (ℓ : Loc nD τ sig) → Buf (Elt F) ℓ) (ρ : Dev nD → PrngReg)

/-- The argument of a device. -/
abbrev argOf (d : Dev nD) : FVec F S256x8x128 .f32 := m ((SparseCore.T d).loc main_arg0)

abbrev PP' : (K (F := F)).Pay (nD := nD) (Val := Elt F) (Name := ℕ) (U := UU) := P (fun d => Xof (argOf m d)) (fun _ => Ev)

/-- The buffers when the first kernel is called, and when it is over. -/
def V1 (d : Dev nD) : Valuation τ sig (Elt F) := after hostPre (launchContents m d)
def V2 (d : Dev nD) (fb : S2048x144.Idx → BitVec 32) : Valuation τ sig (Elt F) :=
  Function.update (Function.update (V1 m d) (dr main_v6_0) fb) (dr main_v6_1) (cntV (argOf m d))
/-- The buffers when the second kernel is called, when it is over, and at the end. -/
def V3 (d : Dev nD) (fb : S2048x144.Idx → BitVec 32) : Valuation τ sig (Elt F) := after hostMid (V2 m d fb)
def V4 (d : Dev nD) (fb : S2048x144.Idx → BitVec 32) : Valuation τ sig (Elt F) := Function.update (V3 m d fb) (dr main_v9) (fldV (argOf m d))
def V5 (d : Dev nD) (fb : S2048x144.Idx → BitVec 32) : Valuation τ sig (Elt F) := after hostPost (V4 m d fb)

theorem V1_v0 (d : Dev nD) : V1 m d (dr main_v0) = (mk2 (Xof (argOf m d)) : FVec F S2048x128 .f32) :=
  (pre_v0 _).trans (mk2_un2 _).symm
theorem V1_v4 (d : Dev nD) : V1 m d (dr main_v4) = (mk1 Ev : FVec F S64 .f32) := (pre_v4 _).trans (mk1_un1 _).symm
theorem V1_v5 (d : Dev nD) : V1 m d (dr main_v5) = (mk2 (fun _ _ => z0) : FVec F S16x4096 .f32) := pre_v5 _
theorem V1_arg (d : Dev nD) : V1 m d (dr main_arg0) = argOf m d := pre_arg _

variable (fb : S2048x144.Idx → BitVec 32)

theorem V2_b (d : Dev nD) : V2 m d fb (dr main_v6_0) = fb := by
  unfold V2
  rw [Function.update_of_ne (by decide), Function.update_self]
theorem V2_p (d : Dev nD) : V2 m d fb (dr main_v6_1) = cntV (argOf m d) := by
  unfold V2
  rw [Function.update_self]
theorem V2_ne (d : Dev nD) (b : DevRef τ sig) (h0 : b ≠ dr main_v6_0) (h1 : b ≠ dr main_v6_1) : V2 m d fb b = V1 m d b := by
  unfold V2
  rw [Function.update_of_ne h1, Function.update_of_ne h0]

theorem V3_v7 (d : Dev nD) (h : BOKall (fun d => Xof (argOf m d)) (fun _ => Ev) d fb) : V3 m d fb (dr main_v7) = binsV (argOf m d) := by
  refine (hostMid_v7 _).trans ?_
  rw [V2_b]
  funext y
  have h1 : (y 1).val < 128 := (y 1).isLt
  refine (h _ (by show 0 + (y 1).val < 128; omega)).trans ?_
  show binW Ev (Xof (argOf m d) (0 + (y 0).val)) (0 + (y 1).val) = _
  rw [Nat.zero_add, Nat.zero_add]
  rfl
theorem V3_v8 (d : Dev nD) : V3 m d fb (dr main_v8) = cnt3V (argOf m d) := by
  refine (hostMid_v8 _).trans ?_
  rw [V2_p]
  rfl
theorem V3_arg (d : Dev nD) : V3 m d fb (dr main_arg0) = argOf m d :=
  (hostMid_arg _).trans ((V2_ne m fb d _ (by decide) (by decide)).trans (V1_arg m d))
theorem V5_v10 (d : Dev nD) : V5 m d fb (dr main_v10) = resOf (argOf m d) := by
  refine (hostPost_v10 _).trans ?_
  unfold V4
  rw [Function.update_self]
  rfl
theorem V5_arg (d : Dev nD) : V5 m d fb (dr main_arg0) = argOf m d := by
  refine (hostPost_arg _).trans ?_
  unfold V4
  rw [Function.update_of_ne (by decide)]
  exact V3_arg m fb d

/-! ## The arrays of the first kernel, out of the host's buffers and back -/

abbrev five : Finset (DevRef τ sig) := {dr main_v0, dr main_v4, dr main_v5, dr main_v6_0, dr main_v6_1}

theorem five_sub : five ⊆ ucRefs := by
  intro b hb
  simp only [five, Finset.mem_insert, Finset.mem_singleton] at hb
  rcases hb with rfl | rfl | rfl | rfl | rfl <;> exact mem_uc rfl

theorem held_five (d : Dev nD) (V : Valuation τ sig (Elt F)) :
    (held (SparseCore.T d) five V : sProp 𝕄) = iprop((lX d ↦{fullShare} (V (dr main_v0) : Buf (Elt F) (lX d))) ∗ (lE d ↦{fullShare} (V (dr main_v4) : Buf (Elt F) (lE d)))
      ∗ (lZ d ↦{fullShare} (V (dr main_v5) : Buf (Elt F) (lZ d))) ∗ (lB d ↦{fullShare} (V (dr main_v6_0) : Buf (Elt F) (lB d)))
      ∗ (lP d ↦{fullShare} (V (dr main_v6_1) : Buf (Elt F) (lP d)))) := by
  unfold StableHlo.held five
  rw [SparseCore.bigSep_insert' (by decide), SparseCore.bigSep_insert' (by decide), SparseCore.bigSep_insert' (by decide), SparseCore.bigSep_insert' (by decide), bigSep_singleton]

theorem held_out (d : Dev nD) : (held (SparseCore.T d) ucRefs (V1 m d) : sProp 𝕄)
    ⊢ iprop(callPre (fun d => Xof (argOf m d)) (fun _ => Ev) d ∗ held (SparseCore.T d) (ucRefs \ five) (V1 m d)) := by
  rw [StableHlo.held_sub_split _ five_sub, held_five, V1_v0, V1_v4, V1_v5]
  unfold callPre
  iintro ⟨⟨HX, HE, HZ, HB, HP⟩, Hr⟩
  iframe HX HE HZ Hr
  isplitl [HB]
  · iexists (V1 m d (dr main_v6_0) : Buf (Elt F) (lB d)); iexact HB
  · iexists (V1 m d (dr main_v6_1) : Buf (Elt F) (lP d)); iexact HP

theorem held_in (d : Dev nD) : iprop(callPost (fun d => Xof (argOf m d)) (fun _ => Ev) d ∗ held (SparseCore.T d) (ucRefs \ five) (V1 m d))
    ⊢ (iprop(∃ fb : S2048x144.Idx → BitVec 32, ⌜BOKall (fun d => Xof (argOf m d)) (fun _ => Ev) d fb⌝ ∗ held (SparseCore.T d) ucRefs (V2 m d fb)) : sProp 𝕄) := by
  unfold callPost
  iintro ⟨⟨HX, HE, HZ, ⟨%fb, %hb, HB⟩, HP⟩, Hr⟩
  iexists fb
  isplitr; · ipureintro; exact hb
  rw [StableHlo.held_sub_split _ five_sub (V2 m d fb), held_five, V2_b, V2_p, V2_ne m fb d (dr main_v0) (by decide) (by decide), V2_ne m fb d (dr main_v4) (by decide) (by decide),
    V2_ne m fb d (dr main_v5) (by decide) (by decide), V1_v0, V1_v4, V1_v5,
    StableHlo.held_congr (SparseCore.T d) (V := V2 m d fb) (V' := V1 m d) (S := ucRefs \ five) (fun b hb => V2_ne m fb d b
      (fun e => (Finset.mem_sdiff.mp hb).2 (by rw [e]; simp [five])) (fun e => (Finset.mem_sdiff.mp hb).2 (by rw [e]; simp [five])))]
  iframe HX HE HZ HB Hr
  iexact HP

/-! ## The launch -/

theorem phinj : Function.Injective (Pipeline.cellOf (nD := nD) (τ := τ) (Pipeline.pin (pcfgs (F := F)) adm)) := cellOf_inj

/-- The ghost state of the pipelined region. -/
def GG (d : Dev nD) : sProp 𝕄 := iprop(Pipeline.cellsGhost (Pipeline.pin (pcfgs (F := F)) adm) EP 0 d ∗ Pipeline.toksInit (Pipeline.pin (pcfgs (F := F)) adm) EP 0 d)

def uP : UP := initOf (Pipeline.cells (nD := nD) (τ := τ) (Pipeline.pin (pcfgs (F := F)) adm) phinj) (Pipeline.launchToks (nD := nD) (τ := τ) (Pipeline.pin (pcfgs (F := F)) adm) phinj)

def u₀ : UU := (initOf (K (F := F)).hsCells (K (F := F)).hsToks, (uP (F := F), 1))

theorem bigSep_emp' {I : Type} (s : Finset I) : (bigSep s fun _ => iprop(emp)) = (iprop(emp) : sProp 𝕄) := bigSep_emp_const s

theorem fundG : (BI.own (EP (uP (F := F))) : sProp 𝕄) ⊢ |==> bigSep Finset.univ fun d : Dev nD => GG (F := F) d := by
  have h := Pipeline.fund_ghost (Pipeline.pin (pcfgs (F := F)) adm) (EP : Emb UP 𝕄) (phinj (F := F))
  have h1 : (bigSep Finset.univ fun c : Dev nD => bigSep Finset.univ fun p : Fin 1 => Pipeline.cellsGhost (Pipeline.pin (pcfgs (F := F)) adm) EP p c)
        = bigSep Finset.univ fun c : Dev nD => (Pipeline.cellsGhost (Pipeline.pin (pcfgs (F := F)) adm) EP 0 c : sProp 𝕄) := bigSep_congr fun _ _ => bigSep_univ_of_subsingleton (0 : Fin 1)
  have h2 : (bigSep Finset.univ fun c : Dev nD => bigSep Finset.univ fun p : Fin 1 => Pipeline.toksInit (Pipeline.pin (pcfgs (F := F)) adm) EP p c)
        = bigSep Finset.univ fun c : Dev nD => (Pipeline.toksInit (Pipeline.pin (pcfgs (F := F)) adm) EP 0 c : sProp 𝕄) := bigSep_congr fun _ _ => bigSep_univ_of_subsingleton (0 : Fin 1)
  rw [h1, h2, ← bigSep_sep'] at h
  exact h

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP' m).x q thr) := by
  unfold u₀
  iintro Hu
  ihave H := (ownU_pair (initOf (K (F := F)).hsCells (K (F := F)).hsToks) ((uP (F := F), 1) : UP × Counters)) $$ Hu
  icases H with ⟨HH, HP⟩
  ihave HP := (show (BI.own ((embR : Emb (UP × Counters) 𝕄) (uP (F := F), 1)) : sProp 𝕄) ⊢ BI.own (EP (uP (F := F))) from BI.Entails.refl _) $$ HP
  imod (fundG (F := F)) $$ HP with Hg
  imodintro
  isplitl [HH]; · iexact HH
  isplitl [Hg]; · iexact Hg
  rw [show (bigSep Finset.univ fun thr : Thread nD τ => bigSep Finset.univ fun q : Fin 1 => (PP' (F := F) m).x q thr) = bigSep Finset.univ fun _ => iprop(emp) from
    bigSep_congr fun _ _ => bigSep_univ_of_subsingleton (0 : Fin 1), bigSep_emp']
  iempintro

/-! ## The host program -/

/-- What a device holds at the end. -/
def FIN (d : Dev nD) : sProp 𝕄 :=
  iprop(((SparseCore.T d).loc main_arg0 ↦{fullShare} (argOf m d : Buf (Elt F) ((SparseCore.T d).loc main_arg0)))
    ∗ ((SparseCore.T d).loc main_v10 ↦{fullShare} (resOf (argOf m d) : Buf (Elt F) ((SparseCore.T d).loc main_v10))))

theorem two_sub : ({dr main_arg0, dr main_v10} : Finset (DevRef τ sig)) ⊆ ucRefs := by
  intro b hb
  simp only [Finset.mem_insert, Finset.mem_singleton] at hb
  rcases hb with rfl | rfl <;> exact mem_uc rfl

theorem held_fin (d : Dev nD) : (held (SparseCore.T d) ucRefs (V5 m d fb) : sProp 𝕄) ⊢ FIN m d := by
  rw [StableHlo.held_sub_split _ two_sub]
  unfold StableHlo.held FIN
  rw [SparseCore.bigSep_insert' (by decide), bigSep_singleton, V5_arg, V5_v10]
  iintro ⟨⟨H1, H2⟩, -⟩
  isplitl [H1]
  · iexact H1
  · iexact H2

/-- The region's entry valuation. -/
abbrev Vr (d : Dev nD) : (c : Dev nD) → (b : Ref sig .tc) → Buf (Elt F) ((c.tc : Thread nD τ).loc b) := fun _ b => V3 m d fb (dr b)

theorem Vp_eq (d : Dev nD) (h : BOKall (fun d => Xof (argOf m d)) (fun _ => Ev) d fb) (b : Ref sig .tc) : Vp (Vr m fb d) d b = V4 m d fb (dr b) := by
  unfold V4
  by_cases hb : b = main_v9
  · subst hb
    rw [Function.update_self]
    refine (Vp_out _ _).trans ?_
    unfold fldV
    rw [← V3_v7 m fb d h, ← V3_v8 m fb d]
    rfl
  · rw [Function.update_of_ne fun e => hb (Proc.devRef_injective _ e)]
    exact Vp_ne _ _ _ hb

theorem lev_small (W : Waits sig (HIx 1)) (d : Dev nD) : (K (F := F)).WBelow (SparseCore.T d) W 8 := by
  intro p _
  rcases p with ⟨s, _ | q⟩
  · exact Nat.zero_le _
  · have h := (K (F := F)).lev_some_le (SparseCore.T d, s) q
    have hq : q.val = 0 := by omega
    show (K (F := F)).lev (SparseCore.T d, s) (some q) ≤ 8
    omega

open SparseCore (liftProg)

/-- What the TensorCore owes after the call, as the region needs it. -/
theorem tc_open (d : Dev nD) : ((K (F := F)).tcSt EH d 1 : sProp 𝕄) ⊢ iprop((∃ W, owes (SparseCore.T d) 0 W)
    ∗ ((∃ W, owes (SparseCore.T d) 0 W) -∗ (K (F := F)).tcSt EH d 1)) := by
  unfold SparseCore.Cfg.tcSt
  rw [(K (F := F)).Otc_end d (le_refl 1)]
  iintro ⟨⟨%W, %hW, HO⟩, Hr⟩
  isplitl [HO]
  · iexists W; iexact HO
  iintro ⟨%W', HO'⟩
  isplitl [HO']
  · iexists W'
    isplitr; · ipureintro; exact lev_small W' d
    iexact HO'
  iexact Hr

set_option maxHeartbeats 1000000 in
set_option backward.isDefEq.respectTransparency.types false in
/-- The second kernel's call. -/
theorem region_step [∀ e, Nonempty (Elt F e)] (d : Dev nD) (h : BOKall (fun d => Xof (argOf m d)) (fun _ => Ev) d fb) {Φ : PUnit → sProp 𝕄} :
    iprop(((boundary (SparseCore.T d) ∗ held (SparseCore.T d) ucRefs (V4 m d fb) ∗ ∃ W, owes (SparseCore.T d) 0 W) -∗ Φ ⟨⟩)
        ∗ levAts (K (F := F)).L (K (F := F)).lev ∗ boundary (SparseCore.T d) ∗ held (SparseCore.T d) ucRefs (V3 m d fb) ∗ (∃ W, owes (SparseCore.T d) 0 W) ∗ GG d)
      ⊢ wp frame (wpE ((K (F := F)).defs (D (F := F))) 𝒱 (SparseCore.T d) none) Set.univ
          (Prog.lift (.customCall (SparseCore.inner (Pipeline.entry 0)) ())) Φ := by
  have e3 := unscopedBufs_held (F := F) d (V3 m d fb)
  have e4 := unscopedBufs_held (F := F) d (V4 m d fb)
  have e5 : (fun b => Vp (Vr m fb d) d b) = fun b => V4 m d fb (dr b) := funext fun b => Vp_eq m fb d h b
  rw [← e3, ← e4, ← e5]
  have hR := (Pipeline.RegionSeg.wp (pcfgs (F := F)) adm (pdats (Vr m fb d)) (none : HIx 1) (phinj (F := F)) EP defs₀ 𝒱₀ (K (F := F)).L (K (F := F)).lev (reg (Vr m fb d)) d none
    (fun u hu => nomatch hu) (fun x => Pure.pure x) Φ)
  have hL := (K (F := F)).wp_liftProg (D (F := F)) 𝒱 (SparseCore.T d) Set.univ none (.op (.customCall (Pipeline.entry 0) ()) fun x => .ret x) Φ
  rw [SparseCore.liftProg_op] at hL
  refine BIBase.Entails.trans ?_ hL
  rw [show (reg (Vr m fb d)).pre d = iprop(unscopedBufs d (Vr m fb d d) ∗ ∃ W, owes (d.tc : Thread nD τ) 0 W) from rfl,
    show (reg (Vr m fb d)).post d = iprop(unscopedBufs d (Vp (Vr m fb d) d) ∗ ∃ W, owes (d.tc : Thread nD τ) 0 W) from rfl] at hR
  refine BIBase.Entails.trans ?_ hR
  unfold GG
  iintro ⟨HΦ, Hl, Hb, Hu, Ho, Hg, Ht⟩
  isplitl [HΦ]
  · iintro ⟨Hb, Hu, Ho⟩
    rw [wp_pure]
    imodintro
    iapply HΦ
    isplitl [Hb]; · iexact Hb
    isplitl [Hu]; · iexact Hu
    iexact Ho
  isplitl [Hb]; · iexact Hb
  isplitl [Hu Ho]
  · isplitl [Hu]; · iexact Hu
    iexact Ho
  isplitl [Hl]; · iexact Hl
  isplitl [Hg]; · iexact Hg
  iexact Ht

/-- The end of the host program, from the second kernel's call on. -/
theorem tail_step [∀ e, Nonempty (Elt F e)] (d : Dev nD) (h : BOKall (fun d => Xof (argOf m d)) (fun _ => Ev) d fb) :
    iprop(levAts (K (F := F)).L (K (F := F)).lev ∗ boundary (SparseCore.T d) ∗ held (SparseCore.T d) ucRefs (V2 m d fb) ∗ (K (F := F)).tcSt EH d 1 ∗ GG d)
      ⊢ wp frame (wpE ((K (F := F)).defs (D (F := F))) 𝒱 (SparseCore.T d) none) Set.univ
          (seq hostMid >>= fun _ => Prog.lift (.customCall (SparseCore.inner (Pipeline.entry 0)) ()) >>= fun _ => seq hostPost)
          fun _ => iprop((K (F := F)).tcSt EH d 1 ∗ FIN m d ∗ boundary (SparseCore.T d)) := by
  iintro ⟨Hl, Hb, Hh, Hst, HG⟩
  iapply (StableHlo.wp_seq 𝒱 none Set.univ d ucRefs _ hostMid hostMid_sub hostMid_fresh (V2 m d fb)) $$ [Hb Hh]
  · isplitl [Hb]; · iexact Hb
    iexact Hh
  iintro ⟨Hb, Hh⟩
  ihave Hst := (tc_open d) $$ Hst
  icases Hst with ⟨Ho, Hst⟩
  rw [wp_bind]
  iapply (region_step m fb d h)
  isplitl [Hst]
  · iintro ⟨Hb, Hh, Ho⟩
    rw [← bind_pure (seq hostPost)]
    iapply (StableHlo.wp_seq 𝒱 none Set.univ d ucRefs _ hostPost hostPost_sub hostPost_fresh (V4 m d fb)) $$ [Hb Hh]
    · isplitl [Hb]; · iexact Hb
      iexact Hh
    iintro ⟨Hb, Hh⟩
    rw [wp_pure]
    imodintro
    ihave Hh := (show (held (d.tc : Thread nD τ) ucRefs (after hostPost (V4 m d fb)) : sProp 𝕄) ⊢ FIN m d from held_fin m fb d) $$ Hh
    isplitl [Hst Ho]
    · iapply Hst; iexact Ho
    isplitl [Hh]; · iexact Hh
    iexact Hb
  isplitl [Hl]; · iexact Hl
  isplitl [Hb]; · iexact Hb
  isplitl [Hh]; · iexact Hh
  isplitl [Ho]; · iexact Ho
  iexact HG

theorem hmain [∀ e, Nonempty (Elt F e)] (κ : GSem nD τ sig → ℕ) (d : Dev nD) :
    iprop((K (F := F)).ctx EH (PP' m) κ ∗ (K (F := F)).tcSt EH d 0 ∗ (K (F := F)).tcRes m ρ d ∗ GG d)
      ⊢ wp frame (wpE ((K (F := F)).defs (D (F := F))) 𝒱 (SparseCore.T d) none) Set.univ (main d)
        fun _ => iprop((K (F := F)).tcSt EH d 1 ∗ FIN m d ∗ (K (F := F)).tcEnd d) := by
  rw [main_eq]
  unfold SparseCore.Cfg.tcRes SparseCore.Cfg.tcEnd
  iintro ⟨#Hctx, Hst, ⟨Hb, Hub, Hts, -⟩, HG⟩
  ihave Hub := (show (unscopedBufs d (fun b => m ((SparseCore.T d).loc b)) : sProp 𝕄) ⊢ held (SparseCore.T d) ucRefs (launchContents m d) from
    (unscopedBufs_held d (launchContents m d)).le) $$ Hub
  iapply (StableHlo.wp_seq 𝒱 none Set.univ d ucRefs _ hostPre hostPre_sub hostPre_fresh (launchContents m d)) $$ [Hb Hub]
  · isplitl [Hb]; · iexact Hb
    iexact Hub
  iintro ⟨Hb, Hh⟩
  ihave Hh := (show (held (d.tc : Thread nD τ) ucRefs (after hostPre (launchContents m d)) : sProp 𝕄)
      ⊢ iprop(callPre (fun d => Xof (argOf m d)) (fun _ => Ev) d ∗ held (SparseCore.T d) (ucRefs \ five) (V1 m d)) from held_out m d) $$ Hh
  icases Hh with ⟨Hpre, Hrest⟩
  ihave Hgo := (call_split (fun d => Xof (argOf m d)) (fun _ => Ev) d) $$ Hpre
  rw [wp_bind]
  iapply ((K (F := F)).wp_run (D (F := F)) 𝒱 (EH := EH) (P := PP' m) κ d 0) $$ [Hst Hb Hgo Hrest Hts HG]
  isplitr; · iexact Hctx
  isplitl [Hst]; · iexact Hst
  isplitl [Hgo]; · iexact Hgo
  iintro ⟨Hst, Hdn⟩
  ihave Hpost := (show (bigSep Finset.univ fun c : Fin ((K (F := F)).nCore 0) => (PP' m).dn 0 d c : sProp 𝕄) ⊢ callPost (fun d => Xof (argOf m d)) (fun _ => Ev) d from
    call_join (fun d => Xof (argOf m d)) (fun _ => Ev) d) $$ Hdn
  ihave Hh := (held_in m d) $$ [Hpost Hrest]
  · isplitl [Hpost]; · iexact Hpost
    iexact Hrest
  icases Hh with ⟨%fb, %hfb, Hh⟩
  ihave Hlev := ((K (F := F)).ctx_levAts κ) $$ Hctx
  iapply (wp_wand _ _ _) $$ [Hlev Hb Hh Hst HG]
  · iapply (tail_step m fb d hfb)
    isplitr [Hb Hh Hst HG]; · iexact Hlev
    isplitl [Hb]; · iexact Hb
    isplitl [Hh]; · iexact Hh
    isplitl [Hst]; · iexact Hst
    iexact HG
  iintro %_ ⟨Hst, HF, Hb⟩
  iframe

def fq (d : Dev nD) (s' : Phys nD τ sig (Elt F)) : Prop :=
  s'.mem.mem ((SparseCore.T d).loc main_arg0) = argOf m d ∧ s'.mem.mem ((SparseCore.T d).loc main_v10) = resOf (argOf m d)

theorem hfin (d : Dev nD) (s' : Phys nD τ sig (Elt F)) : iprop(FIN m d ∗ SI s') ⊢ (⌜fq m d s'⌝ : sProp 𝕄) := by
  unfold FIN
  iintro ⟨⟨Hx, Hr⟩, HSI⟩
  ihave H := (persistent_entails_right (SI_pointsTo_agree (st := s') (ℓ := (SparseCore.T d).loc main_arg0) (I := Finset.univ) (q := fullShare) (f := argOf m d))) $$ [HSI Hx]
  · isplitl [HSI] <;> iassumption
  icases H with ⟨%hx, HSI, -⟩
  ihave H := (SI_pointsTo_agree (st := s') (ℓ := (SparseCore.T d).loc main_v10) (I := Finset.univ) (q := fullShare) (f := resOf (argOf m d))) $$ [HSI Hr]
  · isplitl [HSI] <;> iassumption
  icases H with %ha
  ipureintro; exact ⟨funext fun i => hx i (Finset.mem_univ i), funext fun i => ha i (Finset.mem_univ i)⟩

/-- What the run ends with: the argument kept, the result computed, every semaphore at zero. -/
def QC : PUnit × MemSt nD τ sig (Elt F) → Prop := fun r =>
  (∀ d : Dev nD, r.2.mem ((SparseCore.T d).loc main_arg0) = argOf m d ∧ r.2.mem ((SparseCore.T d).loc main_v10) = resOf (argOf m d)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP' m) (A := ∅) facts v₀
    (fun q hq => match q with | 0 => nomatch hq)
    (fun q _ => match q with | 0 => tileObl _ _ facts)
    (fun q _ => match q with | 0 => SparseCore.Cfg.VecSplit.of_plain (vecSplit _ _))
    m ρ main (fun d => GG d) (FIN m) (u₀ (F := F)) (sep_elim_left.trans (hu₀ m)) (hmain m ρ) (fq m) (hfin m) (QC m) (fun _ h hz => ⟨h, hz⟩)

end Run

end Cert.Proof.SC
-- ==== Proof.Frames.lean ====
/-
The frames of the kernel as printed, of its idealization and of the reference.
-/
module

public import proofs.«01_k».proof.Proof.Launch
public import proofs.«01_k».proof.Proof.Gen.ReferenceIdeal.Run
public import proofs.«01_k».proof.Defs
public import proofs.«01_k».proof.Proof.Gen.Kernel

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxRecDepth 100000

set_option maxHeartbeats 4000000 in
/-- The bodies of the kernel and of its idealization are the same text. -/
theorem bodies_eq : Cert.Kernel.defs₀ (F := F) = Cert.KernelIdeal.defs₀ (F := F) := by
  funext p ℓ a
  match p, ℓ, a with
  | .scVector c s, ⟨0, h⟩, _ => rfl
  | .scVector c s, ⟨1, h⟩, _ => rfl
  | .scScalar c, ⟨0, h⟩, _ => rfl
  | .scScalar c, ⟨1, h⟩, _ => rfl
  | .tc, ⟨0, h⟩, _ => rfl
  | .tc, ⟨1, h⟩, (t, s) => rfl

theorem defs_eq : Cert.Kernel.defs (F := F) = Cert.KernelIdeal.defs (F := F) :=
  congrArg (fun D => (Cert.KernelIdeal.sc (F := F)).defs (Pipeline.defs Cert.KernelIdeal.pcfgs D)) (bodies_eq (F := F))

/-- The kernel's own frame, at the float bits: the run of the idealization, read at the bits. -/
theorem frame_kernel : Cert.quiescent_Kernel := fun m ρ _ => by
  rw [defs_eq]
  exact (θ_run (Cert.KernelIdeal.defs (F := Bits)) _ _).mono (fun _ h => ⟨fun c => (h.1 c).1, h.2⟩) (run_main (F := Bits) m ρ)

/-- The idealization's frame. -/
theorem frame_ideal : Cert.quiescent_KernelIdeal := fun m ρ _ =>
  (θ_run Cert.KernelIdeal.defs _ _).mono (fun _ h => ⟨fun c => (h.1 c).1, h.2⟩) (run_main (F := Ideal) m ρ)

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.SC
-- ==== Proof.RefStages.lean ====
/-
  The reference's result in named stages, each stage the reference's own operations on the stages before it.
-/
module

public import proofs.«01_k».proof.Proof.Gen.ReferenceIdeal.Run

@[expose] public section

noncomputable section

namespace Cert.Proof.SC

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The minimum of each row. -/
def rMin (x : FVec F S256x8x128 .f32) : FVec F S256x8x1 .f32 :=
  broadcastInDim S256x8x1 ![0, 1] bcast_S256x8_S256x8x1_0_1 (Host.reduce FloatOps.minimumf x (constant S_ .f32 0x7F800000#32) reducesTo_S256x8x128_S256x8_d2 h_S_)

/-- The scaled entries. -/
def rSc (x : FVec F S256x8x128 .f32) : FVec F S256x8x128 .f32 :=
  addf (mulf (Host.divf (subf x (broadcastInDim S256x8x128 ![0, 1, 2] bcast_S256x8x1_S256x8x128_0_1_2 (rMin x))) (broadcastInDim S256x8x128 ![0, 1, 2] bcast_S256x8x1_S256x8x128_0_1_2 (addf (subf (broadcastInDim S256x8x1 ![0, 1] bcast_S256x8_S256x8x1_0_1 (Host.reduce FloatOps.maximumf x (constant S_ .f32 0xFF800000#32) reducesTo_S256x8x128_S256x8_d2 h_S_)) (rMin x)) (broadcastInDim S256x8x1 ![] bcast_S_S256x8x1 (constant S_ .f32 0x358637BD#32))))) (broadcastInDim S256x8x128 ![] bcast_S_S256x8x128 (constant S_ .f32 0x40000000#32))) (broadcastInDim S256x8x128 ![] bcast_S_S256x8x128 (constant S_ .f32 0xBF800000#32))

/-- The inner boundaries. -/
def rLin : FVec F S49 .f32 :=
  extractStridedSlice S49 ![1] (concatenate S51 0 [⟨S50, (addf (mulf (broadcastInDim S50 ![0] bcast_S1_S50_0 (shapeCast _ (id (constant S_ .f32 0xBF800000#32)) shapeCasts_S_S1)) (subf (broadcastInDim S50 ![] bcast_S_S50 (constant S_ .f32 0x3F800000#32)) (Host.divf (sitofp .f32 (iotaInDim S50 32 0)) (broadcastInDim S50 ![] bcast_S_S50 (constant S_ .f32 0x42480000#32))))) (mulf (broadcastInDim S50 ![0] bcast_S1_S50_0 (shapeCast _ (id (constant S_ .f32 0x3F800000#32)) shapeCasts_S_S1)) (Host.divf (sitofp .f32 (iotaInDim S50 32 0)) (broadcastInDim S50 ![] bcast_S_S50 (constant S_ .f32 0x42480000#32)))))⟩, ⟨S1, (broadcastInDim S1 ![] bcast_S_S1 (id (constant S_ .f32 0x3F800000#32)))⟩] concatenates_S50_S1_S51_d0) slices_S51_S49_1

/-- The bins. -/
def rBins (x : FVec F S256x8x128 .f32) : IVec S256x8x128 32 :=
  Host.reduce IntOp.addi (extui 32 (cmpf .olt (broadcastInDim S256x8x128x49 ![0, 1, 2, 3] bcast_S1x1x1x49_S256x8x128x49_0_1_2_3 (broadcastInDim S1x1x1x49 ![3] bcast_S49_S1x1x1x49_3 (rLin (F := F)))) (broadcastInDim S256x8x128x49 ![0, 1, 2, 3] bcast_S256x8x128x1_S256x8x128x49_0_1_2_3 (broadcastInDim S256x8x128x1 ![0, 1, 2] bcast_S256x8x128_S256x8x128x1_0_1_2 (rSc x)))) natLt_1_32) (constantI S_ 32 0#32) reducesTo_S256x8x128x49_S256x8x128_d3 h_S_

/-- A number for each pair of consecutive bins. -/
def rPair (x : FVec F S256x8x128 .f32) : IVec S2048x127 32 :=
  addi (muli (shapeCast _ (extractStridedSlice S256x8x127 ![0, 0, 0] (rBins x) slices_S256x8x128_S256x8x127_0_0_0) shapeCasts_S256x8x127_S2048x127) (broadcastInDim S2048x127 ![] bcast_S_S2048x127 (constantI S_ 32 50#32))) (shapeCast _ (extractStridedSlice S256x8x127 ![0, 0, 1] (rBins x) slices_S256x8x128_S256x8x127_0_0_1) shapeCasts_S256x8x127_S2048x127)

/-- The same, a negative number counted from the end. -/
def rPairN (x : FVec F S256x8x128 .f32) : IVec S2048x127 32 :=
  select (cmpi .slt (rPair x) (broadcastInDim S2048x127 ![] bcast_S_S2048x127 (constantI S_ 32 0#32))) (addi (rPair x) (broadcastInDim S2048x127 ![] bcast_S_S2048x127 (constantI S_ 32 2500#32))) (rPair x)

/-- The row numbers. -/
def rRow : IVec S2048x1 32 :=
  select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0))

/-- Where each pair is counted. -/
def rIdx (x : FVec F S256x8x128 .f32) : IVec S2048x127x2 32 :=
  concatenate S2048x127x2 2 [⟨S2048x127x1, (broadcastInDim S2048x127x1 ![0, 1] bcast_S2048x127_S2048x127x1_0_1 (broadcastInDim S2048x127 ![0, 1] bcast_S2048x1_S2048x127_0_1 rRow))⟩, ⟨S2048x127x1, (broadcastInDim S2048x127x1 ![0, 1] bcast_S2048x127_S2048x127x1_0_1 (rPairN x))⟩] concatenates_S2048x127x1_S2048x127x1_S2048x127x2_d2

/-- The counts of the pairs. -/
def rCnt (x : FVec F S256x8x128 .f32) : FVec F S2048x2500 .f32 :=
  Host.scatterAdd scatter_S2048x2500_S2048x127x2_S2048x127_n_01_01_2 (broadcastInDim S2048x2500 ![] bcast_S_S2048x2500 (constant S_ .f32 0x00000000#32)) (rIdx x) (broadcastInDim S2048x127 ![] bcast_S_S2048x127 (constant S_ .f32 0x3F800000#32))

/-- The counts, as a square for each row. -/
def rM (x : FVec F S256x8x128 .f32) : FVec F S256x8x50x50 .f32 :=
  shapeCast _ (rCnt x) shapeCasts_S2048x2500_S256x8x50x50

/-- The counts of a bin with any successor. -/
def rSum (x : FVec F S256x8x128 .f32) : FVec F S256x8x50 .f32 :=
  Host.reduceAdd (rM x) (constant S_ .f32 0x00000000#32) reducesTo_S256x8x50x50_S256x8x50_d3 h_S_

/-- The shares of a bin's successors. -/
def rQ (x : FVec F S256x8x128 .f32) : FVec F S256x8x50x50 .f32 :=
  Host.divf (rM x) (broadcastInDim S256x8x50x50 ![0, 1, 2, 3] bcast_S256x8x50x1_S256x8x50x50_0_1_2_3 (select (cmpf .oeq (broadcastInDim S256x8x50x1 ![0, 1, 2] bcast_S256x8x50_S256x8x50x1_0_1_2 (rSum x) : (⟨S256x8x50x1, .f32⟩ : BufTy).Contents (Elt F)) (broadcastInDim S256x8x50x1 ![] bcast_S_S256x8x50x1 (constant S_ .f32 0x00000000#32))) (broadcastInDim S256x8x50x1 ![] bcast_S_S256x8x50x1 (constant S_ .f32 0x3F800000#32)) (broadcastInDim S256x8x50x1 ![0, 1, 2] bcast_S256x8x50_S256x8x50x1_0_1_2 (rSum x))))

/-- Where each pair of positions is looked up. -/
def rPos (x : FVec F S256x8x128 .f32) : IVec S2048x16384 32 :=
  shapeCast _ (addi (broadcastInDim S2048x128x128 ![0, 1, 2] bcast_S2048x128x1_S2048x128x128_0_1_2 (muli (broadcastInDim S2048x128x1 ![] bcast_S_S2048x128x1 (constantI S_ 32 50#32)) (broadcastInDim S2048x128x1 ![0, 1] bcast_S2048x128_S2048x128x1_0_1 (shapeCast _ (rBins x) shapeCasts_S256x8x128_S2048x128)))) (broadcastInDim S2048x128x128 ![0, 1, 2] bcast_S2048x1x128_S2048x128x128_0_1_2 (broadcastInDim S2048x1x128 ![0, 2] bcast_S2048x128_S2048x1x128_0_2 (shapeCast _ (rBins x) shapeCasts_S256x8x128_S2048x128)))) shapeCasts_S2048x128x128_S2048x16384

/-- The same, a negative number counted from the end. -/
def rPosN (x : FVec F S256x8x128 .f32) : IVec S2048x16384x1 32 :=
  shapeCast _ (select (cmpi .slt (rPos x) (broadcastInDim S2048x16384 ![] bcast_S_S2048x16384 (constantI S_ 32 0#32))) (addi (rPos x) (broadcastInDim S2048x16384 ![] bcast_S_S2048x16384 (constantI S_ 32 2500#32))) (rPos x)) shapeCasts_S2048x16384_S2048x16384x1

/-- What is looked up. -/
def rGot (x : FVec F S256x8x128 .f32) : FVec F S2048x16384 .f32 :=
  Host.gather gather_S2048x2500_S2048x16384x1_S2048x16384_n_1_0_0_1_2_11 (shapeCast _ (rQ x) shapeCasts_S256x8x50x50_S2048x2500) (rPosN x)

/-- Whether the place is inside. -/
def rIn (x : FVec F S256x8x128 .f32) : IVec S2048x16384 1 :=
  Host.reduce IntOp.andi (andi (cmpi .sge (rPosN x) (broadcastInDim S2048x16384x1 ![] bcast_S_S2048x16384x1 (constantI S_ 32 0#32))) (cmpi .sle (rPosN x) (broadcastInDim S2048x16384x1 ![0, 1, 2] bcast_S1x1x1_S2048x16384x1_0_1_2 (broadcastInDim S1x1x1 ![2] bcast_S1_S1x1x1_2 (constantI S1 32 2499#32))))) (constantI S_ 1 1#1) reducesTo_S2048x16384x1_S2048x16384_d2 h_S_

/-- The reference's result. -/
def rOut (x : FVec F S256x8x128 .f32) : FVec F S256x8x128x128 .f32 :=
  shapeCast _ (select (rIn x) (rGot x) (broadcastInDim S2048x16384 ![] bcast_S_S2048x16384 (constant S_ .f32 0x7FC00000#32))) shapeCasts_S2048x16384_S256x8x128x128

set_option maxHeartbeats 4000000 in
set_option maxRecDepth 100000 in
theorem ref_out (m : (ℓ : Loc nD τ sig) → Buf (Elt F) ℓ) (c : Dev nD) : res_main_v72 m c = rOut (m ((c.tc : Thread nD τ).loc main_arg0)) := by
  unfold res_main_v72
  rfl

end Cert.Proof.SC
-- ==== Proof.Spec.lean ====
/-
  The plain mathematics of a row over the extended reals: the scaled entries, the bin of an entry, how often a pair of
  bins follows one another, and that a tile's arithmetic computes them.
-/
module

public import proofs.«01_k».proof.Proof.Vals
public import Idealize.ShloMosaic.Lib.IdealHost

@[expose] public section

noncomputable section

namespace Cert.Proof.SC

open Idealize.ShloMosaic

/-! ## The mathematics of a row -/

/-- The least of a row. -/
def lo (row : ℕ → EReal) : EReal := (Finset.univ : Finset (Fin 128)).inf fun k => row k
/-- The greatest of a row. -/
def hi (row : ℕ → EReal) : EReal := (Finset.univ : Finset (Fin 128)).sup fun k => row k

/-- An entry of a row as a share of the row's spread. -/
def shr (row : ℕ → EReal) (t : ℕ) : EReal := Ideal.div (row t - lo row) (hi row - lo row + Ideal.ofBits .f32 0x358637BD#32)

/-- An entry of a row scaled to lie between minus one and one. -/
def xsc (row : ℕ → EReal) (t : ℕ) : EReal := shr row t * 2 + (-1 : ℝ)

/-- Boundary `i + 1` of the fifty bins. -/
def bnd (i : ℕ) : EReal := ((-1 + ((i : ℝ) + 1) / 25 : ℝ) : EReal)

/-- The bin of an entry: how many of the 49 inner boundaries lie below it. -/
def nbin (row : ℕ → EReal) (t : ℕ) : ℕ := ((Finset.range 49).filter fun i => bnd i < xsc row t).card

theorem nbin_le (row : ℕ → EReal) (t : ℕ) : nbin row t ≤ 49 := (Finset.card_filter_le _ _).trans (by simp)

/-- How often bin `j` follows bin `i` in a row. -/
def cnt (row : ℕ → EReal) (i j : ℕ) : ℕ := ((Finset.range 127).filter fun t => nbin row t = i ∧ nbin row (t + 1) = j).card

theorem cnt_zero (row : ℕ → EReal) (i j : ℕ) (h : 50 ≤ j) : cnt row i j = 0 := by
  unfold cnt
  rw [Finset.card_eq_zero, Finset.filter_eq_empty_iff]
  rintro t - ⟨-, e⟩
  have := nbin_le row (t + 1)
  omega

/-- How often bin `i` is followed by anything. -/
def tot (row : ℕ → EReal) (i : ℕ) : EReal := ∑ j : Fin 50, ((cnt row i j : ℝ) : EReal)

/-- What the field of a row holds at two positions. -/
def fieldOf (row : ℕ → EReal) (t u : ℕ) : EReal :=
  Ideal.div ((cnt row (nbin row t) (nbin row u) : ℝ) : EReal) (if tot row (nbin row t) = 0 then 1 else tot row (nbin row t))

/-! ## Constants -/

theorem ofBits_two : Ideal.ofBits .f32 0x40000000#32 = 2 := by
  rw [show (2 : EReal) = ((2 : ℝ) : EReal) by norm_cast]
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul, -EReal.coe_neg]; norm_num

theorem ofBits_25 : Ideal.ofBits .f32 0x41C80000#32 = ((25 : ℝ) : EReal) := by
  simp [Ideal.ofBits, Ideal.ieee, -EReal.coe_mul]; norm_num

theorem ofBits_50 : Ideal.ofBits .f32 0x42480000#32 = ((50 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem ofBits_low : Ideal.ofBits .f32 0xF149F2CA#32 < ((-1 : ℝ) : EReal) := by
  simp [Ideal.ofBits, Ideal.ieee, -EReal.coe_mul, -EReal.coe_neg, EReal.coe_lt_coe_iff]; norm_num

theorem ofBits_high : ((1 : ℝ) : EReal) ≤ Ideal.ofBits .f32 0x7149F2CA#32 := by
  simp [Ideal.ofBits, Ideal.ieee, -EReal.coe_mul, -EReal.coe_one, EReal.coe_le_coe_iff]; norm_num

/-! ## The share lies between zero and one -/

theorem lo_le (row : ℕ → EReal) (t : ℕ) (h : t < 128) : lo row ≤ row t := Finset.inf_le (f := fun k : Fin 128 => row k) (Finset.mem_univ (⟨t, h⟩ : Fin 128))
theorem le_hi (row : ℕ → EReal) (t : ℕ) (h : t < 128) : row t ≤ hi row := Finset.le_sup (f := fun k : Fin 128 => row k) (Finset.mem_univ (⟨t, h⟩ : Fin 128))

theorem shr_real (row : ℕ → EReal) (t : ℕ) (h : t < 128) : ∃ q : ℝ, 0 ≤ q ∧ q < 1 ∧ shr row t = (q : EReal) := by
  obtain ⟨e, he, hE⟩ := ofBits_eps
  have h1 := lo_le row t h
  have h2 := le_hi row t h
  unfold shr
  rw [hE]
  generalize lo row = a at *
  generalize hi row = b at *
  generalize row t = x at *
  have zero : ∀ y : EReal, y = ⊤ ∨ y = ⊥ → ∃ q : ℝ, 0 ≤ q ∧ q < 1 ∧ Ideal.div (x - a) y = (q : EReal) := by
    rintro y hy
    refine ⟨0, le_rfl, one_pos, ?_⟩
    unfold Ideal.div
    rcases hy with rfl | rfl <;> simp
  induction a with
  | bot =>
    induction b with
    | bot => exact zero _ (Or.inr (by simp))
    | coe b => exact zero _ (Or.inl (by simp))
    | top => exact zero _ (Or.inl (by simp))
  | top =>
    obtain rfl : x = ⊤ := top_le_iff.mp h1
    obtain rfl : b = ⊤ := top_le_iff.mp h2
    exact zero _ (Or.inr (by simp))
  | coe a =>
    induction b with
    | bot =>
      have : x = ⊥ := le_bot_iff.mp h2
      subst this
      exact absurd h1 (by simp)
    | top => exact zero _ (Or.inl (by simp))
    | coe b =>
      induction x with
      | bot => exact absurd h1 (by simp)
      | top => exact absurd h2 (by simp)
      | coe x =>
        rw [EReal.coe_le_coe_iff] at h1 h2
        have hd : 0 < b - a + e := by linarith
        refine ⟨(x - a) / (b - a + e), by apply div_nonneg <;> linarith, by rw [div_lt_one hd]; linarith, ?_⟩
        unfold Ideal.div
        rw [if_neg]
        · rw [div_eq_mul_inv]; push_cast; rfl
        · norm_cast; exact hd.ne'

theorem xsc_real (row : ℕ → EReal) (t : ℕ) (h : t < 128) : ∃ q : ℝ, 0 ≤ q ∧ q < 1 ∧ xsc row t = ((2 * q - 1 : ℝ) : EReal) := by
  obtain ⟨q, h0, h1, e⟩ := shr_real row t h
  refine ⟨q, h0, h1, ?_⟩
  unfold xsc
  rw [e, show (2 : EReal) = ((2 : ℝ) : EReal) by norm_cast, ← EReal.coe_mul, ← EReal.coe_add]
  congr 1
  ring

theorem bnd_lt {q : ℝ} (i : ℕ) : bnd i < ((2 * q - 1 : ℝ) : EReal) ↔ ((i : ℝ) + 1) < 50 * q := by
  unfold bnd
  rw [EReal.coe_lt_coe_iff]
  constructor <;> intro h <;> linarith

/-- The bin by truncation, corrected at a boundary. -/
theorem nbin_eq (row : ℕ → EReal) (t : ℕ) (q : ℝ) (h0 : 0 ≤ q) (h1 : q < 1) (e : xsc row t = ((2 * q - 1 : ℝ) : EReal)) :
    nbin row t = ⌊50 * q⌋₊ - (if (⌊50 * q⌋₊ : ℝ) = 50 * q then 1 else 0) := by
  unfold nbin
  simp only [e, bnd_lt]
  have hf : (⌊50 * q⌋₊ : ℝ) ≤ 50 * q := Nat.floor_le (by linarith)
  have hg : 50 * q < ⌊50 * q⌋₊ + 1 := Nat.lt_floor_add_one _
  have hle : ⌊50 * q⌋₊ < 50 := by
    rw [Nat.floor_lt (by linarith)]; push_cast; linarith
  generalize ⌊50 * q⌋₊ = n at *
  rw [show (Finset.range 49).filter (fun i : ℕ => (i : ℝ) + 1 < 50 * q) = Finset.range (n - (if (n : ℝ) = 50 * q then 1 else 0)) from ?_, Finset.card_range]
  ext i
  simp only [Finset.mem_filter, Finset.mem_range]
  split
  · rename_i hn
    rw [← hn]
    constructor
    · rintro ⟨_, h⟩
      have : i + 1 < n := by exact_mod_cast h
      omega
    · intro h
      exact ⟨by omega, by exact_mod_cast (show i + 1 < n by omega)⟩
  · rename_i hn
    constructor
    · rintro ⟨_, h⟩
      have : (i : ℝ) + 1 < n + 1 := h.trans hg
      have : i + 1 < n + 1 := by exact_mod_cast this
      omega
    · intro h
      have h' : (i : ℝ) + 1 ≤ n := by exact_mod_cast (show i + 1 ≤ n by omega)
      exact ⟨by omega, lt_of_le_of_lt h' (lt_of_le_of_ne hf hn)⟩

/-! ## A tile's minimum and maximum -/

variable {row : ℕ → Ideal .f32}

theorem le_bmin (k l : ℕ) (m : ℕ → EReal) (a : EReal) : a ≤ bmin (F := Ideal) k m l ↔ a ≤ m l ∧ a ≤ m (l ^^^ k) := le_min_iff
theorem bmax_le (k l : ℕ) (m : ℕ → EReal) (a : EReal) : bmax (F := Ideal) k m l ≤ a ↔ m l ≤ a ∧ m (l ^^^ k) ≤ a := max_le_iff

theorem le_mnL (l : ℕ) (a : EReal) : a ≤ mnL (F := Ideal) row l ↔ ∀ c < 8, a ≤ row (16 * c + l) := by
  unfold mnL
  simp only [Ideal.minimumf_def, le_min_iff]
  constructor
  · rintro h c hc
    interval_cases c <;> tauto
  · intro h
    exact ⟨⟨⟨⟨⟨⟨⟨h 0 (by decide), h 1 (by decide)⟩, h 2 (by decide)⟩, h 3 (by decide)⟩, h 4 (by decide)⟩, h 5 (by decide)⟩, h 6 (by decide)⟩, h 7 (by decide)⟩

theorem mxL_le (l : ℕ) (a : EReal) : mxL (F := Ideal) row l ≤ a ↔ ∀ c < 8, row (16 * c + l) ≤ a := by
  unfold mxL
  simp only [Ideal.maximumf_def, max_le_iff]
  constructor
  · rintro h c hc
    interval_cases c <;> tauto
  · intro h
    exact ⟨⟨⟨⟨⟨⟨⟨h 0 (by decide), h 1 (by decide)⟩, h 2 (by decide)⟩, h 3 (by decide)⟩, h 4 (by decide)⟩, h 5 (by decide)⟩, h 6 (by decide)⟩, h 7 (by decide)⟩

set_option maxHeartbeats 2000000 in
/-- Every lane is reached from lane `l` by the four exchanges. -/
theorem lanes (P : ℕ → Prop) (l : ℕ) (hl : l < 16) :
    (((((P l ∧ P (l ^^^ 8)) ∧ P (l ^^^ 4) ∧ P (l ^^^ 4 ^^^ 8)) ∧ (P (l ^^^ 2) ∧ P (l ^^^ 2 ^^^ 8)) ∧ P (l ^^^ 2 ^^^ 4) ∧ P (l ^^^ 2 ^^^ 4 ^^^ 8)) ∧
      ((P (l ^^^ 1) ∧ P (l ^^^ 1 ^^^ 8)) ∧ P (l ^^^ 1 ^^^ 4) ∧ P (l ^^^ 1 ^^^ 4 ^^^ 8)) ∧
      (P (l ^^^ 1 ^^^ 2) ∧ P (l ^^^ 1 ^^^ 2 ^^^ 8)) ∧ P (l ^^^ 1 ^^^ 2 ^^^ 4) ∧ P (l ^^^ 1 ^^^ 2 ^^^ 4 ^^^ 8))) ↔ ∀ j < 16, P j := by
  have hall : (∀ j < 16, P j) ↔ (P 0 ∧ P 1 ∧ P 2 ∧ P 3 ∧ P 4 ∧ P 5 ∧ P 6 ∧ P 7 ∧ P 8 ∧ P 9 ∧ P 10 ∧ P 11 ∧ P 12 ∧ P 13 ∧ P 14 ∧ P 15) := by
    constructor
    · intro h
      refine ⟨?_, ?_, ?_, ?_, ?_, ?_, ?_, ?_, ?_, ?_, ?_, ?_, ?_, ?_, ?_, ?_⟩ <;> exact h _ (by decide)
    · rintro ⟨h0, h1, h2, h3, h4, h5, h6, h7, h8, h9, h10, h11, h12, h13, h14, h15⟩ j hj
      interval_cases j <;> assumption
  rw [hall]
  constructor
  · rintro ⟨⟨⟨⟨_, _⟩, _, _⟩, ⟨_, _⟩, _, _⟩, ⟨⟨_, _⟩, _, _⟩, ⟨_, _⟩, _, _⟩
    interval_cases l <;> exact ⟨by assumption, by assumption, by assumption, by assumption, by assumption, by assumption, by assumption, by assumption,
      by assumption, by assumption, by assumption, by assumption, by assumption, by assumption, by assumption, by assumption⟩
  · rintro ⟨_, _, _, _, _, _, _, _, _, _, _, _, _, _, _, _⟩
    interval_cases l <;> exact ⟨⟨⟨⟨by assumption, by assumption⟩, by assumption, by assumption⟩, ⟨by assumption, by assumption⟩, by assumption, by assumption⟩,
      ⟨⟨by assumption, by assumption⟩, by assumption, by assumption⟩, ⟨by assumption, by assumption⟩, by assumption, by assumption⟩

theorem rmin_eq (l : ℕ) (hl : l < 16) : rmin (F := Ideal) row l = lo row := by
  refine eq_of_forall_le_iff fun a => ?_
  unfold rmin lo
  rw [Finset.le_inf_iff]
  simp only [le_bmin]
  refine (lanes (fun j => a ≤ mnL (F := Ideal) row j) l hl).trans ?_
  simp only [le_mnL]
  constructor
  · intro h k _
    have := h (k.val % 16) (Nat.mod_lt _ (by decide)) (k.val / 16) (by have := k.isLt; omega)
    rwa [Nat.div_add_mod] at this
  · intro h j hj c hc
    exact h ⟨16 * c + j, by omega⟩ (Finset.mem_univ _)

theorem rmax_eq (l : ℕ) (hl : l < 16) : rmax (F := Ideal) row l = hi row := by
  refine eq_of_forall_ge_iff fun a => ?_
  unfold rmax hi
  rw [Finset.sup_le_iff]
  simp only [bmax_le]
  refine (lanes (fun j => mxL (F := Ideal) row j ≤ a) l hl).trans ?_
  simp only [mxL_le]
  constructor
  · intro h k _
    have := h (k.val % 16) (Nat.mod_lt _ (by decide)) (k.val / 16) (by have := k.isLt; omega)
    rwa [Nat.div_add_mod] at this
  · intro h j hj c hc
    exact h ⟨16 * c + j, by omega⟩ (Finset.mem_univ _)

theorem xs_eq (c l : ℕ) (hl : l < 16) : xs (F := Ideal) row c l = xsc row (c + l) := by
  unfold xs den
  rw [rmin_eq l hl, rmax_eq l hl]
  show Ideal.div _ _ * Ideal.ofBits .f32 0x40000000#32 + Ideal.ofBits .f32 0xBF800000#32 = _
  rw [ofBits_two, ofBits_neg_one]
  rfl

/-! ## A tile's bins -/

/-- What the boundaries a tile reads have to be. -/
structure Bounds (fe : ℕ → EReal) : Prop where
  low : fe 0 < ((-1 : ℝ) : EReal)
  mid : ∀ i < 49, fe (i + 1) = bnd i
  high : ((1 : ℝ) : EReal) ≤ fe 50

theorem e0_eq (c l : ℕ) (hl : l < 16) (q : ℝ) (h0 : 0 ≤ q) (h1 : q < 1) (e : xsc row (c + l) = ((2 * q - 1 : ℝ) : EReal)) :
    e0 (F := Ideal) row c l = BitVec.ofNat 32 ⌊50 * q⌋₊ := by
  unfold e0
  rw [xs_eq c l hl, e]
  show IntOp.minsi 49#32 (IntOp.maxsi 0#32 (Ideal.fptosi 32 ((((2 * q - 1 : ℝ) : EReal) - Ideal.ofBits .f32 0xBF800000#32) * Ideal.ofBits .f32 0x41C80000#32))) = _
  rw [ofBits_neg_one, ofBits_25, ← EReal.coe_sub, ← EReal.coe_mul, show (2 * q - 1 - -1) * 25 = 50 * q by ring]
  unfold Ideal.fptosi
  have hle : ⌊50 * q⌋₊ < 50 := by
    rw [Nat.floor_lt (by linarith)]; push_cast; linarith
  have hz : Ideal.toIntClamped (-(2 ^ (32 - 1) : ℕ)) ((2 ^ (32 - 1) : ℕ) - 1) ((50 * q : ℝ) : EReal) = (⌊50 * q⌋₊ : ℤ) := by
    show max _ (min _ (if 0 ≤ 50 * q then ⌊50 * q⌋ else ⌈50 * q⌉)) = _
    rw [if_pos (by linarith), show ⌊50 * q⌋ = (⌊50 * q⌋₊ : ℤ) by rw [← Int.floor_toNat, Int.toNat_of_nonneg (Int.floor_nonneg.mpr (by linarith))]]
    generalize ⌊50 * q⌋₊ = n at *
    have h : (n : ℤ) < 50 := by exact_mod_cast hle
    omega
  rw [hz]
  generalize ⌊50 * q⌋₊ = n at *
  interval_cases n <;> rfl

theorem binW_eq {fe : ℕ → EReal} (hb : Bounds fe) (t : ℕ) (ht : t < 128) : binW (F := Ideal) fe row t = BitVec.ofNat 32 (nbin row t) := by
  have hl : t % 16 < 16 := Nat.mod_lt _ (by decide)
  obtain ⟨q, h0, h1, e⟩ := xsc_real row t ht
  rw [nbin_eq row t q h0 h1 e]
  have e' : xsc row (16 * (t / 16) + t % 16) = ((2 * q - 1 : ℝ) : EReal) := by rw [Nat.div_add_mod]; exact e
  unfold binW binc
  rw [e0_eq _ _ hl q h0 h1 e', xs_eq _ _ hl, e']
  have hf : (⌊50 * q⌋₊ : ℝ) ≤ 50 * q := Nat.floor_le (by linarith)
  have hg : 50 * q < ⌊50 * q⌋₊ + 1 := Nat.lt_floor_add_one _
  have hle : ⌊50 * q⌋₊ < 50 := by
    rw [Nat.floor_lt (by linarith)]; push_cast; linarith
  generalize ⌊50 * q⌋₊ = n at *
  have hn : (BitVec.ofNat 32 n).toNat = n := by rw [BitVec.toNat_ofNat]; omega
  have hn1 : (IntOp.addi (BitVec.ofNat 32 n) 1#32).toNat = n + 1 := by
    unfold IntOp.addi
    rw [BitVec.toNat_add, hn]
    show (n + 1) % 2 ^ 32 = _
    omega
  rw [hn, hn1]
  have c1 : FloatOps.cmpf (F := Ideal) (φ := .f32) .olt (fe (n + 1)) ((2 * q - 1 : ℝ) : EReal) = 0#1 := by
    show BitVec.ofBool (decide (fe (n + 1) < ((2 * q - 1 : ℝ) : EReal))) = 0#1
    rw [decide_eq_false]; · rfl
    rw [not_lt]
    by_cases h : n < 49
    · rw [hb.mid n h, ← not_lt, bnd_lt]; linarith
    · obtain rfl : n = 49 := by omega
      refine le_trans ?_ hb.high
      rw [EReal.coe_le_coe_iff]; linarith
  have c2 : FloatOps.cmpf (F := Ideal) (φ := .f32) .oge (fe n) ((2 * q - 1 : ℝ) : EReal) = if n ≠ 0 ∧ (n : ℝ) = 50 * q then 1#1 else 0#1 := by
    show BitVec.ofBool (decide (((2 * q - 1 : ℝ) : EReal) ≤ fe n)) = _
    rcases n with _ | n
    · rw [decide_eq_false, if_neg (by simp)]; · rfl
      rw [not_le]
      refine lt_of_lt_of_le hb.low ?_
      rw [EReal.coe_le_coe_iff]; linarith
    · rw [hb.mid n (by omega)]
      have hh : (((2 * q - 1 : ℝ) : EReal) ≤ bnd n) ↔ ((n + 1 : ℕ) : ℝ) = 50 * q := by
        rw [← not_lt, bnd_lt, not_lt]
        push_cast at hf ⊢
        exact ⟨fun h => le_antisymm hf h, fun h => h.ge⟩
      by_cases h : ((n + 1 : ℕ) : ℝ) = 50 * q
      · rw [decide_eq_true (hh.mpr h), if_pos ⟨by omega, h⟩]; rfl
      · rw [decide_eq_false (mt hh.mp h), if_neg (fun k => h k.2)]; rfl
  rw [c1, c2]
  by_cases h : (n : ℝ) = 50 * q
  · rw [if_pos h]
    by_cases hz : n = 0
    · rw [if_neg (fun k => k.1 hz)]; subst hz; rfl
    · rw [if_pos ⟨hz, h⟩]
      clear h c1 c2 hf hg
      interval_cases n <;> first | rfl | exact absurd rfl hz
  · rw [if_neg h, if_neg (fun k => h k.2)]
    clear h c1 c2 hf hg
    interval_cases n <;> rfl

/-! ## A tile's counts -/

theorem pidx_eq {b : ℕ → BitVec 32} {n m t : ℕ} (hn : n ≤ 49) (hm : m ≤ 49) (h : b t = BitVec.ofNat 32 n) (h' : b (t + 1) = BitVec.ofNat 32 m) :
    (pidx b t).toNat = 64 * n + m := by
  unfold pidx
  rw [h, h']
  have e : IntOp.addi (IntOp.muli (BitVec.ofNat 32 n) 64#32) (BitVec.ofNat 32 m) = BitVec.ofNat 32 (64 * n + m) := by
    unfold IntOp.addi IntOp.muli
    apply BitVec.eq_of_toNat_eq
    simp only [BitVec.toNat_add, BitVec.toNat_mul, BitVec.toNat_ofNat]
    omega
  rw [e]
  generalize hk : 64 * n + m = k
  have hk' : k < 4096 := by omega
  have hi : (BitVec.ofNat 32 k).toInt = k := by
    rw [BitVec.toInt_eq_toNat_of_lt] <;> rw [BitVec.toNat_ofNat] <;> omega
  unfold IntOp.minsi IntOp.maxsi
  have h1 : ¬ (BitVec.ofNat 32 k).slt 0#32 := by
    simp only [BitVec.slt, hi, decide_eq_true_eq]
    show ¬ ((k : ℤ) < 0); omega
  have h3 : (BitVec.ofNat 32 k).toNat = k := by rw [BitVec.toNat_ofNat]; omega
  have ht : (4095#32 : BitVec 32).toInt = 4095 := by decide
  by_cases h2 : (4095#32 : BitVec 32).slt (BitVec.ofNat 32 k)
  · simp only [BitVec.slt, hi, ht, decide_eq_true_eq] at h2
    omega
  · rw [if_neg h1]
    simp only [h2]
    exact h3

theorem addC_eq (c : ℕ) (hc : c ≤ 16) (x : EReal) : addC (F := Ideal) c x = x + ((c : ℝ) : EReal) := by
  unfold addC
  by_cases h : c = 0
  · subst h; simp
  · rw [if_neg h]
    show x + (((BitVec.ofNat 32 c).toInt : ℝ) : EReal) = _
    have : (BitVec.ofNat 32 c).toInt = c := by
      rw [BitVec.toInt_eq_toNat_of_lt] <;> rw [BitVec.toNat_ofNat] <;> omega
    rw [this]; norm_cast

theorem cntL_le (n : ℕ → BitVec 32) (lim b : ℕ) : cntL n lim b ≤ lim := (Finset.card_filter_le _ _).trans (by simp)

theorem cntL_add (n : ℕ → BitVec 32) (a b col : ℕ) : cntL n a col + cntL (fun l => n (a + l)) b col = cntL n (a + b) col := by
  unfold cntL
  simp only [Finset.card_filter]
  rw [Finset.sum_range_add]

theorem pRow_eq (b : ℕ → BitVec 32) (g : ℕ → EReal) (col : ℕ) :
    pRow (F := Ideal) b g col = g col + ((cntL (pidx b) 127 col : ℝ) : EReal) := by
  unfold pRow addChunk
  rw [addC_eq _ ((cntL_le _ _ _).trans (by decide)), addC_eq _ (cntL_le _ _ _), addC_eq _ (cntL_le _ _ _), addC_eq _ (cntL_le _ _ _),
    addC_eq _ (cntL_le _ _ _), addC_eq _ (cntL_le _ _ _), addC_eq _ (cntL_le _ _ _), addC_eq _ (cntL_le _ _ _)]
  have h7 := cntL_add (pidx b) 112 15 col
  have h6 := cntL_add (pidx b) 96 16 col
  have h5 := cntL_add (pidx b) 80 16 col
  have h4 := cntL_add (pidx b) 64 16 col
  have h3 := cntL_add (pidx b) 48 16 col
  have h2 := cntL_add (pidx b) 32 16 col
  have h1 := cntL_add (pidx b) 16 16 col
  have h0 : cntL (fun l => pidx b (0 + l)) 16 col = cntL (pidx b) 16 col := by simp only [zero_add]
  simp only [Nat.reduceAdd] at h1 h2 h3 h4 h5 h6 h7
  rw [h0, ← h7, ← h6, ← h5, ← h4, ← h3, ← h2, ← h1]
  simp only [Nat.cast_add, EReal.coe_add, add_assoc]

theorem cntL_pairs {fe : ℕ → EReal} (hb : Bounds fe) {i j : ℕ} (hi : i < 64) (hj : j < 64) :
    cntL (pidx (binW (F := Ideal) fe row)) 127 (64 * i + j) = cnt row i j := by
  unfold cntL cnt
  refine congrArg Finset.card (Finset.filter_congr fun t ht => ?_)
  rw [Finset.mem_range] at ht
  have a := nbin_le row t
  have b := nbin_le row (t + 1)
  rw [pidx_eq a b (binW_eq hb t (by omega)) (binW_eq hb (t + 1) (by omega))]
  omega

end Cert.Proof.SC
-- ==== Proof.OutVal.lean ====
/-
  The field a page of counts and a row of bins give, at an index, over the extended reals.
-/
module

public import proofs.«01_k».proof.Proof.Spec
public import proofs.«01_k».proof.Proof.Launch
public import Idealize.ShloMosaic.Lib.Pointwise

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem ind_eq (x : Fin 64) (n : ℕ) (hn : n ≤ 49) :
    (FloatOps.sitofp (F := Ideal) FTy.f32 (BitVec.setWidth 32 (IntOp.cmpi CmpIPredicate.eq (BitVec.ofNat 32 x.val) (BitVec.ofNat 32 n))) : EReal) =
      if x = ⟨n, by omega⟩ then 1 else 0 := by
  show (((BitVec.setWidth 32 (BitVec.ofBool (decide (BitVec.ofNat 32 x.val = BitVec.ofNat 32 n)))).toInt : ℝ) : EReal) = _
  have hx := x.isLt
  have h : BitVec.ofNat 32 x.val = BitVec.ofNat 32 n ↔ x = ⟨n, by omega⟩ := by
    rw [← BitVec.toNat_inj, BitVec.toNat_ofNat, BitVec.toNat_ofNat, Fin.ext_iff]
    show _ ↔ x.val = n
    omega
  by_cases e : x = ⟨n, by omega⟩
  · rw [decide_eq_true (h.mpr e), if_pos e]
    show (((1 : ℤ) : ℝ) : EReal) = 1
    norm_cast
  · rw [decide_eq_false (mt h.mp e), if_neg e]
    show (((0 : ℤ) : ℝ) : EReal) = 0
    norm_cast

theorem tot_64 (row : ℕ → EReal) (i : ℕ) : ∑ j : Fin 64, ((cnt row i j : ℝ) : EReal) = tot row i := by
  unfold tot
  rw [Fin.sum_univ_eq_sum_range (fun j => ((cnt row i j : ℝ) : EReal)) 64, Fin.sum_univ_eq_sum_range (fun j => ((cnt row i j : ℝ) : EReal)) 50]
  symm
  refine Finset.sum_subset (fun j hj => by rw [Finset.mem_range] at *; omega) fun j _ hj => ?_
  rw [Finset.mem_range, not_lt] at hj
  rw [cnt_zero row i j hj]
  norm_cast

/-- The field of a row from its bins and its page of counts. -/
theorem pay2_val (row : ℕ → EReal) (v1 : Vec Ideal S1x128 .i32) (v8 : Vec Ideal S1x64x64 .f32)
    (h1 : ∀ t : Fin 128, v1 (ix2 0 t) = BitVec.ofNat 32 (nbin row t))
    (h8 : ∀ i j : Fin 64, v8 (ix3 0 i j) = ((cnt row i j : ℝ) : EReal)) (t u : Fin 128) :
    k1_pay2 v1 v8 (ix3 0 t u) = fieldOf row t u := by
  pointwise [k1_pay2]
  simp only [h1, h8, ind_eq _ _ (nbin_le _ _), ite_mul, mul_ite, one_mul, zero_mul, mul_one, mul_zero, Finset.sum_ite_eq', Finset.sum_ite_eq, Finset.mem_univ, if_true, tot_64]
  unfold fieldOf
  rw [Ideal.mul_one_div]
  split
  · exact one_ne_zero
  · assumption

/-! ## Arrays as functions of coordinates -/

theorem un1_ix {α : Type} {a : ℕ} [NeZero a] (g : (⟨1, ![a]⟩ : Shape).Idx → α) (i : ℕ) : un1 g i = g (ix1 (Fin.ofNat a i)) :=
  congrArg g (funext fun z => match z with | 0 => rfl)
theorem un2_ix {α : Type} {a b : ℕ} [NeZero a] [NeZero b] (g : (⟨2, ![a, b]⟩ : Shape).Idx → α) (i j : ℕ) :
    un2 g i j = g (ix2 (Fin.ofNat a i) (Fin.ofNat b j)) := congrArg g (funext fun z => match z with | 0 => rfl | 1 => rfl)
theorem un3_ix {α : Type} {a b c : ℕ} [NeZero a] [NeZero b] [NeZero c] (g : (⟨3, ![a, b, c]⟩ : Shape).Idx → α) (i j k : ℕ) :
    un3 g i j k = g (ix3 (Fin.ofNat a i) (Fin.ofNat b j) (Fin.ofNat c k)) := congrArg g (funext fun z => match z with | 0 => rfl | 1 => rfl | 2 => rfl)

theorem outP_ix {fb : ℕ → ℕ → BitVec 32} {fp : ℕ → ℕ → ℕ → F .f32} {n a b : ℕ} :
    outP fb fp n a b = k1_pay2 (rowI (F := F) fb n) (pageP fp n) (ix3 0 (Fin.ofNat 128 a) (Fin.ofNat 128 b)) :=
  congrArg (k1_pay2 (rowI (F := F) fb n) (pageP fp n)) (funext fun z => match z with | 0 => rfl | 1 => rfl | 2 => rfl)

/-! ## The boundaries -/

theorem lin_val (k : ℕ) (hk : k < 50) : (Ideal.ofBits .f32 0xBF800000#32 *
      (1 - Ideal.div (FloatOps.sitofp (F := Ideal) FTy.f32 (BitVec.ofNat 32 (1 + k))) (Ideal.ofBits .f32 0x42480000#32)) +
    Ideal.div (FloatOps.sitofp (F := Ideal) FTy.f32 (BitVec.ofNat 32 (1 + k))) (Ideal.ofBits .f32 0x42480000#32) : EReal) = bnd k := by
  have h : (FloatOps.sitofp (F := Ideal) FTy.f32 (BitVec.ofNat 32 (1 + k)) : EReal) = ((1 + k : ℝ) : EReal) := by
    show (((BitVec.ofNat 32 (1 + k)).toInt : ℝ) : EReal) = _
    have : (BitVec.ofNat 32 (1 + k)).toInt = 1 + k := by
      rw [BitVec.toInt_eq_toNat_of_lt] <;> rw [BitVec.toNat_ofNat] <;> omega
    rw [this]; push_cast; rfl
  rw [h, ofBits_neg_one, ofBits_50]
  unfold Ideal.div bnd
  rw [if_neg (by norm_cast), ← EReal.coe_inv, ← EReal.coe_mul, ← EReal.coe_one, ← EReal.coe_sub, ← EReal.coe_mul, ← EReal.coe_add]
  congr 1
  ring

theorem bounds_Ev : Bounds (Ev (F := Ideal)) where
  low := by
    rw [show Ev (F := Ideal) 0 = extV (ix1 0) from un1_ix _ _]
    refine lt_of_eq_of_lt ?_ ofBits_low
    pointwise [extV]
  mid := by
    intro i hi
    rw [show Ev (F := Ideal) (i + 1) = extV (ix1 (⟨i + 1, by omega⟩ : Fin 64)) from
      (un1_ix _ _).trans (congrArg (fun k => extV (F := Ideal) (ix1 k)) (Fin.ext (Nat.mod_eq_of_lt (by omega))))]
    pointwise [extV, linV, linQ]
    rw [dif_neg (by omega), dif_pos (by omega), dif_pos (by omega), Nat.add_sub_cancel]
    exact lin_val i (by omega)
  high := by
    rw [show Ev (F := Ideal) 50 = extV (ix1 50) from un1_ix _ _]
    refine le_of_le_of_eq ofBits_high ?_
    pointwise [extV]

/-! ## The result -/

theorem Xof_val (x : FVec Ideal S256x8x128 .f32) (a : Fin 256) (b : Fin 8) (k : ℕ) :
    Xof x (8 * a.val + b.val) k = x (ix3 a b (Fin.ofNat 128 k)) := by
  unfold Xof
  rw [un2_ix]
  pointwise
  refine congrArg x (congrArg₂ (fun p q => ix3 p q (Fin.ofNat 128 k)) (Fin.ext ?_) (Fin.ext ?_))
  · show (8 * a.val + b.val) % 2048 / 8 = a.val
    omega
  · show (8 * a.val + b.val) % 2048 % 8 = b.val
    omega

theorem fldV_val (x : FVec Ideal S256x8x128 .f32) (R : Fin 2048) (t u : Fin 128) : fldV x (ix3 R t u) = fieldOf (Xof x R.val) t u := by
  show outP _ _ R.val t.val u.val = _
  have hR : Fin.ofNat 2048 R.val = R := Fin.ext (Nat.mod_eq_of_lt R.isLt)
  have ht : ∀ t : Fin 128, Fin.ofNat 128 t.val = t := fun t => Fin.ext (Nat.mod_eq_of_lt t.isLt)
  have h64 : ∀ t : Fin 64, Fin.ofNat 64 t.val = t := fun t => Fin.ext (Nat.mod_eq_of_lt t.isLt)
  rw [outP_ix, ht, ht]
  refine pay2_val _ _ _ (fun t => ?_) (fun i j => ?_) t u
  · show un2 (α := BitVec 32) (binsV x) R.val t.val = _
    rw [un2_ix, hR, ht]
    exact binW_eq bounds_Ev _ t.isLt
  · show un3 (α := Ideal .f32) (cnt3V x) R.val i.val j.val = _
    rw [un3_ix, hR, h64, h64]
    unfold cnt3V
    pointwise
    show cRow Ev (Xof x R.val) (i.val * 64 + j.val) = _
    rw [Nat.mul_comm]
    unfold cRow
    rw [pRow_eq, cntL_pairs bounds_Ev i.isLt j.isLt]
    show Ideal.ofBits .f32 0x00000000#32 + _ = _
    rw [Ideal.ofBits_zero_f32, zero_add]

theorem resOf_val (x : FVec Ideal S256x8x128 .f32) (a : Fin 256) (b : Fin 8) (t u : Fin 128) :
    resOf x (ix4 a b t u) = fieldOf (Xof x (8 * a.val + b.val)) t u := by
  pointwise [resOf]
  rw [fldV_val]
  show fieldOf (Xof x (a.val * 8 + b.val)) _ _ = _
  rw [Nat.mul_comm]

end Cert.Proof.SC
-- ==== Proof.RefVal.lean ====
/-
  The values of the reference's stages at an index, over the extended reals.
-/
module

public import proofs.«01_k».proof.Proof.RefStages
public import proofs.«01_k».proof.Proof.OutVal
public import Idealize.ShloMosaic.Lib.IndicatorCount
public import Idealize.ShloMosaic.Lib.ReduceAll
public import Idealize.ShloMosaic.Lib.Routing.OpsPair

@[expose] public section

noncomputable section

namespace Cert.Proof.SC

open Cert.ReferenceIdeal Cert.ReferenceIdeal.Gen Idealize.ShloMosaic

variable (x : FVec Ideal S256x8x128 .f32)

/-- A row of the input. -/
def rowOf (a : Fin 256) (b : Fin 8) (k : ℕ) : EReal := x (ix3 a b (Fin.ofNat 128 k))

theorem rowOf_fin (a : Fin 256) (b : Fin 8) (k : Fin 128) : rowOf x a b k.val = x (ix3 a b k) :=
  congrArg (fun q => x (ix3 a b q)) (Fin.ext (Nat.mod_eq_of_lt k.isLt))

theorem fold_min (f : Fin 128 → EReal) : Finset.fold min (⊤ : EReal) f Finset.univ = Finset.univ.inf f := rfl
theorem fold_max (f : Fin 128 → EReal) : Finset.fold max (⊥ : EReal) f Finset.univ = Finset.univ.sup f := rfl

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-! ## The bins -/

theorem rSc_val (a : Fin 256) (b : Fin 8) (t : Fin 128) : rSc x (ix3 a b t) = xsc (rowOf x a b) t.val := by
  unfold xsc shr lo hi
  simp only [rowOf_fin]
  pointwise [rSc, rMin]
  rw [ofBits_top, ofBits_bot, fold_min, fold_max, ofBits_two, ofBits_neg_one]

theorem rLin_val (i : Fin 49) : rLin (F := Ideal) (ix1 i) = bnd i.val := by
  pointwise [rLin]
  rw [dif_pos (by omega)]
  refine Eq.trans ?_ (lin_val i.val (by omega))
  show Ideal.ofBits .f32 0xBF800000#32 * _ + Ideal.ofBits .f32 0x3F800000#32 * _ = _
  rw [Ideal.ofBits_one_f32, one_mul]

theorem rBins_val (a : Fin 256) (b : Fin 8) (t : Fin 128) : rBins x (ix3 a b t) = BitVec.ofNat 32 (nbin (rowOf x a b) t.val) := by
  pointwise [rBins]
  simp only [rLin_val, rSc_val]
  rw [IndicatorCount.fold_addi_setWidth_eq_card]
  refine congrArg (BitVec.ofNat 32) ?_
  unfold nbin
  refine Finset.card_bij (fun k _ => k.val) (fun k hk => ?_) (fun k _ l _ h => Fin.ext h) (fun k hk => ?_)
  · rw [Finset.mem_filter] at hk ⊢
    refine ⟨Finset.mem_range.mpr k.isLt, ?_⟩
    by_contra h
    rw [decide_eq_false h] at hk
    exact absurd hk.2 (by decide)
  · rw [Finset.mem_filter, Finset.mem_range] at hk
    refine ⟨⟨k, hk.1⟩, ?_, rfl⟩
    rw [Finset.mem_filter]
    refine ⟨Finset.mem_univ _, ?_⟩
    rw [decide_eq_true hk.2]
    rfl

/-- The bin at a position of a numbered row. -/
def nbR (R : Fin 2048) (t : ℕ) : ℕ := nbin (rowOf x ⟨R.val / 8, by omega⟩ ⟨R.val % 8, by omega⟩) t

theorem nbR_le (R : Fin 2048) (t : ℕ) : nbR x R t ≤ 49 := nbin_le _ _

theorem word_wrap (k : ℕ) (hk : k < 2500) :
    Scalar.select (IntOp.cmpi .slt (BitVec.ofNat 32 k) 0#32) (IntOp.addi (BitVec.ofNat 32 k) 2500#32) (BitVec.ofNat 32 k) = BitVec.ofNat 32 k :=
  Routing.wrap_of_lt _ _ (by rw [BitVec.toNat_ofNat]; omega)

theorem word_pair (n m : ℕ) : IntOp.addi (IntOp.muli (BitVec.ofNat 32 n) 50#32) (BitVec.ofNat 32 m) = BitVec.ofNat 32 (50 * n + m) := by
  unfold IntOp.addi IntOp.muli
  apply BitVec.eq_of_toNat_eq
  simp only [BitVec.toNat_add, BitVec.toNat_mul, BitVec.toNat_ofNat]
  omega

theorem word_pair' (n m : ℕ) : IntOp.addi (IntOp.muli 50#32 (BitVec.ofNat 32 n)) (BitVec.ofNat 32 m) = BitVec.ofNat 32 (50 * n + m) := by
  unfold IntOp.addi IntOp.muli
  apply BitVec.eq_of_toNat_eq
  simp only [BitVec.toNat_add, BitVec.toNat_mul, BitVec.toNat_ofNat]
  omega

/-! ## The counts -/

theorem rPairN_val (R : Fin 2048) (t : Fin 127) : rPairN x (ix2 R t) = BitVec.ofNat 32 (50 * nbR x R t.val + nbR x R (t.val + 1)) := by
  pointwise [rPairN, rPair]
  simp only [rBins_val, word_pair]
  have h1 := nbR_le x R t.val
  have h2 := nbR_le x R (1 + t.val)
  refine (word_wrap _ (show 50 * nbR x R t.val + nbR x R (1 + t.val) < 2500 by omega)).trans ?_
  rw [Nat.add_comm 1]

theorem rIdx_row (R : Fin 2048) (t : Fin 127) : rIdx x (ix3 R t 0) = BitVec.ofNat 32 R.val := by
  pointwise [rIdx, rRow]
  exact Routing.wrap_of_lt _ _ (by rw [BitVec.toNat_ofNat]; omega)

theorem rIdx_col (R : Fin 2048) (t : Fin 127) : rIdx x (ix3 R t 1) = rPairN x (ix2 R t) := by
  pointwise [rIdx]

theorem toInt_small (k : ℕ) (hk : k < 2500) : (BitVec.ofNat 32 k).toInt = k := by
  rw [BitVec.toInt_eq_toNat_of_lt] <;> rw [BitVec.toNat_ofNat] <;> omega

theorem lands (R r : Fin 2048) (t : Fin 127) (k : Fin 2500) :
    scatter_S2048x2500_S2048x127x2_S2048x127_n_01_01_2.resultIdx? (ix2 R t) (rIdx x) = some (ix2 r k) ↔
      R = r ∧ 50 * nbR x R t.val + nbR x R (t.val + 1) = k.val := by
  have h1 := nbR_le x R t.val
  have h2 := nbR_le x R (t.val + 1)
  refine (Routing.scatter_lands2 (R := 2048) (C := 2500) (A := 2048) (B := 127) _ rfl rfl rfl (rIdx x) R t r k).trans ?_
  show (rIdx x (ix3 R t 0)).toInt = _ ∧ (rIdx x (ix3 R t 1)).toInt = _ ↔ _
  rw [rIdx_row, rIdx_col, rPairN_val, toInt_small _ (by omega), toInt_small _ (by omega), Fin.ext_iff]
  norm_cast

/-- Ones scattered with addition onto zero count the updates that land. -/
theorem scatter_ones {s si u : Shape} {w : ℕ} (d : ScatterDims s si u) (z : FVec Ideal s .f32) (idx : IVec si w) (upd : FVec Ideal u .f32) (i : s.Idx)
    (hz : z i = (0 : EReal)) (hu : ∀ k, upd k = (1 : EReal)) :
    Host.scatterAdd d z idx upd i = (((Finset.univ.filter fun k => d.resultIdx? k idx = some i).card : ℝ) : EReal) := by
  show z i + ∑ k ∈ Finset.univ.filter (fun k => d.resultIdx? k idx = some i), upd k = _
  rw [hz, Finset.sum_congr rfl fun k _ => hu k, Finset.sum_const, nsmul_one, zero_add]
  rfl

theorem landed_card (R : Fin 2048) (i j : Fin 50) (h : i.val * 50 + j.val < 2500) :
    (Finset.univ.filter fun k => scatter_S2048x2500_S2048x127x2_S2048x127_n_01_01_2.resultIdx? k (rIdx x) = some (ix2 R ⟨i.val * 50 + j.val, h⟩)).card =
      cnt (rowOf x ⟨R.val / 8, by omega⟩ ⟨R.val % 8, by omega⟩) i.val j.val := by
  unfold cnt
  refine Finset.card_bij (fun k _ => (k 1).val) (fun k hk => ?_) (fun k hk l hl h => ?_) (fun t ht => ?_)
  · rw [Finset.mem_filter, eq_ix2 k] at hk
    obtain ⟨e, h⟩ := (lands x _ _ _ _).mp hk.2
    rw [Finset.mem_filter, Finset.mem_range]
    have h1 := nbR_le x (k 0) (k 1).val
    have h2 := nbR_le x (k 0) ((k 1).val + 1)
    rw [e] at h h1 h2
    refine ⟨(k 1).isLt, ?_⟩
    show nbR x R _ = _ ∧ nbR x R _ = _
    have h' : 50 * nbR x R (k 1).val + nbR x R ((k 1).val + 1) = i.val * 50 + j.val := h
    omega
  · rw [Finset.mem_filter, eq_ix2 k] at hk
    rw [Finset.mem_filter, eq_ix2 l] at hl
    have e1 := ((lands x _ _ _ _).mp hk.2).1
    have e2 := ((lands x _ _ _ _).mp hl.2).1
    rw [eq_ix2 k, eq_ix2 l, e1, e2]
    exact congrArg (ix2 R) (Fin.ext h)
  · rw [Finset.mem_filter, Finset.mem_range] at ht
    refine ⟨ix2 R ⟨t, ht.1⟩, ?_, rfl⟩
    rw [Finset.mem_filter]
    refine ⟨Finset.mem_univ _, (lands x _ _ _ _).mpr ⟨rfl, ?_⟩⟩
    have e : nbR x R t = i.val ∧ nbR x R (t + 1) = j.val := ht.2
    show 50 * nbR x R t + nbR x R (t + 1) = i.val * 50 + j.val
    omega

theorem zeros_val (k : S2048x2500.Idx) : broadcastInDim S2048x2500 ![] bcast_S_S2048x2500 (constant (F := Ideal) S_ .f32 0x00000000#32) k = (0 : EReal) := by
  rw [eq_ix2 k]; pointwise
theorem ones_val (k : S2048x127.Idx) : broadcastInDim S2048x127 ![] bcast_S_S2048x127 (constant (F := Ideal) S_ .f32 0x3F800000#32) k = (1 : EReal) := by
  rw [eq_ix2 k]; pointwise

theorem rCnt_val (R : Fin 2048) (i j : Fin 50) (h : i.val * 50 + j.val < 2500) :
    rCnt x (ix2 R ⟨i.val * 50 + j.val, h⟩) =
      ((cnt (rowOf x ⟨R.val / 8, by omega⟩ ⟨R.val % 8, by omega⟩) i.val j.val : ℝ) : EReal) := by
  unfold rCnt
  rw [scatter_ones _ _ _ _ _ (zeros_val _) ones_val, landed_card x R i j h]

theorem rowOf_eq (a : Fin 256) (b : Fin 8) (h1 : (a.val * 8 + b.val) / 8 < 256) (h2 : (a.val * 8 + b.val) % 8 < 8) :
    rowOf x ⟨(a.val * 8 + b.val) / 8, h1⟩ ⟨(a.val * 8 + b.val) % 8, h2⟩ = rowOf x a b :=
  congrArg₂ (rowOf x) (Fin.ext (show (a.val * 8 + b.val) / 8 = a.val by omega)) (Fin.ext (show (a.val * 8 + b.val) % 8 = b.val by omega))

theorem rSum_val (a : Fin 256) (b : Fin 8) (i : Fin 50) : rSum x (ix3 a b i) = tot (rowOf x a b) i.val := by
  pointwise [rSum, rM]
  unfold tot
  refine Finset.sum_congr rfl fun j _ => (rCnt_val x _ i j _).trans ?_
  rw [rowOf_eq]

theorem rQ_val (a : Fin 256) (b : Fin 8) (i j : Fin 50) : rQ x (ix4 a b i j) =
    Ideal.div ((cnt (rowOf x a b) i.val j.val : ℝ) : EReal) (if tot (rowOf x a b) i.val = 0 then 1 else tot (rowOf x a b) i.val) := by
  pointwise [rQ, rM]
  rw [rSum_val, rCnt_val, rowOf_eq]

/-! ## The places looked up -/

theorem rPosN_val (R : Fin 2048) (p : Fin 16384) : rPosN x (ix3 R p 0) = BitVec.ofNat 32 (50 * nbR x R (p.val / 128) + nbR x R (p.val % 128)) := by
  pointwise [rPosN, rPos]
  simp only [rBins_val, word_pair']
  have h1 := nbR_le x R (p.val / 128)
  have h2 := nbR_le x R (p.val % 128)
  exact word_wrap _ (show 50 * nbR x R (p.val / 128) + nbR x R (p.val % 128) < 2500 by omega)

theorem gather_val (y : FVec Ideal S2048x2500 .f32) (idx : IVec S2048x16384x1 32) (R : Fin 2048) (p : Fin 16384) (k : ℕ) (hk : k < 2500)
    (h : idx (ix3 R p 0) = BitVec.ofNat 32 k) :
    Host.gather gather_S2048x2500_S2048x16384x1_S2048x16384_n_1_0_0_1_2_11 y idx (ix2 R p) = y (ix2 R ⟨k, hk⟩) := by
  unfold Host.gather
  refine congrArg y (funext fun a => Fin.ext ?_)
  show GatherDims.start _ _ idx a + GatherDims.batchCoord _ _ a + GatherDims.offCoord _ _ a = _
  have hoff : ∀ a : Fin 2, a ∉ (gather_S2048x2500_S2048x16384x1_S2048x16384_n_1_0_0_1_2_11).sKept := fun a h => by
    have := (GatherDims.mem_sKept (gather_S2048x2500_S2048x16384x1_S2048x16384_n_1_0_0_1_2_11) a).mp h
    match a with
    | ⟨0, _⟩ => exact this.2 (List.mem_singleton.mpr rfl)
    | ⟨1, _⟩ => exact this.1 (List.mem_singleton.mpr rfl)
  rw [GatherDims.offCoord_eq_zero _ _ _ (hoff a), Nat.add_zero]
  obtain rfl | rfl : a = (0 : Fin 2) ∨ a = (1 : Fin 2) := by
    match a with
    | ⟨0, _⟩ => exact Or.inl rfl
    | ⟨1, _⟩ => exact Or.inr rfl
  · rw [GatherDims.start_batching _ _ _ _ (List.mem_singleton.mpr rfl), Nat.zero_add]
    unfold GatherDims.batchCoord
    rw [dif_pos (show (0 : Fin 2) ∈ (gather_S2048x2500_S2048x16384x1_S2048x16384_n_1_0_0_1_2_11).operandBatchingDims from List.mem_singleton.mpr rfl)]
    rfl
  · rw [GatherDims.batchCoord_eq_zero _ _ _ (fun h => absurd (List.mem_singleton.mp h) (show ¬ (1 : Fin 2) = 0 by decide)), Nat.add_zero]
    unfold GatherDims.start
    rw [dif_pos (show (1 : Fin 2) ∈ (gather_S2048x2500_S2048x16384x1_S2048x16384_n_1_0_0_1_2_11).startIndexMap from List.mem_singleton.mpr rfl)]
    have hs : ∀ c, GatherDims.siIdx gather_S2048x2500_S2048x16384x1_S2048x16384_n_1_0_0_1_2_11 (ix2 R p) c = ix3 R p 0 := fun c => by
      funext b
      refine Fin.ext ?_
      match b with
      | ⟨0, _⟩ => rfl
      | ⟨1, _⟩ => rfl
      | ⟨2, _⟩ =>
        have := (GatherDims.siIdx gather_S2048x2500_S2048x16384x1_S2048x16384_n_1_0_0_1_2_11 (ix2 R p) c ⟨2, by decide⟩).isLt
        exact Nat.lt_one_iff.mp this
    rw [hs, h, toInt_small k hk]
    show min (k : ℤ).toNat (2500 - 1) = k
    omega

theorem inside (k : ℕ) (hk : k < 2500) : IntOp.andi (IntOp.cmpi .sge (BitVec.ofNat 32 k) 0#32) (IntOp.cmpi .sle (BitVec.ofNat 32 k) 2499#32) = 1#1 := by
  have h1 : IntOp.cmpi .sge (BitVec.ofNat 32 k) 0#32 = 1#1 := by
    show BitVec.ofBool ((0#32).sle (BitVec.ofNat 32 k)) = 1#1
    rw [BitVec.sle, decide_eq_true]; · rfl
    rw [toInt_small k hk]; show (0 : ℤ) ≤ k; omega
  have h2 : IntOp.cmpi .sle (BitVec.ofNat 32 k) 2499#32 = 1#1 := by
    show BitVec.ofBool ((BitVec.ofNat 32 k).sle 2499#32) = 1#1
    rw [BitVec.sle, decide_eq_true]; · rfl
    rw [toInt_small k hk]; show (k : ℤ) ≤ 2499; omega
  rw [h1, h2]; rfl

/-! ## The result -/

theorem rIn_val (R : Fin 2048) (p : Fin 16384) : rIn x (ix2 R p) = 1#1 := by
  unfold rIn
  refine Host.reduce_andi_one _ _ _ _ _ rfl fun q => ?_
  obtain ⟨r, s, z, rfl⟩ : ∃ r s z, q = ix3 r s z := ⟨_, _, _, eq_ix3 q⟩
  obtain rfl : z = 0 := Subsingleton.elim _ _
  show IntOp.andi (IntOp.cmpi .sge (rPosN x (ix3 r s 0)) 0#32) (IntOp.cmpi .sle (rPosN x (ix3 r s 0)) 2499#32) = 1#1
  rw [rPosN_val]
  have h1 := nbR_le x r (s.val / 128)
  have h2 := nbR_le x r (s.val % 128)
  exact inside _ (by omega)

theorem rOut_val (a : Fin 256) (b : Fin 8) (t u : Fin 128) : rOut x (ix4 a b t u) = fieldOf (rowOf x a b) t.val u.val := by
  pointwise [rOut]
  rw [rIn_val]
  show rGot x (ix2 _ _) = _
  unfold rGot
  have ht : (t.val * 128 + u.val) / 128 = t.val := by omega
  have hu : (t.val * 128 + u.val) % 128 = u.val := by omega
  have n1 := nbin_le (rowOf x a b) t.val
  have n2 := nbin_le (rowOf x a b) u.val
  rw [gather_val _ _ _ _ (50 * nbin (rowOf x a b) t.val + nbin (rowOf x a b) u.val) (by omega) (by
    rw [rPosN_val]
    unfold nbR
    simp only [ht, hu, rowOf_eq])]
  pointwise
  refine (congrArg₂ (fun p q => rQ x (ix4 a b p q)) (Fin.ext ?_) (Fin.ext ?_)).trans (rQ_val x a b ⟨nbin (rowOf x a b) t.val, by omega⟩ ⟨nbin (rowOf x a b) u.val, by omega⟩)
  · show (50 * nbin (rowOf x a b) t.val + nbin (rowOf x a b) u.val) / 50 = nbin (rowOf x a b) t.val
    omega
  · show (50 * nbin (rowOf x a b) t.val + nbin (rowOf x a b) u.val) % 50 = nbin (rowOf x a b) u.val
    omega

end Cert.Proof.SC
-- ==== Proof.Algebraic.lean ====
/-
  The kernel over the extended reals and the reference leave the same result.
-/
module

public import proofs.«01_k».proof.Proof.RefVal
public import proofs.«01_k».proof.Defs

@[expose] public section

noncomputable section

namespace Cert.Proof.SC

open Idealize.ShloMosaic Idealize.SL.Sem

/-- Both sides hold the field of every row. -/
theorem values (x : FVec Ideal Cert.KernelIdeal.S256x8x128 .f32) : rOut x = resOf x := by
  funext y
  obtain ⟨a, b, t, u, rfl⟩ : ∃ a b t u, y = ix4 a b t u := ⟨_, _, _, _, eq_ix4 y⟩
  refine (rOut_val x a b t u).trans (Eq.trans ?_ (resOf_val x a b t u).symm)
  exact congrArg (fun f => fieldOf f t.val u.val) (funext fun k => (Xof_val x a b k).symm)

theorem algebraic : Cert.algebraic_KernelIdeal_ReferenceIdeal := by
  intro m g m' g' _ hm
  refine ⟨fun c => resOf (argOf m c), ?_, ?_⟩
  · refine (θ_run _ _ _).mono (fun r h c => ?_) (run_main m g)
    exact ⟨(h.1 c).2, (h.1 c).1⟩
  · refine (θ_run _ _ _).mono (fun r h c => ?_) (Cert.ReferenceIdeal.Value.run (F := Ideal) m' g')
    refine ⟨(h c).1.trans ?_, (h c).2⟩
    rw [ref_out, hm c]
    exact values _

end Cert.Proof.SC
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  SC.frame_kernel, SC.frame_ideal, SC.frame_reference, trivial, SC.algebraic⟩

end Cert.Proof

end
